-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 128]⟩ ⟨2, ![128, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S8x128 : Shape := ⟨2, ![8, 128]⟩
abbrev S2x2x3x4x32x128 : Shape := ⟨6, ![2, 2, 3, 4, 32, 128]⟩
abbrev S15x8x128 : Shape := ⟨3, ![15, 8, 128]⟩
abbrev S2x2x3x4 : Shape := ⟨4, ![2, 2, 3, 4]⟩
abbrev S15 : Shape := ⟨1, ![15]⟩
abbrev S_ : Shape := ⟨0, ![]⟩
abbrev S32x128 : Shape := ⟨2, ![32, 128]⟩
abbrev S32x256 : Shape := ⟨2, ![32, 256]⟩
abbrev S1x1x1x1 : Shape := ⟨4, ![1, 1, 1, 1]⟩
abbrev S1x1x1x1x32x128 : Shape := ⟨6, ![1, 1, 1, 1, 32, 128]⟩
abbrev S1 : Shape := ⟨1, ![1]⟩
abbrev S1x8x128 : Shape := ⟨3, ![1, 8, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S8x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S8x128, .f32⟩
  | .local _ .vmem, ⟨8, _⟩ => ⟨S128x128, .f32⟩
  | .local _ .vmem, ⟨9, _⟩ => ⟨S2x2x3x4x32x128, .f32⟩
  | .local _ .vmem, ⟨10, _⟩ => ⟨S15x8x128, .f32⟩
  | _, _ => ⟨S128x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v32 : BitVec 32 := Scalar.addi v12 c1_i32_11
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let v43 : BitVec 32 := Scalar.addi v30 v42
  let c1_i32_27 : BitVec 32 := 1#32
  let v57 : BitVec 32 := Scalar.muli v43 c1_i32_27
  let v58 : BitVec 32 := Scalar.addi c0_i32_28 v57
  v58.toNat
def k0_dev2 (d0 : Dev nD) : Nat :=
  let c0_i32_31 : BitVec 32 := 0#32
  let c4_i32_25 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_18 : BitVec 32 := 1#32
  let v44 : BitVec 32 := Scalar.addi v29 c1_i32_18
  let c4_i32_19 : BitVec 32 := 4#32
  let c0_i32_20 : BitVec 32 := 0#32
  let v45 : BitVec 1 := Scalar.cmpi .eq c4_i32_19 c0_i32_20
  let c1_i32_21 : BitVec 32 := 1#32
  let v46 : BitVec 32 := Scalar.select v45 c1_i32_21 c4_i32_19
  let v47 : BitVec 32 := Scalar.remsi v44 v46
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let c0_i32_22 : BitVec 32 := 0#32
  let v48 : BitVec 1 := Scalar.cmpi .ne v47 c0_i32_22
  let v52 : BitVec 1 := Scalar.andi v51 v48
  let v53 : BitVec 32 := Scalar.addi v47 v46
  let v54 : BitVec 32 := Scalar.select v52 v53 v47
  let v55 : BitVec 32 := Scalar.muli c4_i32_25 v54
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v56 : BitVec 32 := Scalar.addi v55 v12
  let c1_i32_30 : BitVec 32 := 1#32
  let v59 : BitVec 32 := Scalar.muli v56 c1_i32_30
  let v60 : BitVec 32 := Scalar.addi c0_i32_31 v59
  v60.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32 : BitVec 32 := 2#32
  let v61 : BitVec 32 := Scalar.addi v12 c2_i32
  let c4_i32_32 : BitVec 32 := 4#32
  let c0_i32_33 : BitVec 32 := 0#32
  let v62 : BitVec 1 := Scalar.cmpi .eq c4_i32_32 c0_i32_33
  let c1_i32_34 : BitVec 32 := 1#32
  let v63 : BitVec 32 := Scalar.select v62 c1_i32_34 c4_i32_32
  let v64 : BitVec 32 := Scalar.remsi v61 v63
  let c0_i32_36 : BitVec 32 := 0#32
  let v66 : BitVec 1 := Scalar.cmpi .slt v64 c0_i32_36
  let c0_i32_37 : BitVec 32 := 0#32
  let v67 : BitVec 1 := Scalar.cmpi .slt v63 c0_i32_37
  let v68 : BitVec 1 := Scalar.xori v66 v67
  let c0_i32_35 : BitVec 32 := 0#32
  let v65 : BitVec 1 := Scalar.cmpi .ne v64 c0_i32_35
  let v69 : BitVec 1 := Scalar.andi v68 v65
  let v70 : BitVec 32 := Scalar.addi v64 v63
  let v71 : BitVec 32 := Scalar.select v69 v70 v64
  let v72 : BitVec 32 := Scalar.addi v30 v71
  let c1_i32_47 : BitVec 32 := 1#32
  let v86 : BitVec 32 := Scalar.muli v72 c1_i32_47
  let v87 : BitVec 32 := Scalar.addi c0_i32_48 v86
  v87.toNat
def k0_dev4 (d0 : Dev nD) : Nat :=
  let c0_i32_51 : BitVec 32 := 0#32
  let c4_i32_45 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_38 : BitVec 32 := 2#32
  let v73 : BitVec 32 := Scalar.addi v29 c2_i32_38
  let c4_i32_39 : BitVec 32 := 4#32
  let c0_i32_40 : BitVec 32 := 0#32
  let v74 : BitVec 1 := Scalar.cmpi .eq c4_i32_39 c0_i32_40
  let c1_i32_41 : BitVec 32 := 1#32
  let v75 : BitVec 32 := Scalar.select v74 c1_i32_41 c4_i32_39
  let v76 : BitVec 32 := Scalar.remsi v73 v75
  let c0_i32_43 : BitVec 32 := 0#32
  let v78 : BitVec 1 := Scalar.cmpi .slt v76 c0_i32_43
  let c0_i32_44 : BitVec 32 := 0#32
  let v79 : BitVec 1 := Scalar.cmpi .slt v75 c0_i32_44
  let v80 : BitVec 1 := Scalar.xori v78 v79
  let c0_i32_42 : BitVec 32 := 0#32
  let v77 : BitVec 1 := Scalar.cmpi .ne v76 c0_i32_42
  let v81 : BitVec 1 := Scalar.andi v80 v77
  let v82 : BitVec 32 := Scalar.addi v76 v75
  let v83 : BitVec 32 := Scalar.select v81 v82 v76
  let v84 : BitVec 32 := Scalar.muli c4_i32_45 v83
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v85 : BitVec 32 := Scalar.addi v84 v12
  let c1_i32_50 : BitVec 32 := 1#32
  let v88 : BitVec 32 := Scalar.muli v85 c1_i32_50
  let v89 : BitVec 32 := Scalar.addi c0_i32_51 v88
  v89.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32 : BitVec 32 := 3#32
  let v90 : BitVec 32 := Scalar.addi v12 c3_i32
  let c4_i32_52 : BitVec 32 := 4#32
  let c0_i32_53 : BitVec 32 := 0#32
  let v91 : BitVec 1 := Scalar.cmpi .eq c4_i32_52 c0_i32_53
  let c1_i32_54 : BitVec 32 := 1#32
  let v92 : BitVec 32 := Scalar.select v91 c1_i32_54 c4_i32_52
  let v93 : BitVec 32 := Scalar.remsi v90 v92
  let c0_i32_56 : BitVec 32 := 0#32
  let v95 : BitVec 1 := Scalar.cmpi .slt v93 c0_i32_56
  let c0_i32_57 : BitVec 32 := 0#32
  let v96 : BitVec 1 := Scalar.cmpi .slt v92 c0_i32_57
  let v97 : BitVec 1 := Scalar.xori v95 v96
  let c0_i32_55 : BitVec 32 := 0#32
  let v94 : BitVec 1 := Scalar.cmpi .ne v93 c0_i32_55
  let v98 : BitVec 1 := Scalar.andi v97 v94
  let v99 : BitVec 32 := Scalar.addi v93 v92
  let v100 : BitVec 32 := Scalar.select v98 v99 v93
  let v101 : BitVec 32 := Scalar.addi v30 v100
  let c1_i32_67 : BitVec 32 := 1#32
  let v115 : BitVec 32 := Scalar.muli v101 c1_i32_67
  let v116 : BitVec 32 := Scalar.addi c0_i32_68 v115
  v116.toNat
def k0_dev6 (d0 : Dev nD) : Nat :=
  let c0_i32_71 : BitVec 32 := 0#32
  let c4_i32_65 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_58 : BitVec 32 := 3#32
  let v102 : BitVec 32 := Scalar.addi v29 c3_i32_58
  let c4_i32_59 : BitVec 32 := 4#32
  let c0_i32_60 : BitVec 32 := 0#32
  let v103 : BitVec 1 := Scalar.cmpi .eq c4_i32_59 c0_i32_60
  let c1_i32_61 : BitVec 32 := 1#32
  let v104 : BitVec 32 := Scalar.select v103 c1_i32_61 c4_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let v113 : BitVec 32 := Scalar.muli c4_i32_65 v112
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v114 : BitVec 32 := Scalar.addi v113 v12
  let c1_i32_70 : BitVec 32 := 1#32
  let v117 : BitVec 32 := Scalar.muli v114 c1_i32_70
  let v118 : BitVec 32 := Scalar.addi c0_i32_71 v117
  v118.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_81 : BitVec 32 := 1#32
  let v132 : BitVec 32 := Scalar.addi v12 c1_i32_81
  let c4_i32_82 : BitVec 32 := 4#32
  let c0_i32_83 : BitVec 32 := 0#32
  let v133 : BitVec 1 := Scalar.cmpi .eq c4_i32_82 c0_i32_83
  let c1_i32_84 : BitVec 32 := 1#32
  let v134 : BitVec 32 := Scalar.select v133 c1_i32_84 c4_i32_82
  let v135 : BitVec 32 := Scalar.remsi v132 v134
  let c0_i32_86 : BitVec 32 := 0#32
  let v137 : BitVec 1 := Scalar.cmpi .slt v135 c0_i32_86
  let c0_i32_87 : BitVec 32 := 0#32
  let v138 : BitVec 1 := Scalar.cmpi .slt v134 c0_i32_87
  let v139 : BitVec 1 := Scalar.xori v137 v138
  let c0_i32_85 : BitVec 32 := 0#32
  let v136 : BitVec 1 := Scalar.cmpi .ne v135 c0_i32_85
  let v140 : BitVec 1 := Scalar.andi v139 v136
  let v141 : BitVec 32 := Scalar.addi v135 v134
  let v142 : BitVec 32 := Scalar.select v140 v141 v135
  let v143 : BitVec 32 := Scalar.addi v30 v142
  let c1_i32_100 : BitVec 32 := 1#32
  let v144 : BitVec 32 := Scalar.muli v143 c1_i32_100
  let v145 : BitVec 32 := Scalar.addi c0_i32_101 v144
  v145.toNat
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_106 : BitVec 32 := 2#32
  let v153 : BitVec 32 := Scalar.addi v12 c2_i32_106
  let c4_i32_107 : BitVec 32 := 4#32
  let c0_i32_108 : BitVec 32 := 0#32
  let v154 : BitVec 1 := Scalar.cmpi .eq c4_i32_107 c0_i32_108
  let c1_i32_109 : BitVec 32 := 1#32
  let v155 : BitVec 32 := Scalar.select v154 c1_i32_109 c4_i32_107
  let v156 : BitVec 32 := Scalar.remsi v153 v155
  let c0_i32_111 : BitVec 32 := 0#32
  let v158 : BitVec 1 := Scalar.cmpi .slt v156 c0_i32_111
  let c0_i32_112 : BitVec 32 := 0#32
  let v159 : BitVec 1 := Scalar.cmpi .slt v155 c0_i32_112
  let v160 : BitVec 1 := Scalar.xori v158 v159
  let c0_i32_110 : BitVec 32 := 0#32
  let v157 : BitVec 1 := Scalar.cmpi .ne v156 c0_i32_110
  let v161 : BitVec 1 := Scalar.andi v160 v157
  let v162 : BitVec 32 := Scalar.addi v156 v155
  let v163 : BitVec 32 := Scalar.select v161 v162 v156
  let v164 : BitVec 32 := Scalar.addi v30 v163
  let c1_i32_125 : BitVec 32 := 1#32
  let v165 : BitVec 32 := Scalar.muli v164 c1_i32_125
  let v166 : BitVec 32 := Scalar.addi c0_i32_126 v165
  v166.toNat
def k0_dev9 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_131 : BitVec 32 := 3#32
  let v174 : BitVec 32 := Scalar.addi v12 c3_i32_131
  let c4_i32_132 : BitVec 32 := 4#32
  let c0_i32_133 : BitVec 32 := 0#32
  let v175 : BitVec 1 := Scalar.cmpi .eq c4_i32_132 c0_i32_133
  let c1_i32_134 : BitVec 32 := 1#32
  let v176 : BitVec 32 := Scalar.select v175 c1_i32_134 c4_i32_132
  let v177 : BitVec 32 := Scalar.remsi v174 v176
  let c0_i32_136 : BitVec 32 := 0#32
  let v179 : BitVec 1 := Scalar.cmpi .slt v177 c0_i32_136
  let c0_i32_137 : BitVec 32 := 0#32
  let v180 : BitVec 1 := Scalar.cmpi .slt v176 c0_i32_137
  let v181 : BitVec 1 := Scalar.xori v179 v180
  let c0_i32_135 : BitVec 32 := 0#32
  let v178 : BitVec 1 := Scalar.cmpi .ne v177 c0_i32_135
  let v182 : BitVec 1 := Scalar.andi v181 v178
  let v183 : BitVec 32 := Scalar.addi v177 v176
  let v184 : BitVec 32 := Scalar.select v182 v183 v177
  let v185 : BitVec 32 := Scalar.addi v30 v184
  let c1_i32_150 : BitVec 32 := 1#32
  let v186 : BitVec 32 := Scalar.muli v185 c1_i32_150
  let v187 : BitVec 32 := Scalar.addi c0_i32_151 v186
  v187.toNat
def k0_dev10 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_166 : BitVec 32 := 1#32
  let v208 : BitVec 32 := Scalar.addi v12 c1_i32_166
  let c4_i32_167 : BitVec 32 := 4#32
  let c0_i32_168 : BitVec 32 := 0#32
  let v209 : BitVec 1 := Scalar.cmpi .eq c4_i32_167 c0_i32_168
  let c1_i32_169 : BitVec 32 := 1#32
  let v210 : BitVec 32 := Scalar.select v209 c1_i32_169 c4_i32_167
  let v211 : BitVec 32 := Scalar.remsi v208 v210
  let c0_i32_171 : BitVec 32 := 0#32
  let v213 : BitVec 1 := Scalar.cmpi .slt v211 c0_i32_171
  let c0_i32_172 : BitVec 32 := 0#32
  let v214 : BitVec 1 := Scalar.cmpi .slt v210 c0_i32_172
  let v215 : BitVec 1 := Scalar.xori v213 v214
  let c0_i32_170 : BitVec 32 := 0#32
  let v212 : BitVec 1 := Scalar.cmpi .ne v211 c0_i32_170
  let v216 : BitVec 1 := Scalar.andi v215 v212
  let v217 : BitVec 32 := Scalar.addi v211 v210
  let v218 : BitVec 32 := Scalar.select v216 v217 v211
  let v219 : BitVec 32 := Scalar.addi v30 v218
  let c1_i32_185 : BitVec 32 := 1#32
  let v220 : BitVec 32 := Scalar.muli v219 c1_i32_185
  let v221 : BitVec 32 := Scalar.addi c0_i32_186 v220
  v221.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_190 : BitVec 32 := 2#32
  let v229 : BitVec 32 := Scalar.addi v12 c2_i32_190
  let c4_i32_191 : BitVec 32 := 4#32
  let c0_i32_192 : BitVec 32 := 0#32
  let v230 : BitVec 1 := Scalar.cmpi .eq c4_i32_191 c0_i32_192
  let c1_i32_193 : BitVec 32 := 1#32
  let v231 : BitVec 32 := Scalar.select v230 c1_i32_193 c4_i32_191
  let v232 : BitVec 32 := Scalar.remsi v229 v231
  let c0_i32_195 : BitVec 32 := 0#32
  let v234 : BitVec 1 := Scalar.cmpi .slt v232 c0_i32_195
  let c0_i32_196 : BitVec 32 := 0#32
  let v235 : BitVec 1 := Scalar.cmpi .slt v231 c0_i32_196
  let v236 : BitVec 1 := Scalar.xori v234 v235
  let c0_i32_194 : BitVec 32 := 0#32
  let v233 : BitVec 1 := Scalar.cmpi .ne v232 c0_i32_194
  let v237 : BitVec 1 := Scalar.andi v236 v233
  let v238 : BitVec 32 := Scalar.addi v232 v231
  let v239 : BitVec 32 := Scalar.select v237 v238 v232
  let v240 : BitVec 32 := Scalar.addi v30 v239
  let c1_i32_209 : BitVec 32 := 1#32
  let v241 : BitVec 32 := Scalar.muli v240 c1_i32_209
  let v242 : BitVec 32 := Scalar.addi c0_i32_210 v241
  v242.toNat
def k0_dev12 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_215 : BitVec 32 := 3#32
  let v250 : BitVec 32 := Scalar.addi v12 c3_i32_215
  let c4_i32_216 : BitVec 32 := 4#32
  let c0_i32_217 : BitVec 32 := 0#32
  let v251 : BitVec 1 := Scalar.cmpi .eq c4_i32_216 c0_i32_217
  let c1_i32_218 : BitVec 32 := 1#32
  let v252 : BitVec 32 := Scalar.select v251 c1_i32_218 c4_i32_216
  let v253 : BitVec 32 := Scalar.remsi v250 v252
  let c0_i32_220 : BitVec 32 := 0#32
  let v255 : BitVec 1 := Scalar.cmpi .slt v253 c0_i32_220
  let c0_i32_221 : BitVec 32 := 0#32
  let v256 : BitVec 1 := Scalar.cmpi .slt v252 c0_i32_221
  let v257 : BitVec 1 := Scalar.xori v255 v256
  let c0_i32_219 : BitVec 32 := 0#32
  let v254 : BitVec 1 := Scalar.cmpi .ne v253 c0_i32_219
  let v258 : BitVec 1 := Scalar.andi v257 v254
  let v259 : BitVec 32 := Scalar.addi v253 v252
  let v260 : BitVec 32 := Scalar.select v258 v259 v253
  let v261 : BitVec 32 := Scalar.addi v30 v260
  let c1_i32_234 : BitVec 32 := 1#32
  let v262 : BitVec 32 := Scalar.muli v261 c1_i32_234
  let v263 : BitVec 32 := Scalar.addi c0_i32_235 v262
  v263.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_250 : BitVec 32 := 1#32
  let v284 : BitVec 32 := Scalar.addi v12 c1_i32_250
  let c4_i32_251 : BitVec 32 := 4#32
  let c0_i32_252 : BitVec 32 := 0#32
  let v285 : BitVec 1 := Scalar.cmpi .eq c4_i32_251 c0_i32_252
  let c1_i32_253 : BitVec 32 := 1#32
  let v286 : BitVec 32 := Scalar.select v285 c1_i32_253 c4_i32_251
  let v287 : BitVec 32 := Scalar.remsi v284 v286
  let c0_i32_255 : BitVec 32 := 0#32
  let v289 : BitVec 1 := Scalar.cmpi .slt v287 c0_i32_255
  let c0_i32_256 : BitVec 32 := 0#32
  let v290 : BitVec 1 := Scalar.cmpi .slt v286 c0_i32_256
  let v291 : BitVec 1 := Scalar.xori v289 v290
  let c0_i32_254 : BitVec 32 := 0#32
  let v288 : BitVec 1 := Scalar.cmpi .ne v287 c0_i32_254
  let v292 : BitVec 1 := Scalar.andi v291 v288
  let v293 : BitVec 32 := Scalar.addi v287 v286
  let v294 : BitVec 32 := Scalar.select v292 v293 v287
  let v295 : BitVec 32 := Scalar.addi v30 v294
  let c1_i32_269 : BitVec 32 := 1#32
  let v296 : BitVec 32 := Scalar.muli v295 c1_i32_269
  let v297 : BitVec 32 := Scalar.addi c0_i32_270 v296
  v297.toNat
def k0_dev14 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_274 : BitVec 32 := 2#32
  let v305 : BitVec 32 := Scalar.addi v12 c2_i32_274
  let c4_i32_275 : BitVec 32 := 4#32
  let c0_i32_276 : BitVec 32 := 0#32
  let v306 : BitVec 1 := Scalar.cmpi .eq c4_i32_275 c0_i32_276
  let c1_i32_277 : BitVec 32 := 1#32
  let v307 : BitVec 32 := Scalar.select v306 c1_i32_277 c4_i32_275
  let v308 : BitVec 32 := Scalar.remsi v305 v307
  let c0_i32_279 : BitVec 32 := 0#32
  let v310 : BitVec 1 := Scalar.cmpi .slt v308 c0_i32_279
  let c0_i32_280 : BitVec 32 := 0#32
  let v311 : BitVec 1 := Scalar.cmpi .slt v307 c0_i32_280
  let v312 : BitVec 1 := Scalar.xori v310 v311
  let c0_i32_278 : BitVec 32 := 0#32
  let v309 : BitVec 1 := Scalar.cmpi .ne v308 c0_i32_278
  let v313 : BitVec 1 := Scalar.andi v312 v309
  let v314 : BitVec 32 := Scalar.addi v308 v307
  let v315 : BitVec 32 := Scalar.select v313 v314 v308
  let v316 : BitVec 32 := Scalar.addi v30 v315
  let c1_i32_293 : BitVec 32 := 1#32
  let v317 : BitVec 32 := Scalar.muli v316 c1_i32_293
  let v318 : BitVec 32 := Scalar.addi c0_i32_294 v317
  v318.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_299 : BitVec 32 := 3#32
  let v326 : BitVec 32 := Scalar.addi v12 c3_i32_299
  let c4_i32_300 : BitVec 32 := 4#32
  let c0_i32_301 : BitVec 32 := 0#32
  let v327 : BitVec 1 := Scalar.cmpi .eq c4_i32_300 c0_i32_301
  let c1_i32_302 : BitVec 32 := 1#32
  let v328 : BitVec 32 := Scalar.select v327 c1_i32_302 c4_i32_300
  let v329 : BitVec 32 := Scalar.remsi v326 v328
  let c0_i32_304 : BitVec 32 := 0#32
  let v331 : BitVec 1 := Scalar.cmpi .slt v329 c0_i32_304
  let c0_i32_305 : BitVec 32 := 0#32
  let v332 : BitVec 1 := Scalar.cmpi .slt v328 c0_i32_305
  let v333 : BitVec 1 := Scalar.xori v331 v332
  let c0_i32_303 : BitVec 32 := 0#32
  let v330 : BitVec 1 := Scalar.cmpi .ne v329 c0_i32_303
  let v334 : BitVec 1 := Scalar.andi v333 v330
  let v335 : BitVec 32 := Scalar.addi v329 v328
  let v336 : BitVec 32 := Scalar.select v334 v335 v329
  let v337 : BitVec 32 := Scalar.addi v30 v336
  let c1_i32_318 : BitVec 32 := 1#32
  let v338 : BitVec 32 := Scalar.muli v337 c1_i32_318
  let v339 : BitVec 32 := Scalar.addi c0_i32_319 v338
  v339.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_334 : BitVec 32 := 1#32
  let v360 : BitVec 32 := Scalar.addi v12 c1_i32_334
  let c4_i32_335 : BitVec 32 := 4#32
  let c0_i32_336 : BitVec 32 := 0#32
  let v361 : BitVec 1 := Scalar.cmpi .eq c4_i32_335 c0_i32_336
  let c1_i32_337 : BitVec 32 := 1#32
  let v362 : BitVec 32 := Scalar.select v361 c1_i32_337 c4_i32_335
  let v363 : BitVec 32 := Scalar.remsi v360 v362
  let c0_i32_339 : BitVec 32 := 0#32
  let v365 : BitVec 1 := Scalar.cmpi .slt v363 c0_i32_339
  let c0_i32_340 : BitVec 32 := 0#32
  let v366 : BitVec 1 := Scalar.cmpi .slt v362 c0_i32_340
  let v367 : BitVec 1 := Scalar.xori v365 v366
  let c0_i32_338 : BitVec 32 := 0#32
  let v364 : BitVec 1 := Scalar.cmpi .ne v363 c0_i32_338
  let v368 : BitVec 1 := Scalar.andi v367 v364
  let v369 : BitVec 32 := Scalar.addi v363 v362
  let v370 : BitVec 32 := Scalar.select v368 v369 v363
  let v371 : BitVec 32 := Scalar.addi v30 v370
  let c1_i32_353 : BitVec 32 := 1#32
  let v372 : BitVec 32 := Scalar.muli v371 c1_i32_353
  let v373 : BitVec 32 := Scalar.addi c0_i32_354 v372
  v373.toNat
def k0_dev17 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_358 : BitVec 32 := 2#32
  let v381 : BitVec 32 := Scalar.addi v12 c2_i32_358
  let c4_i32_359 : BitVec 32 := 4#32
  let c0_i32_360 : BitVec 32 := 0#32
  let v382 : BitVec 1 := Scalar.cmpi .eq c4_i32_359 c0_i32_360
  let c1_i32_361 : BitVec 32 := 1#32
  let v383 : BitVec 32 := Scalar.select v382 c1_i32_361 c4_i32_359
  let v384 : BitVec 32 := Scalar.remsi v381 v383
  let c0_i32_363 : BitVec 32 := 0#32
  let v386 : BitVec 1 := Scalar.cmpi .slt v384 c0_i32_363
  let c0_i32_364 : BitVec 32 := 0#32
  let v387 : BitVec 1 := Scalar.cmpi .slt v383 c0_i32_364
  let v388 : BitVec 1 := Scalar.xori v386 v387
  let c0_i32_362 : BitVec 32 := 0#32
  let v385 : BitVec 1 := Scalar.cmpi .ne v384 c0_i32_362
  let v389 : BitVec 1 := Scalar.andi v388 v385
  let v390 : BitVec 32 := Scalar.addi v384 v383
  let v391 : BitVec 32 := Scalar.select v389 v390 v384
  let v392 : BitVec 32 := Scalar.addi v30 v391
  let c1_i32_377 : BitVec 32 := 1#32
  let v393 : BitVec 32 := Scalar.muli v392 c1_i32_377
  let v394 : BitVec 32 := Scalar.addi c0_i32_378 v393
  v394.toNat
def k0_dev18 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_383 : BitVec 32 := 3#32
  let v402 : BitVec 32 := Scalar.addi v12 c3_i32_383
  let c4_i32_384 : BitVec 32 := 4#32
  let c0_i32_385 : BitVec 32 := 0#32
  let v403 : BitVec 1 := Scalar.cmpi .eq c4_i32_384 c0_i32_385
  let c1_i32_386 : BitVec 32 := 1#32
  let v404 : BitVec 32 := Scalar.select v403 c1_i32_386 c4_i32_384
  let v405 : BitVec 32 := Scalar.remsi v402 v404
  let c0_i32_388 : BitVec 32 := 0#32
  let v407 : BitVec 1 := Scalar.cmpi .slt v405 c0_i32_388
  let c0_i32_389 : BitVec 32 := 0#32
  let v408 : BitVec 1 := Scalar.cmpi .slt v404 c0_i32_389
  let v409 : BitVec 1 := Scalar.xori v407 v408
  let c0_i32_387 : BitVec 32 := 0#32
  let v406 : BitVec 1 := Scalar.cmpi .ne v405 c0_i32_387
  let v410 : BitVec 1 := Scalar.andi v409 v406
  let v411 : BitVec 32 := Scalar.addi v405 v404
  let v412 : BitVec 32 := Scalar.select v410 v411 v405
  let v413 : BitVec 32 := Scalar.addi v30 v412
  let c1_i32_402 : BitVec 32 := 1#32
  let v414 : BitVec 32 := Scalar.muli v413 c1_i32_402
  let v415 : BitVec 32 := Scalar.addi c0_i32_403 v414
  v415.toNat
def k0_dev19 (d0 : Dev nD) : Nat :=
  let c0_i32_554 : BitVec 32 := 0#32
  let c4_i32_540 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_533 : BitVec 32 := 1#32
  let v472 : BitVec 32 := Scalar.addi v29 c1_i32_533
  let c4_i32_534 : BitVec 32 := 4#32
  let c0_i32_535 : BitVec 32 := 0#32
  let v473 : BitVec 1 := Scalar.cmpi .eq c4_i32_534 c0_i32_535
  let c1_i32_536 : BitVec 32 := 1#32
  let v474 : BitVec 32 := Scalar.select v473 c1_i32_536 c4_i32_534
  let v475 : BitVec 32 := Scalar.remsi v472 v474
  let c0_i32_538 : BitVec 32 := 0#32
  let v477 : BitVec 1 := Scalar.cmpi .slt v475 c0_i32_538
  let c0_i32_539 : BitVec 32 := 0#32
  let v478 : BitVec 1 := Scalar.cmpi .slt v474 c0_i32_539
  let v479 : BitVec 1 := Scalar.xori v477 v478
  let c0_i32_537 : BitVec 32 := 0#32
  let v476 : BitVec 1 := Scalar.cmpi .ne v475 c0_i32_537
  let v480 : BitVec 1 := Scalar.andi v479 v476
  let v481 : BitVec 32 := Scalar.addi v475 v474
  let v482 : BitVec 32 := Scalar.select v480 v481 v475
  let v483 : BitVec 32 := Scalar.muli c4_i32_540 v482
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v484 : BitVec 32 := Scalar.addi v483 v12
  let c1_i32_553 : BitVec 32 := 1#32
  let v485 : BitVec 32 := Scalar.muli v484 c1_i32_553
  let v486 : BitVec 32 := Scalar.addi c0_i32_554 v485
  v486.toNat
def k0_dev20 (d0 : Dev nD) : Nat :=
  let c0_i32_580 : BitVec 32 := 0#32
  let c4_i32_566 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_559 : BitVec 32 := 2#32
  let v494 : BitVec 32 := Scalar.addi v29 c2_i32_559
  let c4_i32_560 : BitVec 32 := 4#32
  let c0_i32_561 : BitVec 32 := 0#32
  let v495 : BitVec 1 := Scalar.cmpi .eq c4_i32_560 c0_i32_561
  let c1_i32_562 : BitVec 32 := 1#32
  let v496 : BitVec 32 := Scalar.select v495 c1_i32_562 c4_i32_560
  let v497 : BitVec 32 := Scalar.remsi v494 v496
  let c0_i32_564 : BitVec 32 := 0#32
  let v499 : BitVec 1 := Scalar.cmpi .slt v497 c0_i32_564
  let c0_i32_565 : BitVec 32 := 0#32
  let v500 : BitVec 1 := Scalar.cmpi .slt v496 c0_i32_565
  let v501 : BitVec 1 := Scalar.xori v499 v500
  let c0_i32_563 : BitVec 32 := 0#32
  let v498 : BitVec 1 := Scalar.cmpi .ne v497 c0_i32_563
  let v502 : BitVec 1 := Scalar.andi v501 v498
  let v503 : BitVec 32 := Scalar.addi v497 v496
  let v504 : BitVec 32 := Scalar.select v502 v503 v497
  let v505 : BitVec 32 := Scalar.muli c4_i32_566 v504
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v506 : BitVec 32 := Scalar.addi v505 v12
  let c1_i32_579 : BitVec 32 := 1#32
  let v507 : BitVec 32 := Scalar.muli v506 c1_i32_579
  let v508 : BitVec 32 := Scalar.addi c0_i32_580 v507
  v508.toNat
def k0_dev21 (d0 : Dev nD) : Nat :=
  let c0_i32_606 : BitVec 32 := 0#32
  let c4_i32_592 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_585 : BitVec 32 := 3#32
  let v516 : BitVec 32 := Scalar.addi v29 c3_i32_585
  let c4_i32_586 : BitVec 32 := 4#32
  let c0_i32_587 : BitVec 32 := 0#32
  let v517 : BitVec 1 := Scalar.cmpi .eq c4_i32_586 c0_i32_587
  let c1_i32_588 : BitVec 32 := 1#32
  let v518 : BitVec 32 := Scalar.select v517 c1_i32_588 c4_i32_586
  let v519 : BitVec 32 := Scalar.remsi v516 v518
  let c0_i32_590 : BitVec 32 := 0#32
  let v521 : BitVec 1 := Scalar.cmpi .slt v519 c0_i32_590
  let c0_i32_591 : BitVec 32 := 0#32
  let v522 : BitVec 1 := Scalar.cmpi .slt v518 c0_i32_591
  let v523 : BitVec 1 := Scalar.xori v521 v522
  let c0_i32_589 : BitVec 32 := 0#32
  let v520 : BitVec 1 := Scalar.cmpi .ne v519 c0_i32_589
  let v524 : BitVec 1 := Scalar.andi v523 v520
  let v525 : BitVec 32 := Scalar.addi v519 v518
  let v526 : BitVec 32 := Scalar.select v524 v525 v519
  let v527 : BitVec 32 := Scalar.muli c4_i32_592 v526
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v528 : BitVec 32 := Scalar.addi v527 v12
  let c1_i32_605 : BitVec 32 := 1#32
  let v529 : BitVec 32 := Scalar.muli v528 c1_i32_605
  let v530 : BitVec 32 := Scalar.addi c0_i32_606 v529
  v530.toNat
def k0_dev22 (d0 : Dev nD) : Nat :=
  let c0_i32_759 : BitVec 32 := 0#32
  let c4_i32_745 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_738 : BitVec 32 := 1#32
  let v587 : BitVec 32 := Scalar.addi v29 c1_i32_738
  let c4_i32_739 : BitVec 32 := 4#32
  let c0_i32_740 : BitVec 32 := 0#32
  let v588 : BitVec 1 := Scalar.cmpi .eq c4_i32_739 c0_i32_740
  let c1_i32_741 : BitVec 32 := 1#32
  let v589 : BitVec 32 := Scalar.select v588 c1_i32_741 c4_i32_739
  let v590 : BitVec 32 := Scalar.remsi v587 v589
  let c0_i32_743 : BitVec 32 := 0#32
  let v592 : BitVec 1 := Scalar.cmpi .slt v590 c0_i32_743
  let c0_i32_744 : BitVec 32 := 0#32
  let v593 : BitVec 1 := Scalar.cmpi .slt v589 c0_i32_744
  let v594 : BitVec 1 := Scalar.xori v592 v593
  let c0_i32_742 : BitVec 32 := 0#32
  let v591 : BitVec 1 := Scalar.cmpi .ne v590 c0_i32_742
  let v595 : BitVec 1 := Scalar.andi v594 v591
  let v596 : BitVec 32 := Scalar.addi v590 v589
  let v597 : BitVec 32 := Scalar.select v595 v596 v590
  let v598 : BitVec 32 := Scalar.muli c4_i32_745 v597
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v599 : BitVec 32 := Scalar.addi v598 v12
  let c1_i32_758 : BitVec 32 := 1#32
  let v600 : BitVec 32 := Scalar.muli v599 c1_i32_758
  let v601 : BitVec 32 := Scalar.addi c0_i32_759 v600
  v601.toNat
def k0_dev23 (d0 : Dev nD) : Nat :=
  let c0_i32_785 : BitVec 32 := 0#32
  let c4_i32_771 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_764 : BitVec 32 := 2#32
  let v609 : BitVec 32 := Scalar.addi v29 c2_i32_764
  let c4_i32_765 : BitVec 32 := 4#32
  let c0_i32_766 : BitVec 32 := 0#32
  let v610 : BitVec 1 := Scalar.cmpi .eq c4_i32_765 c0_i32_766
  let c1_i32_767 : BitVec 32 := 1#32
  let v611 : BitVec 32 := Scalar.select v610 c1_i32_767 c4_i32_765
  let v612 : BitVec 32 := Scalar.remsi v609 v611
  let c0_i32_769 : BitVec 32 := 0#32
  let v614 : BitVec 1 := Scalar.cmpi .slt v612 c0_i32_769
  let c0_i32_770 : BitVec 32 := 0#32
  let v615 : BitVec 1 := Scalar.cmpi .slt v611 c0_i32_770
  let v616 : BitVec 1 := Scalar.xori v614 v615
  let c0_i32_768 : BitVec 32 := 0#32
  let v613 : BitVec 1 := Scalar.cmpi .ne v612 c0_i32_768
  let v617 : BitVec 1 := Scalar.andi v616 v613
  let v618 : BitVec 32 := Scalar.addi v612 v611
  let v619 : BitVec 32 := Scalar.select v617 v618 v612
  let v620 : BitVec 32 := Scalar.muli c4_i32_771 v619
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v621 : BitVec 32 := Scalar.addi v620 v12
  let c1_i32_784 : BitVec 32 := 1#32
  let v622 : BitVec 32 := Scalar.muli v621 c1_i32_784
  let v623 : BitVec 32 := Scalar.addi c0_i32_785 v622
  v623.toNat
def k0_dev24 (d0 : Dev nD) : Nat :=
  let c0_i32_811 : BitVec 32 := 0#32
  let c4_i32_797 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_790 : BitVec 32 := 3#32
  let v631 : BitVec 32 := Scalar.addi v29 c3_i32_790
  let c4_i32_791 : BitVec 32 := 4#32
  let c0_i32_792 : BitVec 32 := 0#32
  let v632 : BitVec 1 := Scalar.cmpi .eq c4_i32_791 c0_i32_792
  let c1_i32_793 : BitVec 32 := 1#32
  let v633 : BitVec 32 := Scalar.select v632 c1_i32_793 c4_i32_791
  let v634 : BitVec 32 := Scalar.remsi v631 v633
  let c0_i32_795 : BitVec 32 := 0#32
  let v636 : BitVec 1 := Scalar.cmpi .slt v634 c0_i32_795
  let c0_i32_796 : BitVec 32 := 0#32
  let v637 : BitVec 1 := Scalar.cmpi .slt v633 c0_i32_796
  let v638 : BitVec 1 := Scalar.xori v636 v637
  let c0_i32_794 : BitVec 32 := 0#32
  let v635 : BitVec 1 := Scalar.cmpi .ne v634 c0_i32_794
  let v639 : BitVec 1 := Scalar.andi v638 v635
  let v640 : BitVec 32 := Scalar.addi v634 v633
  let v641 : BitVec 32 := Scalar.select v639 v640 v634
  let v642 : BitVec 32 := Scalar.muli c4_i32_797 v641
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v643 : BitVec 32 := Scalar.addi v642 v12
  let c1_i32_810 : BitVec 32 := 1#32
  let v644 : BitVec 32 := Scalar.muli v643 c1_i32_810
  let v645 : BitVec 32 := Scalar.addi c0_i32_811 v644
  v645.toNat
def k0_dev25 (d0 : Dev nD) : Nat :=
  let c0_i32_964 : BitVec 32 := 0#32
  let c4_i32_950 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_943 : BitVec 32 := 1#32
  let v702 : BitVec 32 := Scalar.addi v29 c1_i32_943
  let c4_i32_944 : BitVec 32 := 4#32
  let c0_i32_945 : BitVec 32 := 0#32
  let v703 : BitVec 1 := Scalar.cmpi .eq c4_i32_944 c0_i32_945
  let c1_i32_946 : BitVec 32 := 1#32
  let v704 : BitVec 32 := Scalar.select v703 c1_i32_946 c4_i32_944
  let v705 : BitVec 32 := Scalar.remsi v702 v704
  let c0_i32_948 : BitVec 32 := 0#32
  let v707 : BitVec 1 := Scalar.cmpi .slt v705 c0_i32_948
  let c0_i32_949 : BitVec 32 := 0#32
  let v708 : BitVec 1 := Scalar.cmpi .slt v704 c0_i32_949
  let v709 : BitVec 1 := Scalar.xori v707 v708
  let c0_i32_947 : BitVec 32 := 0#32
  let v706 : BitVec 1 := Scalar.cmpi .ne v705 c0_i32_947
  let v710 : BitVec 1 := Scalar.andi v709 v706
  let v711 : BitVec 32 := Scalar.addi v705 v704
  let v712 : BitVec 32 := Scalar.select v710 v711 v705
  let v713 : BitVec 32 := Scalar.muli c4_i32_950 v712
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v714 : BitVec 32 := Scalar.addi v713 v12
  let c1_i32_963 : BitVec 32 := 1#32
  let v715 : BitVec 32 := Scalar.muli v714 c1_i32_963
  let v716 : BitVec 32 := Scalar.addi c0_i32_964 v715
  v716.toNat
def k0_dev26 (d0 : Dev nD) : Nat :=
  let c0_i32_990 : BitVec 32 := 0#32
  let c4_i32_976 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_969 : BitVec 32 := 2#32
  let v724 : BitVec 32 := Scalar.addi v29 c2_i32_969
  let c4_i32_970 : BitVec 32 := 4#32
  let c0_i32_971 : BitVec 32 := 0#32
  let v725 : BitVec 1 := Scalar.cmpi .eq c4_i32_970 c0_i32_971
  let c1_i32_972 : BitVec 32 := 1#32
  let v726 : BitVec 32 := Scalar.select v725 c1_i32_972 c4_i32_970
  let v727 : BitVec 32 := Scalar.remsi v724 v726
  let c0_i32_974 : BitVec 32 := 0#32
  let v729 : BitVec 1 := Scalar.cmpi .slt v727 c0_i32_974
  let c0_i32_975 : BitVec 32 := 0#32
  let v730 : BitVec 1 := Scalar.cmpi .slt v726 c0_i32_975
  let v731 : BitVec 1 := Scalar.xori v729 v730
  let c0_i32_973 : BitVec 32 := 0#32
  let v728 : BitVec 1 := Scalar.cmpi .ne v727 c0_i32_973
  let v732 : BitVec 1 := Scalar.andi v731 v728
  let v733 : BitVec 32 := Scalar.addi v727 v726
  let v734 : BitVec 32 := Scalar.select v732 v733 v727
  let v735 : BitVec 32 := Scalar.muli c4_i32_976 v734
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v736 : BitVec 32 := Scalar.addi v735 v12
  let c1_i32_989 : BitVec 32 := 1#32
  let v737 : BitVec 32 := Scalar.muli v736 c1_i32_989
  let v738 : BitVec 32 := Scalar.addi c0_i32_990 v737
  v738.toNat
def k0_dev27 (d0 : Dev nD) : Nat :=
  let c0_i32_1016 : BitVec 32 := 0#32
  let c4_i32_1002 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_995 : BitVec 32 := 3#32
  let v746 : BitVec 32 := Scalar.addi v29 c3_i32_995
  let c4_i32_996 : BitVec 32 := 4#32
  let c0_i32_997 : BitVec 32 := 0#32
  let v747 : BitVec 1 := Scalar.cmpi .eq c4_i32_996 c0_i32_997
  let c1_i32_998 : BitVec 32 := 1#32
  let v748 : BitVec 32 := Scalar.select v747 c1_i32_998 c4_i32_996
  let v749 : BitVec 32 := Scalar.remsi v746 v748
  let c0_i32_1000 : BitVec 32 := 0#32
  let v751 : BitVec 1 := Scalar.cmpi .slt v749 c0_i32_1000
  let c0_i32_1001 : BitVec 32 := 0#32
  let v752 : BitVec 1 := Scalar.cmpi .slt v748 c0_i32_1001
  let v753 : BitVec 1 := Scalar.xori v751 v752
  let c0_i32_999 : BitVec 32 := 0#32
  let v750 : BitVec 1 := Scalar.cmpi .ne v749 c0_i32_999
  let v754 : BitVec 1 := Scalar.andi v753 v750
  let v755 : BitVec 32 := Scalar.addi v749 v748
  let v756 : BitVec 32 := Scalar.select v754 v755 v749
  let v757 : BitVec 32 := Scalar.muli c4_i32_1002 v756
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v758 : BitVec 32 := Scalar.addi v757 v12
  let c1_i32_1015 : BitVec 32 := 1#32
  let v759 : BitVec 32 := Scalar.muli v758 c1_i32_1015
  let v760 : BitVec 32 := Scalar.addi c0_i32_1016 v759
  v760.toNat
def k0_dev28 (d0 : Dev nD) : Nat :=
  let c0_i32_1168 : BitVec 32 := 0#32
  let c4_i32_1154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1147 : BitVec 32 := 1#32
  let v817 : BitVec 32 := Scalar.addi v29 c1_i32_1147
  let c4_i32_1148 : BitVec 32 := 4#32
  let c0_i32_1149 : BitVec 32 := 0#32
  let v818 : BitVec 1 := Scalar.cmpi .eq c4_i32_1148 c0_i32_1149
  let c1_i32_1150 : BitVec 32 := 1#32
  let v819 : BitVec 32 := Scalar.select v818 c1_i32_1150 c4_i32_1148
  let v820 : BitVec 32 := Scalar.remsi v817 v819
  let c0_i32_1152 : BitVec 32 := 0#32
  let v822 : BitVec 1 := Scalar.cmpi .slt v820 c0_i32_1152
  let c0_i32_1153 : BitVec 32 := 0#32
  let v823 : BitVec 1 := Scalar.cmpi .slt v819 c0_i32_1153
  let v824 : BitVec 1 := Scalar.xori v822 v823
  let c0_i32_1151 : BitVec 32 := 0#32
  let v821 : BitVec 1 := Scalar.cmpi .ne v820 c0_i32_1151
  let v825 : BitVec 1 := Scalar.andi v824 v821
  let v826 : BitVec 32 := Scalar.addi v820 v819
  let v827 : BitVec 32 := Scalar.select v825 v826 v820
  let v828 : BitVec 32 := Scalar.muli c4_i32_1154 v827
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v829 : BitVec 32 := Scalar.addi v828 v12
  let c1_i32_1167 : BitVec 32 := 1#32
  let v830 : BitVec 32 := Scalar.muli v829 c1_i32_1167
  let v831 : BitVec 32 := Scalar.addi c0_i32_1168 v830
  v831.toNat
def k0_dev29 (d0 : Dev nD) : Nat :=
  let c0_i32_1194 : BitVec 32 := 0#32
  let c4_i32_1180 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1173 : BitVec 32 := 2#32
  let v839 : BitVec 32 := Scalar.addi v29 c2_i32_1173
  let c4_i32_1174 : BitVec 32 := 4#32
  let c0_i32_1175 : BitVec 32 := 0#32
  let v840 : BitVec 1 := Scalar.cmpi .eq c4_i32_1174 c0_i32_1175
  let c1_i32_1176 : BitVec 32 := 1#32
  let v841 : BitVec 32 := Scalar.select v840 c1_i32_1176 c4_i32_1174
  let v842 : BitVec 32 := Scalar.remsi v839 v841
  let c0_i32_1178 : BitVec 32 := 0#32
  let v844 : BitVec 1 := Scalar.cmpi .slt v842 c0_i32_1178
  let c0_i32_1179 : BitVec 32 := 0#32
  let v845 : BitVec 1 := Scalar.cmpi .slt v841 c0_i32_1179
  let v846 : BitVec 1 := Scalar.xori v844 v845
  let c0_i32_1177 : BitVec 32 := 0#32
  let v843 : BitVec 1 := Scalar.cmpi .ne v842 c0_i32_1177
  let v847 : BitVec 1 := Scalar.andi v846 v843
  let v848 : BitVec 32 := Scalar.addi v842 v841
  let v849 : BitVec 32 := Scalar.select v847 v848 v842
  let v850 : BitVec 32 := Scalar.muli c4_i32_1180 v849
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v851 : BitVec 32 := Scalar.addi v850 v12
  let c1_i32_1193 : BitVec 32 := 1#32
  let v852 : BitVec 32 := Scalar.muli v851 c1_i32_1193
  let v853 : BitVec 32 := Scalar.addi c0_i32_1194 v852
  v853.toNat
def k0_dev30 (d0 : Dev nD) : Nat :=
  let c0_i32_1220 : BitVec 32 := 0#32
  let c4_i32_1206 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1199 : BitVec 32 := 3#32
  let v861 : BitVec 32 := Scalar.addi v29 c3_i32_1199
  let c4_i32_1200 : BitVec 32 := 4#32
  let c0_i32_1201 : BitVec 32 := 0#32
  let v862 : BitVec 1 := Scalar.cmpi .eq c4_i32_1200 c0_i32_1201
  let c1_i32_1202 : BitVec 32 := 1#32
  let v863 : BitVec 32 := Scalar.select v862 c1_i32_1202 c4_i32_1200
  let v864 : BitVec 32 := Scalar.remsi v861 v863
  let c0_i32_1204 : BitVec 32 := 0#32
  let v866 : BitVec 1 := Scalar.cmpi .slt v864 c0_i32_1204
  let c0_i32_1205 : BitVec 32 := 0#32
  let v867 : BitVec 1 := Scalar.cmpi .slt v863 c0_i32_1205
  let v868 : BitVec 1 := Scalar.xori v866 v867
  let c0_i32_1203 : BitVec 32 := 0#32
  let v865 : BitVec 1 := Scalar.cmpi .ne v864 c0_i32_1203
  let v869 : BitVec 1 := Scalar.andi v868 v865
  let v870 : BitVec 32 := Scalar.addi v864 v863
  let v871 : BitVec 32 := Scalar.select v869 v870 v864
  let v872 : BitVec 32 := Scalar.muli c4_i32_1206 v871
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v873 : BitVec 32 := Scalar.addi v872 v12
  let c1_i32_1219 : BitVec 32 := 1#32
  let v874 : BitVec 32 := Scalar.muli v873 c1_i32_1219
  let v875 : BitVec 32 := Scalar.addi c0_i32_1220 v874
  v875.toNat
def k0_dev31 (d0 : Dev nD) : Nat :=
  let c0_i32_1383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_1363 : BitVec 32 := 1#32
  let v944 : BitVec 32 := Scalar.addi v12 c1_i32_1363
  let c4_i32_1364 : BitVec 32 := 4#32
  let c0_i32_1365 : BitVec 32 := 0#32
  let v945 : BitVec 1 := Scalar.cmpi .eq c4_i32_1364 c0_i32_1365
  let c1_i32_1366 : BitVec 32 := 1#32
  let v946 : BitVec 32 := Scalar.select v945 c1_i32_1366 c4_i32_1364
  let v947 : BitVec 32 := Scalar.remsi v944 v946
  let c0_i32_1368 : BitVec 32 := 0#32
  let v949 : BitVec 1 := Scalar.cmpi .slt v947 c0_i32_1368
  let c0_i32_1369 : BitVec 32 := 0#32
  let v950 : BitVec 1 := Scalar.cmpi .slt v946 c0_i32_1369
  let v951 : BitVec 1 := Scalar.xori v949 v950
  let c0_i32_1367 : BitVec 32 := 0#32
  let v948 : BitVec 1 := Scalar.cmpi .ne v947 c0_i32_1367
  let v952 : BitVec 1 := Scalar.andi v951 v948
  let v953 : BitVec 32 := Scalar.addi v947 v946
  let v954 : BitVec 32 := Scalar.select v952 v953 v947
  let v955 : BitVec 32 := Scalar.addi v30 v954
  let c1_i32_1382 : BitVec 32 := 1#32
  let v956 : BitVec 32 := Scalar.muli v955 c1_i32_1382
  let v957 : BitVec 32 := Scalar.addi c0_i32_1383 v956
  v957.toNat
def k0_dev32 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_1388 : BitVec 32 := 2#32
  let v965 : BitVec 32 := Scalar.addi v12 c2_i32_1388
  let c4_i32_1389 : BitVec 32 := 4#32
  let c0_i32_1390 : BitVec 32 := 0#32
  let v966 : BitVec 1 := Scalar.cmpi .eq c4_i32_1389 c0_i32_1390
  let c1_i32_1391 : BitVec 32 := 1#32
  let v967 : BitVec 32 := Scalar.select v966 c1_i32_1391 c4_i32_1389
  let v968 : BitVec 32 := Scalar.remsi v965 v967
  let c0_i32_1393 : BitVec 32 := 0#32
  let v970 : BitVec 1 := Scalar.cmpi .slt v968 c0_i32_1393
  let c0_i32_1394 : BitVec 32 := 0#32
  let v971 : BitVec 1 := Scalar.cmpi .slt v967 c0_i32_1394
  let v972 : BitVec 1 := Scalar.xori v970 v971
  let c0_i32_1392 : BitVec 32 := 0#32
  let v969 : BitVec 1 := Scalar.cmpi .ne v968 c0_i32_1392
  let v973 : BitVec 1 := Scalar.andi v972 v969
  let v974 : BitVec 32 := Scalar.addi v968 v967
  let v975 : BitVec 32 := Scalar.select v973 v974 v968
  let v976 : BitVec 32 := Scalar.addi v30 v975
  let c1_i32_1407 : BitVec 32 := 1#32
  let v977 : BitVec 32 := Scalar.muli v976 c1_i32_1407
  let v978 : BitVec 32 := Scalar.addi c0_i32_1408 v977
  v978.toNat
def k0_dev33 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_1413 : BitVec 32 := 3#32
  let v986 : BitVec 32 := Scalar.addi v12 c3_i32_1413
  let c4_i32_1414 : BitVec 32 := 4#32
  let c0_i32_1415 : BitVec 32 := 0#32
  let v987 : BitVec 1 := Scalar.cmpi .eq c4_i32_1414 c0_i32_1415
  let c1_i32_1416 : BitVec 32 := 1#32
  let v988 : BitVec 32 := Scalar.select v987 c1_i32_1416 c4_i32_1414
  let v989 : BitVec 32 := Scalar.remsi v986 v988
  let c0_i32_1418 : BitVec 32 := 0#32
  let v991 : BitVec 1 := Scalar.cmpi .slt v989 c0_i32_1418
  let c0_i32_1419 : BitVec 32 := 0#32
  let v992 : BitVec 1 := Scalar.cmpi .slt v988 c0_i32_1419
  let v993 : BitVec 1 := Scalar.xori v991 v992
  let c0_i32_1417 : BitVec 32 := 0#32
  let v990 : BitVec 1 := Scalar.cmpi .ne v989 c0_i32_1417
  let v994 : BitVec 1 := Scalar.andi v993 v990
  let v995 : BitVec 32 := Scalar.addi v989 v988
  let v996 : BitVec 32 := Scalar.select v994 v995 v989
  let v997 : BitVec 32 := Scalar.addi v30 v996
  let c1_i32_1432 : BitVec 32 := 1#32
  let v998 : BitVec 32 := Scalar.muli v997 c1_i32_1432
  let v999 : BitVec 32 := Scalar.addi c0_i32_1433 v998
  v999.toNat
def k0_dev34 (d0 : Dev nD) : Nat :=
  let c0_i32_1596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_1576 : BitVec 32 := 1#32
  let v1068 : BitVec 32 := Scalar.addi v12 c1_i32_1576
  let c4_i32_1577 : BitVec 32 := 4#32
  let c0_i32_1578 : BitVec 32 := 0#32
  let v1069 : BitVec 1 := Scalar.cmpi .eq c4_i32_1577 c0_i32_1578
  let c1_i32_1579 : BitVec 32 := 1#32
  let v1070 : BitVec 32 := Scalar.select v1069 c1_i32_1579 c4_i32_1577
  let v1071 : BitVec 32 := Scalar.remsi v1068 v1070
  let c0_i32_1581 : BitVec 32 := 0#32
  let v1073 : BitVec 1 := Scalar.cmpi .slt v1071 c0_i32_1581
  let c0_i32_1582 : BitVec 32 := 0#32
  let v1074 : BitVec 1 := Scalar.cmpi .slt v1070 c0_i32_1582
  let v1075 : BitVec 1 := Scalar.xori v1073 v1074
  let c0_i32_1580 : BitVec 32 := 0#32
  let v1072 : BitVec 1 := Scalar.cmpi .ne v1071 c0_i32_1580
  let v1076 : BitVec 1 := Scalar.andi v1075 v1072
  let v1077 : BitVec 32 := Scalar.addi v1071 v1070
  let v1078 : BitVec 32 := Scalar.select v1076 v1077 v1071
  let v1079 : BitVec 32 := Scalar.addi v30 v1078
  let c1_i32_1595 : BitVec 32 := 1#32
  let v1080 : BitVec 32 := Scalar.muli v1079 c1_i32_1595
  let v1081 : BitVec 32 := Scalar.addi c0_i32_1596 v1080
  v1081.toNat
def k0_dev35 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_1601 : BitVec 32 := 2#32
  let v1089 : BitVec 32 := Scalar.addi v12 c2_i32_1601
  let c4_i32_1602 : BitVec 32 := 4#32
  let c0_i32_1603 : BitVec 32 := 0#32
  let v1090 : BitVec 1 := Scalar.cmpi .eq c4_i32_1602 c0_i32_1603
  let c1_i32_1604 : BitVec 32 := 1#32
  let v1091 : BitVec 32 := Scalar.select v1090 c1_i32_1604 c4_i32_1602
  let v1092 : BitVec 32 := Scalar.remsi v1089 v1091
  let c0_i32_1606 : BitVec 32 := 0#32
  let v1094 : BitVec 1 := Scalar.cmpi .slt v1092 c0_i32_1606
  let c0_i32_1607 : BitVec 32 := 0#32
  let v1095 : BitVec 1 := Scalar.cmpi .slt v1091 c0_i32_1607
  let v1096 : BitVec 1 := Scalar.xori v1094 v1095
  let c0_i32_1605 : BitVec 32 := 0#32
  let v1093 : BitVec 1 := Scalar.cmpi .ne v1092 c0_i32_1605
  let v1097 : BitVec 1 := Scalar.andi v1096 v1093
  let v1098 : BitVec 32 := Scalar.addi v1092 v1091
  let v1099 : BitVec 32 := Scalar.select v1097 v1098 v1092
  let v1100 : BitVec 32 := Scalar.addi v30 v1099
  let c1_i32_1620 : BitVec 32 := 1#32
  let v1101 : BitVec 32 := Scalar.muli v1100 c1_i32_1620
  let v1102 : BitVec 32 := Scalar.addi c0_i32_1621 v1101
  v1102.toNat
def k0_dev36 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_1626 : BitVec 32 := 3#32
  let v1110 : BitVec 32 := Scalar.addi v12 c3_i32_1626
  let c4_i32_1627 : BitVec 32 := 4#32
  let c0_i32_1628 : BitVec 32 := 0#32
  let v1111 : BitVec 1 := Scalar.cmpi .eq c4_i32_1627 c0_i32_1628
  let c1_i32_1629 : BitVec 32 := 1#32
  let v1112 : BitVec 32 := Scalar.select v1111 c1_i32_1629 c4_i32_1627
  let v1113 : BitVec 32 := Scalar.remsi v1110 v1112
  let c0_i32_1631 : BitVec 32 := 0#32
  let v1115 : BitVec 1 := Scalar.cmpi .slt v1113 c0_i32_1631
  let c0_i32_1632 : BitVec 32 := 0#32
  let v1116 : BitVec 1 := Scalar.cmpi .slt v1112 c0_i32_1632
  let v1117 : BitVec 1 := Scalar.xori v1115 v1116
  let c0_i32_1630 : BitVec 32 := 0#32
  let v1114 : BitVec 1 := Scalar.cmpi .ne v1113 c0_i32_1630
  let v1118 : BitVec 1 := Scalar.andi v1117 v1114
  let v1119 : BitVec 32 := Scalar.addi v1113 v1112
  let v1120 : BitVec 32 := Scalar.select v1118 v1119 v1113
  let v1121 : BitVec 32 := Scalar.addi v30 v1120
  let c1_i32_1645 : BitVec 32 := 1#32
  let v1122 : BitVec 32 := Scalar.muli v1121 c1_i32_1645
  let v1123 : BitVec 32 := Scalar.addi c0_i32_1646 v1122
  v1123.toNat
def k0_dev37 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_1789 : BitVec 32 := 1#32
  let v1192 : BitVec 32 := Scalar.addi v12 c1_i32_1789
  let c4_i32_1790 : BitVec 32 := 4#32
  let c0_i32_1791 : BitVec 32 := 0#32
  let v1193 : BitVec 1 := Scalar.cmpi .eq c4_i32_1790 c0_i32_1791
  let c1_i32_1792 : BitVec 32 := 1#32
  let v1194 : BitVec 32 := Scalar.select v1193 c1_i32_1792 c4_i32_1790
  let v1195 : BitVec 32 := Scalar.remsi v1192 v1194
  let c0_i32_1794 : BitVec 32 := 0#32
  let v1197 : BitVec 1 := Scalar.cmpi .slt v1195 c0_i32_1794
  let c0_i32_1795 : BitVec 32 := 0#32
  let v1198 : BitVec 1 := Scalar.cmpi .slt v1194 c0_i32_1795
  let v1199 : BitVec 1 := Scalar.xori v1197 v1198
  let c0_i32_1793 : BitVec 32 := 0#32
  let v1196 : BitVec 1 := Scalar.cmpi .ne v1195 c0_i32_1793
  let v1200 : BitVec 1 := Scalar.andi v1199 v1196
  let v1201 : BitVec 32 := Scalar.addi v1195 v1194
  let v1202 : BitVec 32 := Scalar.select v1200 v1201 v1195
  let v1203 : BitVec 32 := Scalar.addi v30 v1202
  let c1_i32_1808 : BitVec 32 := 1#32
  let v1204 : BitVec 32 := Scalar.muli v1203 c1_i32_1808
  let v1205 : BitVec 32 := Scalar.addi c0_i32_1809 v1204
  v1205.toNat
def k0_dev38 (d0 : Dev nD) : Nat :=
  let c0_i32_1834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_1814 : BitVec 32 := 2#32
  let v1213 : BitVec 32 := Scalar.addi v12 c2_i32_1814
  let c4_i32_1815 : BitVec 32 := 4#32
  let c0_i32_1816 : BitVec 32 := 0#32
  let v1214 : BitVec 1 := Scalar.cmpi .eq c4_i32_1815 c0_i32_1816
  let c1_i32_1817 : BitVec 32 := 1#32
  let v1215 : BitVec 32 := Scalar.select v1214 c1_i32_1817 c4_i32_1815
  let v1216 : BitVec 32 := Scalar.remsi v1213 v1215
  let c0_i32_1819 : BitVec 32 := 0#32
  let v1218 : BitVec 1 := Scalar.cmpi .slt v1216 c0_i32_1819
  let c0_i32_1820 : BitVec 32 := 0#32
  let v1219 : BitVec 1 := Scalar.cmpi .slt v1215 c0_i32_1820
  let v1220 : BitVec 1 := Scalar.xori v1218 v1219
  let c0_i32_1818 : BitVec 32 := 0#32
  let v1217 : BitVec 1 := Scalar.cmpi .ne v1216 c0_i32_1818
  let v1221 : BitVec 1 := Scalar.andi v1220 v1217
  let v1222 : BitVec 32 := Scalar.addi v1216 v1215
  let v1223 : BitVec 32 := Scalar.select v1221 v1222 v1216
  let v1224 : BitVec 32 := Scalar.addi v30 v1223
  let c1_i32_1833 : BitVec 32 := 1#32
  let v1225 : BitVec 32 := Scalar.muli v1224 c1_i32_1833
  let v1226 : BitVec 32 := Scalar.addi c0_i32_1834 v1225
  v1226.toNat
def k0_dev39 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_1839 : BitVec 32 := 3#32
  let v1234 : BitVec 32 := Scalar.addi v12 c3_i32_1839
  let c4_i32_1840 : BitVec 32 := 4#32
  let c0_i32_1841 : BitVec 32 := 0#32
  let v1235 : BitVec 1 := Scalar.cmpi .eq c4_i32_1840 c0_i32_1841
  let c1_i32_1842 : BitVec 32 := 1#32
  let v1236 : BitVec 32 := Scalar.select v1235 c1_i32_1842 c4_i32_1840
  let v1237 : BitVec 32 := Scalar.remsi v1234 v1236
  let c0_i32_1844 : BitVec 32 := 0#32
  let v1239 : BitVec 1 := Scalar.cmpi .slt v1237 c0_i32_1844
  let c0_i32_1845 : BitVec 32 := 0#32
  let v1240 : BitVec 1 := Scalar.cmpi .slt v1236 c0_i32_1845
  let v1241 : BitVec 1 := Scalar.xori v1239 v1240
  let c0_i32_1843 : BitVec 32 := 0#32
  let v1238 : BitVec 1 := Scalar.cmpi .ne v1237 c0_i32_1843
  let v1242 : BitVec 1 := Scalar.andi v1241 v1238
  let v1243 : BitVec 32 := Scalar.addi v1237 v1236
  let v1244 : BitVec 32 := Scalar.select v1242 v1243 v1237
  let v1245 : BitVec 32 := Scalar.addi v30 v1244
  let c1_i32_1858 : BitVec 32 := 1#32
  let v1246 : BitVec 32 := Scalar.muli v1245 c1_i32_1858
  let v1247 : BitVec 32 := Scalar.addi c0_i32_1859 v1246
  v1247.toNat
def k0_dev40 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_2002 : BitVec 32 := 1#32
  let v1316 : BitVec 32 := Scalar.addi v12 c1_i32_2002
  let c4_i32_2003 : BitVec 32 := 4#32
  let c0_i32_2004 : BitVec 32 := 0#32
  let v1317 : BitVec 1 := Scalar.cmpi .eq c4_i32_2003 c0_i32_2004
  let c1_i32_2005 : BitVec 32 := 1#32
  let v1318 : BitVec 32 := Scalar.select v1317 c1_i32_2005 c4_i32_2003
  let v1319 : BitVec 32 := Scalar.remsi v1316 v1318
  let c0_i32_2007 : BitVec 32 := 0#32
  let v1321 : BitVec 1 := Scalar.cmpi .slt v1319 c0_i32_2007
  let c0_i32_2008 : BitVec 32 := 0#32
  let v1322 : BitVec 1 := Scalar.cmpi .slt v1318 c0_i32_2008
  let v1323 : BitVec 1 := Scalar.xori v1321 v1322
  let c0_i32_2006 : BitVec 32 := 0#32
  let v1320 : BitVec 1 := Scalar.cmpi .ne v1319 c0_i32_2006
  let v1324 : BitVec 1 := Scalar.andi v1323 v1320
  let v1325 : BitVec 32 := Scalar.addi v1319 v1318
  let v1326 : BitVec 32 := Scalar.select v1324 v1325 v1319
  let v1327 : BitVec 32 := Scalar.addi v30 v1326
  let c1_i32_2021 : BitVec 32 := 1#32
  let v1328 : BitVec 32 := Scalar.muli v1327 c1_i32_2021
  let v1329 : BitVec 32 := Scalar.addi c0_i32_2022 v1328
  v1329.toNat
def k0_dev41 (d0 : Dev nD) : Nat :=
  let c0_i32_2047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c2_i32_2027 : BitVec 32 := 2#32
  let v1337 : BitVec 32 := Scalar.addi v12 c2_i32_2027
  let c4_i32_2028 : BitVec 32 := 4#32
  let c0_i32_2029 : BitVec 32 := 0#32
  let v1338 : BitVec 1 := Scalar.cmpi .eq c4_i32_2028 c0_i32_2029
  let c1_i32_2030 : BitVec 32 := 1#32
  let v1339 : BitVec 32 := Scalar.select v1338 c1_i32_2030 c4_i32_2028
  let v1340 : BitVec 32 := Scalar.remsi v1337 v1339
  let c0_i32_2032 : BitVec 32 := 0#32
  let v1342 : BitVec 1 := Scalar.cmpi .slt v1340 c0_i32_2032
  let c0_i32_2033 : BitVec 32 := 0#32
  let v1343 : BitVec 1 := Scalar.cmpi .slt v1339 c0_i32_2033
  let v1344 : BitVec 1 := Scalar.xori v1342 v1343
  let c0_i32_2031 : BitVec 32 := 0#32
  let v1341 : BitVec 1 := Scalar.cmpi .ne v1340 c0_i32_2031
  let v1345 : BitVec 1 := Scalar.andi v1344 v1341
  let v1346 : BitVec 32 := Scalar.addi v1340 v1339
  let v1347 : BitVec 32 := Scalar.select v1345 v1346 v1340
  let v1348 : BitVec 32 := Scalar.addi v30 v1347
  let c1_i32_2046 : BitVec 32 := 1#32
  let v1349 : BitVec 32 := Scalar.muli v1348 c1_i32_2046
  let v1350 : BitVec 32 := Scalar.addi c0_i32_2047 v1349
  v1350.toNat
def k0_dev42 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c3_i32_2052 : BitVec 32 := 3#32
  let v1358 : BitVec 32 := Scalar.addi v12 c3_i32_2052
  let c4_i32_2053 : BitVec 32 := 4#32
  let c0_i32_2054 : BitVec 32 := 0#32
  let v1359 : BitVec 1 := Scalar.cmpi .eq c4_i32_2053 c0_i32_2054
  let c1_i32_2055 : BitVec 32 := 1#32
  let v1360 : BitVec 32 := Scalar.select v1359 c1_i32_2055 c4_i32_2053
  let v1361 : BitVec 32 := Scalar.remsi v1358 v1360
  let c0_i32_2057 : BitVec 32 := 0#32
  let v1363 : BitVec 1 := Scalar.cmpi .slt v1361 c0_i32_2057
  let c0_i32_2058 : BitVec 32 := 0#32
  let v1364 : BitVec 1 := Scalar.cmpi .slt v1360 c0_i32_2058
  let v1365 : BitVec 1 := Scalar.xori v1363 v1364
  let c0_i32_2056 : BitVec 32 := 0#32
  let v1362 : BitVec 1 := Scalar.cmpi .ne v1361 c0_i32_2056
  let v1366 : BitVec 1 := Scalar.andi v1365 v1362
  let v1367 : BitVec 32 := Scalar.addi v1361 v1360
  let v1368 : BitVec 32 := Scalar.select v1366 v1367 v1361
  let v1369 : BitVec 32 := Scalar.addi v30 v1368
  let c1_i32_2071 : BitVec 32 := 1#32
  let v1370 : BitVec 32 := Scalar.muli v1369 c1_i32_2071
  let v1371 : BitVec 32 := Scalar.addi c0_i32_2072 v1370
  v1371.toNat
def k0_dev43 (d0 : Dev nD) : Nat :=
  let c0_i32_2225 : BitVec 32 := 0#32
  let c4_i32_2211 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2204 : BitVec 32 := 1#32
  let v1428 : BitVec 32 := Scalar.addi v29 c1_i32_2204
  let c4_i32_2205 : BitVec 32 := 4#32
  let c0_i32_2206 : BitVec 32 := 0#32
  let v1429 : BitVec 1 := Scalar.cmpi .eq c4_i32_2205 c0_i32_2206
  let c1_i32_2207 : BitVec 32 := 1#32
  let v1430 : BitVec 32 := Scalar.select v1429 c1_i32_2207 c4_i32_2205
  let v1431 : BitVec 32 := Scalar.remsi v1428 v1430
  let c0_i32_2209 : BitVec 32 := 0#32
  let v1433 : BitVec 1 := Scalar.cmpi .slt v1431 c0_i32_2209
  let c0_i32_2210 : BitVec 32 := 0#32
  let v1434 : BitVec 1 := Scalar.cmpi .slt v1430 c0_i32_2210
  let v1435 : BitVec 1 := Scalar.xori v1433 v1434
  let c0_i32_2208 : BitVec 32 := 0#32
  let v1432 : BitVec 1 := Scalar.cmpi .ne v1431 c0_i32_2208
  let v1436 : BitVec 1 := Scalar.andi v1435 v1432
  let v1437 : BitVec 32 := Scalar.addi v1431 v1430
  let v1438 : BitVec 32 := Scalar.select v1436 v1437 v1431
  let v1439 : BitVec 32 := Scalar.muli c4_i32_2211 v1438
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1440 : BitVec 32 := Scalar.addi v1439 v12
  let c1_i32_2224 : BitVec 32 := 1#32
  let v1441 : BitVec 32 := Scalar.muli v1440 c1_i32_2224
  let v1442 : BitVec 32 := Scalar.addi c0_i32_2225 v1441
  v1442.toNat
def k0_dev44 (d0 : Dev nD) : Nat :=
  let c0_i32_2251 : BitVec 32 := 0#32
  let c4_i32_2237 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2230 : BitVec 32 := 2#32
  let v1450 : BitVec 32 := Scalar.addi v29 c2_i32_2230
  let c4_i32_2231 : BitVec 32 := 4#32
  let c0_i32_2232 : BitVec 32 := 0#32
  let v1451 : BitVec 1 := Scalar.cmpi .eq c4_i32_2231 c0_i32_2232
  let c1_i32_2233 : BitVec 32 := 1#32
  let v1452 : BitVec 32 := Scalar.select v1451 c1_i32_2233 c4_i32_2231
  let v1453 : BitVec 32 := Scalar.remsi v1450 v1452
  let c0_i32_2235 : BitVec 32 := 0#32
  let v1455 : BitVec 1 := Scalar.cmpi .slt v1453 c0_i32_2235
  let c0_i32_2236 : BitVec 32 := 0#32
  let v1456 : BitVec 1 := Scalar.cmpi .slt v1452 c0_i32_2236
  let v1457 : BitVec 1 := Scalar.xori v1455 v1456
  let c0_i32_2234 : BitVec 32 := 0#32
  let v1454 : BitVec 1 := Scalar.cmpi .ne v1453 c0_i32_2234
  let v1458 : BitVec 1 := Scalar.andi v1457 v1454
  let v1459 : BitVec 32 := Scalar.addi v1453 v1452
  let v1460 : BitVec 32 := Scalar.select v1458 v1459 v1453
  let v1461 : BitVec 32 := Scalar.muli c4_i32_2237 v1460
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1462 : BitVec 32 := Scalar.addi v1461 v12
  let c1_i32_2250 : BitVec 32 := 1#32
  let v1463 : BitVec 32 := Scalar.muli v1462 c1_i32_2250
  let v1464 : BitVec 32 := Scalar.addi c0_i32_2251 v1463
  v1464.toNat
def k0_dev45 (d0 : Dev nD) : Nat :=
  let c0_i32_2277 : BitVec 32 := 0#32
  let c4_i32_2263 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2256 : BitVec 32 := 3#32
  let v1472 : BitVec 32 := Scalar.addi v29 c3_i32_2256
  let c4_i32_2257 : BitVec 32 := 4#32
  let c0_i32_2258 : BitVec 32 := 0#32
  let v1473 : BitVec 1 := Scalar.cmpi .eq c4_i32_2257 c0_i32_2258
  let c1_i32_2259 : BitVec 32 := 1#32
  let v1474 : BitVec 32 := Scalar.select v1473 c1_i32_2259 c4_i32_2257
  let v1475 : BitVec 32 := Scalar.remsi v1472 v1474
  let c0_i32_2261 : BitVec 32 := 0#32
  let v1477 : BitVec 1 := Scalar.cmpi .slt v1475 c0_i32_2261
  let c0_i32_2262 : BitVec 32 := 0#32
  let v1478 : BitVec 1 := Scalar.cmpi .slt v1474 c0_i32_2262
  let v1479 : BitVec 1 := Scalar.xori v1477 v1478
  let c0_i32_2260 : BitVec 32 := 0#32
  let v1476 : BitVec 1 := Scalar.cmpi .ne v1475 c0_i32_2260
  let v1480 : BitVec 1 := Scalar.andi v1479 v1476
  let v1481 : BitVec 32 := Scalar.addi v1475 v1474
  let v1482 : BitVec 32 := Scalar.select v1480 v1481 v1475
  let v1483 : BitVec 32 := Scalar.muli c4_i32_2263 v1482
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1484 : BitVec 32 := Scalar.addi v1483 v12
  let c1_i32_2276 : BitVec 32 := 1#32
  let v1485 : BitVec 32 := Scalar.muli v1484 c1_i32_2276
  let v1486 : BitVec 32 := Scalar.addi c0_i32_2277 v1485
  v1486.toNat
def k0_dev46 (d0 : Dev nD) : Nat :=
  let c0_i32_2430 : BitVec 32 := 0#32
  let c4_i32_2416 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2409 : BitVec 32 := 1#32
  let v1543 : BitVec 32 := Scalar.addi v29 c1_i32_2409
  let c4_i32_2410 : BitVec 32 := 4#32
  let c0_i32_2411 : BitVec 32 := 0#32
  let v1544 : BitVec 1 := Scalar.cmpi .eq c4_i32_2410 c0_i32_2411
  let c1_i32_2412 : BitVec 32 := 1#32
  let v1545 : BitVec 32 := Scalar.select v1544 c1_i32_2412 c4_i32_2410
  let v1546 : BitVec 32 := Scalar.remsi v1543 v1545
  let c0_i32_2414 : BitVec 32 := 0#32
  let v1548 : BitVec 1 := Scalar.cmpi .slt v1546 c0_i32_2414
  let c0_i32_2415 : BitVec 32 := 0#32
  let v1549 : BitVec 1 := Scalar.cmpi .slt v1545 c0_i32_2415
  let v1550 : BitVec 1 := Scalar.xori v1548 v1549
  let c0_i32_2413 : BitVec 32 := 0#32
  let v1547 : BitVec 1 := Scalar.cmpi .ne v1546 c0_i32_2413
  let v1551 : BitVec 1 := Scalar.andi v1550 v1547
  let v1552 : BitVec 32 := Scalar.addi v1546 v1545
  let v1553 : BitVec 32 := Scalar.select v1551 v1552 v1546
  let v1554 : BitVec 32 := Scalar.muli c4_i32_2416 v1553
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1555 : BitVec 32 := Scalar.addi v1554 v12
  let c1_i32_2429 : BitVec 32 := 1#32
  let v1556 : BitVec 32 := Scalar.muli v1555 c1_i32_2429
  let v1557 : BitVec 32 := Scalar.addi c0_i32_2430 v1556
  v1557.toNat
def k0_dev47 (d0 : Dev nD) : Nat :=
  let c0_i32_2456 : BitVec 32 := 0#32
  let c4_i32_2442 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2435 : BitVec 32 := 2#32
  let v1565 : BitVec 32 := Scalar.addi v29 c2_i32_2435
  let c4_i32_2436 : BitVec 32 := 4#32
  let c0_i32_2437 : BitVec 32 := 0#32
  let v1566 : BitVec 1 := Scalar.cmpi .eq c4_i32_2436 c0_i32_2437
  let c1_i32_2438 : BitVec 32 := 1#32
  let v1567 : BitVec 32 := Scalar.select v1566 c1_i32_2438 c4_i32_2436
  let v1568 : BitVec 32 := Scalar.remsi v1565 v1567
  let c0_i32_2440 : BitVec 32 := 0#32
  let v1570 : BitVec 1 := Scalar.cmpi .slt v1568 c0_i32_2440
  let c0_i32_2441 : BitVec 32 := 0#32
  let v1571 : BitVec 1 := Scalar.cmpi .slt v1567 c0_i32_2441
  let v1572 : BitVec 1 := Scalar.xori v1570 v1571
  let c0_i32_2439 : BitVec 32 := 0#32
  let v1569 : BitVec 1 := Scalar.cmpi .ne v1568 c0_i32_2439
  let v1573 : BitVec 1 := Scalar.andi v1572 v1569
  let v1574 : BitVec 32 := Scalar.addi v1568 v1567
  let v1575 : BitVec 32 := Scalar.select v1573 v1574 v1568
  let v1576 : BitVec 32 := Scalar.muli c4_i32_2442 v1575
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1577 : BitVec 32 := Scalar.addi v1576 v12
  let c1_i32_2455 : BitVec 32 := 1#32
  let v1578 : BitVec 32 := Scalar.muli v1577 c1_i32_2455
  let v1579 : BitVec 32 := Scalar.addi c0_i32_2456 v1578
  v1579.toNat
def k0_dev48 (d0 : Dev nD) : Nat :=
  let c0_i32_2482 : BitVec 32 := 0#32
  let c4_i32_2468 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2461 : BitVec 32 := 3#32
  let v1587 : BitVec 32 := Scalar.addi v29 c3_i32_2461
  let c4_i32_2462 : BitVec 32 := 4#32
  let c0_i32_2463 : BitVec 32 := 0#32
  let v1588 : BitVec 1 := Scalar.cmpi .eq c4_i32_2462 c0_i32_2463
  let c1_i32_2464 : BitVec 32 := 1#32
  let v1589 : BitVec 32 := Scalar.select v1588 c1_i32_2464 c4_i32_2462
  let v1590 : BitVec 32 := Scalar.remsi v1587 v1589
  let c0_i32_2466 : BitVec 32 := 0#32
  let v1592 : BitVec 1 := Scalar.cmpi .slt v1590 c0_i32_2466
  let c0_i32_2467 : BitVec 32 := 0#32
  let v1593 : BitVec 1 := Scalar.cmpi .slt v1589 c0_i32_2467
  let v1594 : BitVec 1 := Scalar.xori v1592 v1593
  let c0_i32_2465 : BitVec 32 := 0#32
  let v1591 : BitVec 1 := Scalar.cmpi .ne v1590 c0_i32_2465
  let v1595 : BitVec 1 := Scalar.andi v1594 v1591
  let v1596 : BitVec 32 := Scalar.addi v1590 v1589
  let v1597 : BitVec 32 := Scalar.select v1595 v1596 v1590
  let v1598 : BitVec 32 := Scalar.muli c4_i32_2468 v1597
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1599 : BitVec 32 := Scalar.addi v1598 v12
  let c1_i32_2481 : BitVec 32 := 1#32
  let v1600 : BitVec 32 := Scalar.muli v1599 c1_i32_2481
  let v1601 : BitVec 32 := Scalar.addi c0_i32_2482 v1600
  v1601.toNat
def k0_dev49 (d0 : Dev nD) : Nat :=
  let c0_i32_2635 : BitVec 32 := 0#32
  let c4_i32_2621 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2614 : BitVec 32 := 1#32
  let v1658 : BitVec 32 := Scalar.addi v29 c1_i32_2614
  let c4_i32_2615 : BitVec 32 := 4#32
  let c0_i32_2616 : BitVec 32 := 0#32
  let v1659 : BitVec 1 := Scalar.cmpi .eq c4_i32_2615 c0_i32_2616
  let c1_i32_2617 : BitVec 32 := 1#32
  let v1660 : BitVec 32 := Scalar.select v1659 c1_i32_2617 c4_i32_2615
  let v1661 : BitVec 32 := Scalar.remsi v1658 v1660
  let c0_i32_2619 : BitVec 32 := 0#32
  let v1663 : BitVec 1 := Scalar.cmpi .slt v1661 c0_i32_2619
  let c0_i32_2620 : BitVec 32 := 0#32
  let v1664 : BitVec 1 := Scalar.cmpi .slt v1660 c0_i32_2620
  let v1665 : BitVec 1 := Scalar.xori v1663 v1664
  let c0_i32_2618 : BitVec 32 := 0#32
  let v1662 : BitVec 1 := Scalar.cmpi .ne v1661 c0_i32_2618
  let v1666 : BitVec 1 := Scalar.andi v1665 v1662
  let v1667 : BitVec 32 := Scalar.addi v1661 v1660
  let v1668 : BitVec 32 := Scalar.select v1666 v1667 v1661
  let v1669 : BitVec 32 := Scalar.muli c4_i32_2621 v1668
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1670 : BitVec 32 := Scalar.addi v1669 v12
  let c1_i32_2634 : BitVec 32 := 1#32
  let v1671 : BitVec 32 := Scalar.muli v1670 c1_i32_2634
  let v1672 : BitVec 32 := Scalar.addi c0_i32_2635 v1671
  v1672.toNat
def k0_dev50 (d0 : Dev nD) : Nat :=
  let c0_i32_2661 : BitVec 32 := 0#32
  let c4_i32_2647 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2640 : BitVec 32 := 2#32
  let v1680 : BitVec 32 := Scalar.addi v29 c2_i32_2640
  let c4_i32_2641 : BitVec 32 := 4#32
  let c0_i32_2642 : BitVec 32 := 0#32
  let v1681 : BitVec 1 := Scalar.cmpi .eq c4_i32_2641 c0_i32_2642
  let c1_i32_2643 : BitVec 32 := 1#32
  let v1682 : BitVec 32 := Scalar.select v1681 c1_i32_2643 c4_i32_2641
  let v1683 : BitVec 32 := Scalar.remsi v1680 v1682
  let c0_i32_2645 : BitVec 32 := 0#32
  let v1685 : BitVec 1 := Scalar.cmpi .slt v1683 c0_i32_2645
  let c0_i32_2646 : BitVec 32 := 0#32
  let v1686 : BitVec 1 := Scalar.cmpi .slt v1682 c0_i32_2646
  let v1687 : BitVec 1 := Scalar.xori v1685 v1686
  let c0_i32_2644 : BitVec 32 := 0#32
  let v1684 : BitVec 1 := Scalar.cmpi .ne v1683 c0_i32_2644
  let v1688 : BitVec 1 := Scalar.andi v1687 v1684
  let v1689 : BitVec 32 := Scalar.addi v1683 v1682
  let v1690 : BitVec 32 := Scalar.select v1688 v1689 v1683
  let v1691 : BitVec 32 := Scalar.muli c4_i32_2647 v1690
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1692 : BitVec 32 := Scalar.addi v1691 v12
  let c1_i32_2660 : BitVec 32 := 1#32
  let v1693 : BitVec 32 := Scalar.muli v1692 c1_i32_2660
  let v1694 : BitVec 32 := Scalar.addi c0_i32_2661 v1693
  v1694.toNat
def k0_dev51 (d0 : Dev nD) : Nat :=
  let c0_i32_2687 : BitVec 32 := 0#32
  let c4_i32_2673 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2666 : BitVec 32 := 3#32
  let v1702 : BitVec 32 := Scalar.addi v29 c3_i32_2666
  let c4_i32_2667 : BitVec 32 := 4#32
  let c0_i32_2668 : BitVec 32 := 0#32
  let v1703 : BitVec 1 := Scalar.cmpi .eq c4_i32_2667 c0_i32_2668
  let c1_i32_2669 : BitVec 32 := 1#32
  let v1704 : BitVec 32 := Scalar.select v1703 c1_i32_2669 c4_i32_2667
  let v1705 : BitVec 32 := Scalar.remsi v1702 v1704
  let c0_i32_2671 : BitVec 32 := 0#32
  let v1707 : BitVec 1 := Scalar.cmpi .slt v1705 c0_i32_2671
  let c0_i32_2672 : BitVec 32 := 0#32
  let v1708 : BitVec 1 := Scalar.cmpi .slt v1704 c0_i32_2672
  let v1709 : BitVec 1 := Scalar.xori v1707 v1708
  let c0_i32_2670 : BitVec 32 := 0#32
  let v1706 : BitVec 1 := Scalar.cmpi .ne v1705 c0_i32_2670
  let v1710 : BitVec 1 := Scalar.andi v1709 v1706
  let v1711 : BitVec 32 := Scalar.addi v1705 v1704
  let v1712 : BitVec 32 := Scalar.select v1710 v1711 v1705
  let v1713 : BitVec 32 := Scalar.muli c4_i32_2673 v1712
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1714 : BitVec 32 := Scalar.addi v1713 v12
  let c1_i32_2686 : BitVec 32 := 1#32
  let v1715 : BitVec 32 := Scalar.muli v1714 c1_i32_2686
  let v1716 : BitVec 32 := Scalar.addi c0_i32_2687 v1715
  v1716.toNat
def k0_dev52 (d0 : Dev nD) : Nat :=
  let c0_i32_2840 : BitVec 32 := 0#32
  let c4_i32_2826 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_2819 : BitVec 32 := 1#32
  let v1773 : BitVec 32 := Scalar.addi v29 c1_i32_2819
  let c4_i32_2820 : BitVec 32 := 4#32
  let c0_i32_2821 : BitVec 32 := 0#32
  let v1774 : BitVec 1 := Scalar.cmpi .eq c4_i32_2820 c0_i32_2821
  let c1_i32_2822 : BitVec 32 := 1#32
  let v1775 : BitVec 32 := Scalar.select v1774 c1_i32_2822 c4_i32_2820
  let v1776 : BitVec 32 := Scalar.remsi v1773 v1775
  let c0_i32_2824 : BitVec 32 := 0#32
  let v1778 : BitVec 1 := Scalar.cmpi .slt v1776 c0_i32_2824
  let c0_i32_2825 : BitVec 32 := 0#32
  let v1779 : BitVec 1 := Scalar.cmpi .slt v1775 c0_i32_2825
  let v1780 : BitVec 1 := Scalar.xori v1778 v1779
  let c0_i32_2823 : BitVec 32 := 0#32
  let v1777 : BitVec 1 := Scalar.cmpi .ne v1776 c0_i32_2823
  let v1781 : BitVec 1 := Scalar.andi v1780 v1777
  let v1782 : BitVec 32 := Scalar.addi v1776 v1775
  let v1783 : BitVec 32 := Scalar.select v1781 v1782 v1776
  let v1784 : BitVec 32 := Scalar.muli c4_i32_2826 v1783
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1785 : BitVec 32 := Scalar.addi v1784 v12
  let c1_i32_2839 : BitVec 32 := 1#32
  let v1786 : BitVec 32 := Scalar.muli v1785 c1_i32_2839
  let v1787 : BitVec 32 := Scalar.addi c0_i32_2840 v1786
  v1787.toNat
def k0_dev53 (d0 : Dev nD) : Nat :=
  let c0_i32_2866 : BitVec 32 := 0#32
  let c4_i32_2852 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_2845 : BitVec 32 := 2#32
  let v1795 : BitVec 32 := Scalar.addi v29 c2_i32_2845
  let c4_i32_2846 : BitVec 32 := 4#32
  let c0_i32_2847 : BitVec 32 := 0#32
  let v1796 : BitVec 1 := Scalar.cmpi .eq c4_i32_2846 c0_i32_2847
  let c1_i32_2848 : BitVec 32 := 1#32
  let v1797 : BitVec 32 := Scalar.select v1796 c1_i32_2848 c4_i32_2846
  let v1798 : BitVec 32 := Scalar.remsi v1795 v1797
  let c0_i32_2850 : BitVec 32 := 0#32
  let v1800 : BitVec 1 := Scalar.cmpi .slt v1798 c0_i32_2850
  let c0_i32_2851 : BitVec 32 := 0#32
  let v1801 : BitVec 1 := Scalar.cmpi .slt v1797 c0_i32_2851
  let v1802 : BitVec 1 := Scalar.xori v1800 v1801
  let c0_i32_2849 : BitVec 32 := 0#32
  let v1799 : BitVec 1 := Scalar.cmpi .ne v1798 c0_i32_2849
  let v1803 : BitVec 1 := Scalar.andi v1802 v1799
  let v1804 : BitVec 32 := Scalar.addi v1798 v1797
  let v1805 : BitVec 32 := Scalar.select v1803 v1804 v1798
  let v1806 : BitVec 32 := Scalar.muli c4_i32_2852 v1805
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1807 : BitVec 32 := Scalar.addi v1806 v12
  let c1_i32_2865 : BitVec 32 := 1#32
  let v1808 : BitVec 32 := Scalar.muli v1807 c1_i32_2865
  let v1809 : BitVec 32 := Scalar.addi c0_i32_2866 v1808
  v1809.toNat
def k0_dev54 (d0 : Dev nD) : Nat :=
  let c0_i32_2892 : BitVec 32 := 0#32
  let c4_i32_2878 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_2871 : BitVec 32 := 3#32
  let v1817 : BitVec 32 := Scalar.addi v29 c3_i32_2871
  let c4_i32_2872 : BitVec 32 := 4#32
  let c0_i32_2873 : BitVec 32 := 0#32
  let v1818 : BitVec 1 := Scalar.cmpi .eq c4_i32_2872 c0_i32_2873
  let c1_i32_2874 : BitVec 32 := 1#32
  let v1819 : BitVec 32 := Scalar.select v1818 c1_i32_2874 c4_i32_2872
  let v1820 : BitVec 32 := Scalar.remsi v1817 v1819
  let c0_i32_2876 : BitVec 32 := 0#32
  let v1822 : BitVec 1 := Scalar.cmpi .slt v1820 c0_i32_2876
  let c0_i32_2877 : BitVec 32 := 0#32
  let v1823 : BitVec 1 := Scalar.cmpi .slt v1819 c0_i32_2877
  let v1824 : BitVec 1 := Scalar.xori v1822 v1823
  let c0_i32_2875 : BitVec 32 := 0#32
  let v1821 : BitVec 1 := Scalar.cmpi .ne v1820 c0_i32_2875
  let v1825 : BitVec 1 := Scalar.andi v1824 v1821
  let v1826 : BitVec 32 := Scalar.addi v1820 v1819
  let v1827 : BitVec 32 := Scalar.select v1825 v1826 v1820
  let v1828 : BitVec 32 := Scalar.muli c4_i32_2878 v1827
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1829 : BitVec 32 := Scalar.addi v1828 v12
  let c1_i32_2891 : BitVec 32 := 1#32
  let v1830 : BitVec 32 := Scalar.muli v1829 c1_i32_2891
  let v1831 : BitVec 32 := Scalar.addi c0_i32_2892 v1830
  v1831.toNat
def k0_off1 (d0 : Dev nD) (c1_i32_3449 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2083 : BitVec 32 := Scalar.addi v2 c1_i32_3449
  let c16_i32_3450 : BitVec 32 := 16#32
  let c0_i32_3451 : BitVec 32 := 0#32
  let v2084 : BitVec 1 := Scalar.cmpi .eq c16_i32_3450 c0_i32_3451
  let c1_i32_3452 : BitVec 32 := 1#32
  let v2085 : BitVec 32 := Scalar.select v2084 c1_i32_3452 c16_i32_3450
  let v2086 : BitVec 32 := Scalar.remsi v2083 v2085
  let c0_i32_3454 : BitVec 32 := 0#32
  let v2088 : BitVec 1 := Scalar.cmpi .slt v2086 c0_i32_3454
  let c0_i32_3455 : BitVec 32 := 0#32
  let v2089 : BitVec 1 := Scalar.cmpi .slt v2085 c0_i32_3455
  let v2090 : BitVec 1 := Scalar.xori v2088 v2089
  let c0_i32_3453 : BitVec 32 := 0#32
  let v2087 : BitVec 1 := Scalar.cmpi .ne v2086 c0_i32_3453
  let v2091 : BitVec 1 := Scalar.andi v2090 v2087
  let v2092 : BitVec 32 := Scalar.addi v2086 v2085
  let v2093 : BitVec 32 := Scalar.select v2091 v2092 v2086
  let c8_i32 : BitVec 32 := 8#32
  let v2094 : BitVec 32 := Scalar.muli v2093 c8_i32
  let c0_i32_3463 : BitVec 32 := 0#32
  ![v2094.toNat, 0]
def k0_dev55 (d0 : Dev nD) : Nat :=
  let c0_i32_3460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3449 : BitVec 32 := 1#32
  let v2083 : BitVec 32 := Scalar.addi v2 c1_i32_3449
  let c16_i32_3450 : BitVec 32 := 16#32
  let c0_i32_3451 : BitVec 32 := 0#32
  let v2084 : BitVec 1 := Scalar.cmpi .eq c16_i32_3450 c0_i32_3451
  let c1_i32_3452 : BitVec 32 := 1#32
  let v2085 : BitVec 32 := Scalar.select v2084 c1_i32_3452 c16_i32_3450
  let v2086 : BitVec 32 := Scalar.remsi v2083 v2085
  let c0_i32_3454 : BitVec 32 := 0#32
  let v2088 : BitVec 1 := Scalar.cmpi .slt v2086 c0_i32_3454
  let c0_i32_3455 : BitVec 32 := 0#32
  let v2089 : BitVec 1 := Scalar.cmpi .slt v2085 c0_i32_3455
  let v2090 : BitVec 1 := Scalar.xori v2088 v2089
  let c0_i32_3453 : BitVec 32 := 0#32
  let v2087 : BitVec 1 := Scalar.cmpi .ne v2086 c0_i32_3453
  let v2091 : BitVec 1 := Scalar.andi v2090 v2087
  let v2092 : BitVec 32 := Scalar.addi v2086 v2085
  let v2093 : BitVec 32 := Scalar.select v2091 v2092 v2086
  let c1_i32_3459 : BitVec 32 := 1#32
  let v2095 : BitVec 32 := Scalar.muli v2093 c1_i32_3459
  let v2096 : BitVec 32 := Scalar.addi c0_i32_3460 v2095
  v2096.toNat
def k0_dev56 (d0 : Dev nD) : Nat :=
  let c0_i32_3476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3464 : BitVec 32 := 2#32
  let v2104 : BitVec 32 := Scalar.addi v2 c2_i32_3464
  let c16_i32_3465 : BitVec 32 := 16#32
  let c0_i32_3466 : BitVec 32 := 0#32
  let v2105 : BitVec 1 := Scalar.cmpi .eq c16_i32_3465 c0_i32_3466
  let c1_i32_3467 : BitVec 32 := 1#32
  let v2106 : BitVec 32 := Scalar.select v2105 c1_i32_3467 c16_i32_3465
  let v2107 : BitVec 32 := Scalar.remsi v2104 v2106
  let c0_i32_3469 : BitVec 32 := 0#32
  let v2109 : BitVec 1 := Scalar.cmpi .slt v2107 c0_i32_3469
  let c0_i32_3470 : BitVec 32 := 0#32
  let v2110 : BitVec 1 := Scalar.cmpi .slt v2106 c0_i32_3470
  let v2111 : BitVec 1 := Scalar.xori v2109 v2110
  let c0_i32_3468 : BitVec 32 := 0#32
  let v2108 : BitVec 1 := Scalar.cmpi .ne v2107 c0_i32_3468
  let v2112 : BitVec 1 := Scalar.andi v2111 v2108
  let v2113 : BitVec 32 := Scalar.addi v2107 v2106
  let v2114 : BitVec 32 := Scalar.select v2112 v2113 v2107
  let c1_i32_3475 : BitVec 32 := 1#32
  let v2116 : BitVec 32 := Scalar.muli v2114 c1_i32_3475
  let v2117 : BitVec 32 := Scalar.addi c0_i32_3476 v2116
  v2117.toNat
def k0_dev57 (d0 : Dev nD) : Nat :=
  let c0_i32_3492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3480 : BitVec 32 := 3#32
  let v2125 : BitVec 32 := Scalar.addi v2 c3_i32_3480
  let c16_i32_3481 : BitVec 32 := 16#32
  let c0_i32_3482 : BitVec 32 := 0#32
  let v2126 : BitVec 1 := Scalar.cmpi .eq c16_i32_3481 c0_i32_3482
  let c1_i32_3483 : BitVec 32 := 1#32
  let v2127 : BitVec 32 := Scalar.select v2126 c1_i32_3483 c16_i32_3481
  let v2128 : BitVec 32 := Scalar.remsi v2125 v2127
  let c0_i32_3485 : BitVec 32 := 0#32
  let v2130 : BitVec 1 := Scalar.cmpi .slt v2128 c0_i32_3485
  let c0_i32_3486 : BitVec 32 := 0#32
  let v2131 : BitVec 1 := Scalar.cmpi .slt v2127 c0_i32_3486
  let v2132 : BitVec 1 := Scalar.xori v2130 v2131
  let c0_i32_3484 : BitVec 32 := 0#32
  let v2129 : BitVec 1 := Scalar.cmpi .ne v2128 c0_i32_3484
  let v2133 : BitVec 1 := Scalar.andi v2132 v2129
  let v2134 : BitVec 32 := Scalar.addi v2128 v2127
  let v2135 : BitVec 32 := Scalar.select v2133 v2134 v2128
  let c1_i32_3491 : BitVec 32 := 1#32
  let v2137 : BitVec 32 := Scalar.muli v2135 c1_i32_3491
  let v2138 : BitVec 32 := Scalar.addi c0_i32_3492 v2137
  v2138.toNat
def k0_dev58 (d0 : Dev nD) : Nat :=
  let c0_i32_3508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3496 : BitVec 32 := 4#32
  let v2146 : BitVec 32 := Scalar.addi v2 c4_i32_3496
  let c16_i32_3497 : BitVec 32 := 16#32
  let c0_i32_3498 : BitVec 32 := 0#32
  let v2147 : BitVec 1 := Scalar.cmpi .eq c16_i32_3497 c0_i32_3498
  let c1_i32_3499 : BitVec 32 := 1#32
  let v2148 : BitVec 32 := Scalar.select v2147 c1_i32_3499 c16_i32_3497
  let v2149 : BitVec 32 := Scalar.remsi v2146 v2148
  let c0_i32_3501 : BitVec 32 := 0#32
  let v2151 : BitVec 1 := Scalar.cmpi .slt v2149 c0_i32_3501
  let c0_i32_3502 : BitVec 32 := 0#32
  let v2152 : BitVec 1 := Scalar.cmpi .slt v2148 c0_i32_3502
  let v2153 : BitVec 1 := Scalar.xori v2151 v2152
  let c0_i32_3500 : BitVec 32 := 0#32
  let v2150 : BitVec 1 := Scalar.cmpi .ne v2149 c0_i32_3500
  let v2154 : BitVec 1 := Scalar.andi v2153 v2150
  let v2155 : BitVec 32 := Scalar.addi v2149 v2148
  let v2156 : BitVec 32 := Scalar.select v2154 v2155 v2149
  let c1_i32_3507 : BitVec 32 := 1#32
  let v2158 : BitVec 32 := Scalar.muli v2156 c1_i32_3507
  let v2159 : BitVec 32 := Scalar.addi c0_i32_3508 v2158
  v2159.toNat
def k0_dev59 (d0 : Dev nD) : Nat :=
  let c0_i32_3523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v2167 : BitVec 32 := Scalar.addi v2 c5_i32
  let c16_i32_3512 : BitVec 32 := 16#32
  let c0_i32_3513 : BitVec 32 := 0#32
  let v2168 : BitVec 1 := Scalar.cmpi .eq c16_i32_3512 c0_i32_3513
  let c1_i32_3514 : BitVec 32 := 1#32
  let v2169 : BitVec 32 := Scalar.select v2168 c1_i32_3514 c16_i32_3512
  let v2170 : BitVec 32 := Scalar.remsi v2167 v2169
  let c0_i32_3516 : BitVec 32 := 0#32
  let v2172 : BitVec 1 := Scalar.cmpi .slt v2170 c0_i32_3516
  let c0_i32_3517 : BitVec 32 := 0#32
  let v2173 : BitVec 1 := Scalar.cmpi .slt v2169 c0_i32_3517
  let v2174 : BitVec 1 := Scalar.xori v2172 v2173
  let c0_i32_3515 : BitVec 32 := 0#32
  let v2171 : BitVec 1 := Scalar.cmpi .ne v2170 c0_i32_3515
  let v2175 : BitVec 1 := Scalar.andi v2174 v2171
  let v2176 : BitVec 32 := Scalar.addi v2170 v2169
  let v2177 : BitVec 32 := Scalar.select v2175 v2176 v2170
  let c1_i32_3522 : BitVec 32 := 1#32
  let v2179 : BitVec 32 := Scalar.muli v2177 c1_i32_3522
  let v2180 : BitVec 32 := Scalar.addi c0_i32_3523 v2179
  v2180.toNat
def k0_dev60 (d0 : Dev nD) : Nat :=
  let c0_i32_3539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3527 : BitVec 32 := 6#32
  let v2188 : BitVec 32 := Scalar.addi v2 c6_i32_3527
  let c16_i32_3528 : BitVec 32 := 16#32
  let c0_i32_3529 : BitVec 32 := 0#32
  let v2189 : BitVec 1 := Scalar.cmpi .eq c16_i32_3528 c0_i32_3529
  let c1_i32_3530 : BitVec 32 := 1#32
  let v2190 : BitVec 32 := Scalar.select v2189 c1_i32_3530 c16_i32_3528
  let v2191 : BitVec 32 := Scalar.remsi v2188 v2190
  let c0_i32_3532 : BitVec 32 := 0#32
  let v2193 : BitVec 1 := Scalar.cmpi .slt v2191 c0_i32_3532
  let c0_i32_3533 : BitVec 32 := 0#32
  let v2194 : BitVec 1 := Scalar.cmpi .slt v2190 c0_i32_3533
  let v2195 : BitVec 1 := Scalar.xori v2193 v2194
  let c0_i32_3531 : BitVec 32 := 0#32
  let v2192 : BitVec 1 := Scalar.cmpi .ne v2191 c0_i32_3531
  let v2196 : BitVec 1 := Scalar.andi v2195 v2192
  let v2197 : BitVec 32 := Scalar.addi v2191 v2190
  let v2198 : BitVec 32 := Scalar.select v2196 v2197 v2191
  let c1_i32_3538 : BitVec 32 := 1#32
  let v2200 : BitVec 32 := Scalar.muli v2198 c1_i32_3538
  let v2201 : BitVec 32 := Scalar.addi c0_i32_3539 v2200
  v2201.toNat
def k0_dev61 (d0 : Dev nD) : Nat :=
  let c0_i32_3554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v2209 : BitVec 32 := Scalar.addi v2 c7_i32
  let c16_i32_3543 : BitVec 32 := 16#32
  let c0_i32_3544 : BitVec 32 := 0#32
  let v2210 : BitVec 1 := Scalar.cmpi .eq c16_i32_3543 c0_i32_3544
  let c1_i32_3545 : BitVec 32 := 1#32
  let v2211 : BitVec 32 := Scalar.select v2210 c1_i32_3545 c16_i32_3543
  let v2212 : BitVec 32 := Scalar.remsi v2209 v2211
  let c0_i32_3547 : BitVec 32 := 0#32
  let v2214 : BitVec 1 := Scalar.cmpi .slt v2212 c0_i32_3547
  let c0_i32_3548 : BitVec 32 := 0#32
  let v2215 : BitVec 1 := Scalar.cmpi .slt v2211 c0_i32_3548
  let v2216 : BitVec 1 := Scalar.xori v2214 v2215
  let c0_i32_3546 : BitVec 32 := 0#32
  let v2213 : BitVec 1 := Scalar.cmpi .ne v2212 c0_i32_3546
  let v2217 : BitVec 1 := Scalar.andi v2216 v2213
  let v2218 : BitVec 32 := Scalar.addi v2212 v2211
  let v2219 : BitVec 32 := Scalar.select v2217 v2218 v2212
  let c1_i32_3553 : BitVec 32 := 1#32
  let v2221 : BitVec 32 := Scalar.muli v2219 c1_i32_3553
  let v2222 : BitVec 32 := Scalar.addi c0_i32_3554 v2221
  v2222.toNat
def k0_dev62 (d0 : Dev nD) : Nat :=
  let c0_i32_3570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3558 : BitVec 32 := 8#32
  let v2230 : BitVec 32 := Scalar.addi v2 c8_i32_3558
  let c16_i32_3559 : BitVec 32 := 16#32
  let c0_i32_3560 : BitVec 32 := 0#32
  let v2231 : BitVec 1 := Scalar.cmpi .eq c16_i32_3559 c0_i32_3560
  let c1_i32_3561 : BitVec 32 := 1#32
  let v2232 : BitVec 32 := Scalar.select v2231 c1_i32_3561 c16_i32_3559
  let v2233 : BitVec 32 := Scalar.remsi v2230 v2232
  let c0_i32_3563 : BitVec 32 := 0#32
  let v2235 : BitVec 1 := Scalar.cmpi .slt v2233 c0_i32_3563
  let c0_i32_3564 : BitVec 32 := 0#32
  let v2236 : BitVec 1 := Scalar.cmpi .slt v2232 c0_i32_3564
  let v2237 : BitVec 1 := Scalar.xori v2235 v2236
  let c0_i32_3562 : BitVec 32 := 0#32
  let v2234 : BitVec 1 := Scalar.cmpi .ne v2233 c0_i32_3562
  let v2238 : BitVec 1 := Scalar.andi v2237 v2234
  let v2239 : BitVec 32 := Scalar.addi v2233 v2232
  let v2240 : BitVec 32 := Scalar.select v2238 v2239 v2233
  let c1_i32_3569 : BitVec 32 := 1#32
  let v2242 : BitVec 32 := Scalar.muli v2240 c1_i32_3569
  let v2243 : BitVec 32 := Scalar.addi c0_i32_3570 v2242
  v2243.toNat
def k0_dev63 (d0 : Dev nD) : Nat :=
  let c0_i32_3585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v2251 : BitVec 32 := Scalar.addi v2 c9_i32
  let c16_i32_3574 : BitVec 32 := 16#32
  let c0_i32_3575 : BitVec 32 := 0#32
  let v2252 : BitVec 1 := Scalar.cmpi .eq c16_i32_3574 c0_i32_3575
  let c1_i32_3576 : BitVec 32 := 1#32
  let v2253 : BitVec 32 := Scalar.select v2252 c1_i32_3576 c16_i32_3574
  let v2254 : BitVec 32 := Scalar.remsi v2251 v2253
  let c0_i32_3578 : BitVec 32 := 0#32
  let v2256 : BitVec 1 := Scalar.cmpi .slt v2254 c0_i32_3578
  let c0_i32_3579 : BitVec 32 := 0#32
  let v2257 : BitVec 1 := Scalar.cmpi .slt v2253 c0_i32_3579
  let v2258 : BitVec 1 := Scalar.xori v2256 v2257
  let c0_i32_3577 : BitVec 32 := 0#32
  let v2255 : BitVec 1 := Scalar.cmpi .ne v2254 c0_i32_3577
  let v2259 : BitVec 1 := Scalar.andi v2258 v2255
  let v2260 : BitVec 32 := Scalar.addi v2254 v2253
  let v2261 : BitVec 32 := Scalar.select v2259 v2260 v2254
  let c1_i32_3584 : BitVec 32 := 1#32
  let v2263 : BitVec 32 := Scalar.muli v2261 c1_i32_3584
  let v2264 : BitVec 32 := Scalar.addi c0_i32_3585 v2263
  v2264.toNat
def k0_dev64 (d0 : Dev nD) : Nat :=
  let c0_i32_3600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v2272 : BitVec 32 := Scalar.addi v2 c10_i32
  let c16_i32_3589 : BitVec 32 := 16#32
  let c0_i32_3590 : BitVec 32 := 0#32
  let v2273 : BitVec 1 := Scalar.cmpi .eq c16_i32_3589 c0_i32_3590
  let c1_i32_3591 : BitVec 32 := 1#32
  let v2274 : BitVec 32 := Scalar.select v2273 c1_i32_3591 c16_i32_3589
  let v2275 : BitVec 32 := Scalar.remsi v2272 v2274
  let c0_i32_3593 : BitVec 32 := 0#32
  let v2277 : BitVec 1 := Scalar.cmpi .slt v2275 c0_i32_3593
  let c0_i32_3594 : BitVec 32 := 0#32
  let v2278 : BitVec 1 := Scalar.cmpi .slt v2274 c0_i32_3594
  let v2279 : BitVec 1 := Scalar.xori v2277 v2278
  let c0_i32_3592 : BitVec 32 := 0#32
  let v2276 : BitVec 1 := Scalar.cmpi .ne v2275 c0_i32_3592
  let v2280 : BitVec 1 := Scalar.andi v2279 v2276
  let v2281 : BitVec 32 := Scalar.addi v2275 v2274
  let v2282 : BitVec 32 := Scalar.select v2280 v2281 v2275
  let c1_i32_3599 : BitVec 32 := 1#32
  let v2284 : BitVec 32 := Scalar.muli v2282 c1_i32_3599
  let v2285 : BitVec 32 := Scalar.addi c0_i32_3600 v2284
  v2285.toNat
def k0_dev65 (d0 : Dev nD) : Nat :=
  let c0_i32_3615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v2293 : BitVec 32 := Scalar.addi v2 c11_i32
  let c16_i32_3604 : BitVec 32 := 16#32
  let c0_i32_3605 : BitVec 32 := 0#32
  let v2294 : BitVec 1 := Scalar.cmpi .eq c16_i32_3604 c0_i32_3605
  let c1_i32_3606 : BitVec 32 := 1#32
  let v2295 : BitVec 32 := Scalar.select v2294 c1_i32_3606 c16_i32_3604
  let v2296 : BitVec 32 := Scalar.remsi v2293 v2295
  let c0_i32_3608 : BitVec 32 := 0#32
  let v2298 : BitVec 1 := Scalar.cmpi .slt v2296 c0_i32_3608
  let c0_i32_3609 : BitVec 32 := 0#32
  let v2299 : BitVec 1 := Scalar.cmpi .slt v2295 c0_i32_3609
  let v2300 : BitVec 1 := Scalar.xori v2298 v2299
  let c0_i32_3607 : BitVec 32 := 0#32
  let v2297 : BitVec 1 := Scalar.cmpi .ne v2296 c0_i32_3607
  let v2301 : BitVec 1 := Scalar.andi v2300 v2297
  let v2302 : BitVec 32 := Scalar.addi v2296 v2295
  let v2303 : BitVec 32 := Scalar.select v2301 v2302 v2296
  let c1_i32_3614 : BitVec 32 := 1#32
  let v2305 : BitVec 32 := Scalar.muli v2303 c1_i32_3614
  let v2306 : BitVec 32 := Scalar.addi c0_i32_3615 v2305
  v2306.toNat
def k0_dev66 (d0 : Dev nD) : Nat :=
  let c0_i32_3630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v2314 : BitVec 32 := Scalar.addi v2 c12_i32
  let c16_i32_3619 : BitVec 32 := 16#32
  let c0_i32_3620 : BitVec 32 := 0#32
  let v2315 : BitVec 1 := Scalar.cmpi .eq c16_i32_3619 c0_i32_3620
  let c1_i32_3621 : BitVec 32 := 1#32
  let v2316 : BitVec 32 := Scalar.select v2315 c1_i32_3621 c16_i32_3619
  let v2317 : BitVec 32 := Scalar.remsi v2314 v2316
  let c0_i32_3623 : BitVec 32 := 0#32
  let v2319 : BitVec 1 := Scalar.cmpi .slt v2317 c0_i32_3623
  let c0_i32_3624 : BitVec 32 := 0#32
  let v2320 : BitVec 1 := Scalar.cmpi .slt v2316 c0_i32_3624
  let v2321 : BitVec 1 := Scalar.xori v2319 v2320
  let c0_i32_3622 : BitVec 32 := 0#32
  let v2318 : BitVec 1 := Scalar.cmpi .ne v2317 c0_i32_3622
  let v2322 : BitVec 1 := Scalar.andi v2321 v2318
  let v2323 : BitVec 32 := Scalar.addi v2317 v2316
  let v2324 : BitVec 32 := Scalar.select v2322 v2323 v2317
  let c1_i32_3629 : BitVec 32 := 1#32
  let v2326 : BitVec 32 := Scalar.muli v2324 c1_i32_3629
  let v2327 : BitVec 32 := Scalar.addi c0_i32_3630 v2326
  v2327.toNat
def k0_dev67 (d0 : Dev nD) : Nat :=
  let c0_i32_3645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v2335 : BitVec 32 := Scalar.addi v2 c13_i32
  let c16_i32_3634 : BitVec 32 := 16#32
  let c0_i32_3635 : BitVec 32 := 0#32
  let v2336 : BitVec 1 := Scalar.cmpi .eq c16_i32_3634 c0_i32_3635
  let c1_i32_3636 : BitVec 32 := 1#32
  let v2337 : BitVec 32 := Scalar.select v2336 c1_i32_3636 c16_i32_3634
  let v2338 : BitVec 32 := Scalar.remsi v2335 v2337
  let c0_i32_3638 : BitVec 32 := 0#32
  let v2340 : BitVec 1 := Scalar.cmpi .slt v2338 c0_i32_3638
  let c0_i32_3639 : BitVec 32 := 0#32
  let v2341 : BitVec 1 := Scalar.cmpi .slt v2337 c0_i32_3639
  let v2342 : BitVec 1 := Scalar.xori v2340 v2341
  let c0_i32_3637 : BitVec 32 := 0#32
  let v2339 : BitVec 1 := Scalar.cmpi .ne v2338 c0_i32_3637
  let v2343 : BitVec 1 := Scalar.andi v2342 v2339
  let v2344 : BitVec 32 := Scalar.addi v2338 v2337
  let v2345 : BitVec 32 := Scalar.select v2343 v2344 v2338
  let c1_i32_3644 : BitVec 32 := 1#32
  let v2347 : BitVec 32 := Scalar.muli v2345 c1_i32_3644
  let v2348 : BitVec 32 := Scalar.addi c0_i32_3645 v2347
  v2348.toNat
def k0_dev68 (d0 : Dev nD) : Nat :=
  let c0_i32_3660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v2356 : BitVec 32 := Scalar.addi v2 c14_i32
  let c16_i32_3649 : BitVec 32 := 16#32
  let c0_i32_3650 : BitVec 32 := 0#32
  let v2357 : BitVec 1 := Scalar.cmpi .eq c16_i32_3649 c0_i32_3650
  let c1_i32_3651 : BitVec 32 := 1#32
  let v2358 : BitVec 32 := Scalar.select v2357 c1_i32_3651 c16_i32_3649
  let v2359 : BitVec 32 := Scalar.remsi v2356 v2358
  let c0_i32_3653 : BitVec 32 := 0#32
  let v2361 : BitVec 1 := Scalar.cmpi .slt v2359 c0_i32_3653
  let c0_i32_3654 : BitVec 32 := 0#32
  let v2362 : BitVec 1 := Scalar.cmpi .slt v2358 c0_i32_3654
  let v2363 : BitVec 1 := Scalar.xori v2361 v2362
  let c0_i32_3652 : BitVec 32 := 0#32
  let v2360 : BitVec 1 := Scalar.cmpi .ne v2359 c0_i32_3652
  let v2364 : BitVec 1 := Scalar.andi v2363 v2360
  let v2365 : BitVec 32 := Scalar.addi v2359 v2358
  let v2366 : BitVec 32 := Scalar.select v2364 v2365 v2359
  let c1_i32_3659 : BitVec 32 := 1#32
  let v2368 : BitVec 32 := Scalar.muli v2366 c1_i32_3659
  let v2369 : BitVec 32 := Scalar.addi c0_i32_3660 v2368
  v2369.toNat
def k0_dev69 (d0 : Dev nD) : Nat :=
  let c0_i32_3675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v2377 : BitVec 32 := Scalar.addi v2 c15_i32
  let c16_i32_3664 : BitVec 32 := 16#32
  let c0_i32_3665 : BitVec 32 := 0#32
  let v2378 : BitVec 1 := Scalar.cmpi .eq c16_i32_3664 c0_i32_3665
  let c1_i32_3666 : BitVec 32 := 1#32
  let v2379 : BitVec 32 := Scalar.select v2378 c1_i32_3666 c16_i32_3664
  let v2380 : BitVec 32 := Scalar.remsi v2377 v2379
  let c0_i32_3668 : BitVec 32 := 0#32
  let v2382 : BitVec 1 := Scalar.cmpi .slt v2380 c0_i32_3668
  let c0_i32_3669 : BitVec 32 := 0#32
  let v2383 : BitVec 1 := Scalar.cmpi .slt v2379 c0_i32_3669
  let v2384 : BitVec 1 := Scalar.xori v2382 v2383
  let c0_i32_3667 : BitVec 32 := 0#32
  let v2381 : BitVec 1 := Scalar.cmpi .ne v2380 c0_i32_3667
  let v2385 : BitVec 1 := Scalar.andi v2384 v2381
  let v2386 : BitVec 32 := Scalar.addi v2380 v2379
  let v2387 : BitVec 32 := Scalar.select v2385 v2386 v2380
  let c1_i32_3674 : BitVec 32 := 1#32
  let v2389 : BitVec 32 := Scalar.muli v2387 c1_i32_3674
  let v2390 : BitVec 32 := Scalar.addi c0_i32_3675 v2389
  v2390.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3904 : BitVec 32 := 8#32
  let v2578 : BitVec 32 := Scalar.muli v2 c8_i32_3904
  let v2579 : Index := Scalar.indexCast v2578
  let c0_3905 : Index := 0#32
  ![v2579.toNat, 0]
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x128 : Shape := ⟨2, ![128, 128]⟩
abbrev S128x4096 : Shape := ⟨2, ![128, 4096]⟩
abbrev S4096x128 : Shape := ⟨2, ![4096, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x4096, .f32⟩
  | .hbm, ⟨2, _⟩ => ⟨S128x4096, .f32⟩
  | .hbm, ⟨3, _⟩ => ⟨S128x4096, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S128x4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x128, .f32⟩
  | .hbm, ⟨12, _⟩ => ⟨S128x4096, .f32⟩
  | .hbm, ⟨13, _⟩ => ⟨S_, .f32⟩
  | .hbm, ⟨14, _⟩ => ⟨S128x4096, .f32⟩
  | .hbm, ⟨15, _⟩ => ⟨S128x4096, .f32⟩
  | .hbm, ⟨16, _⟩ => ⟨S128x128, .f32⟩
  | .hbm, ⟨17, _⟩ => ⟨S128x4096, .f32⟩
  | .hbm, ⟨18, _⟩ => ⟨S_, .f32⟩
  | .hbm, ⟨19, _⟩ => ⟨S128x4096, .f32⟩
  | .hbm, ⟨20, _⟩ => ⟨S128x4096, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Steps.lean ====
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.Regions

/-! The kernel's body as a sequence of named steps: one layer's product on one 32-row slab, the three sends of one slab
    in one direction of the exchange, the six waits and the sum that end such an exchange, the fifteen sends of the
    final blocks and the waits and the sum after them. The printed body is this sequence by definitional unfolding. -/

@[expose] public section

noncomputable section

namespace Mlp
open Cert.KernelIdeal Cert.KernelIdeal.Gen
open Idealize.ShloMosaic Idealize.ShloMosaic.TcCoe Idealize.SL Idealize.SL.Sem

variable {F : FTy → Type} [FloatOps F]

/-! ### The buffers, by what they hold -/

/-- The device's accumulator, 128 rows in four slabs of 32. -/
abbrev accM : Memref sig .tc .vmem S128x128 .f32 := Memref.whole cc0_scratch0
/-- Where the slabs of the other devices land. -/
abbrev commM : Memref sig .tc .vmem S2x2x3x4x32x128 .f32 := Memref.whole cc0_scratch1
/-- Where the final 8-row blocks of the other devices land. -/
abbrev rsM : Memref sig .tc .vmem S15x8x128 .f32 := Memref.whole cc0_scratch2

/-- A slab lies in the buffer; -/
theorem slab_inb (s : Fin 4) : ∀ a, (![32 * s.val, 0] : Fin 2 → Nat) a + S32x128.size a ≤ S128x128.size a := by
  revert s; decide
/-- so does a landing slot, -/
theorem slot_inb (n : Fin 4) (d : Fin 3) (s : Fin 4) :
    ∀ a, (![n.val / 2, n.val % 2, d.val, s.val, 0, 0] : Fin 6 → Nat) a + S1x1x1x1x32x128.size a ≤ S2x2x3x4x32x128.size a := by
  revert n d s; decide
/-- a transfer's semaphore, -/
theorem hsem_inb (n : Fin 4) (d : Fin 3) (s : Fin 4) :
    ∀ a, (![n.val / 2, n.val % 2, d.val, s.val] : Fin 4 → Nat) a + S1x1x1x1.size a ≤ S2x2x3x4.size a := by
  revert n d s; decide
/-- a final landing place, -/
theorem rs_inb (i : Fin 15) : ∀ a, (![i.val, 0, 0] : Fin 3 → Nat) a + S1x8x128.size a ≤ S15x8x128.size a := by
  revert i; decide
/-- and a final block's semaphore. -/
theorem fsem_inb (i : Fin 15) : ∀ a, (![i.val] : Fin 1 → Nat) a + S1.size a ≤ S15.size a := by
  revert i; decide

/-- Rows `32 s` to `32 s + 31`. -/
abbrev slabR (s : Fin 4) : Rect S128x128 := Rect.unit (s := S128x128) ![32 * s.val, 0] S32x128.size (slab_inb s)
/-- One landing place of phase `n`: the neighbour number and the slab. -/
abbrev slotR (n : Fin 4) (d : Fin 3) (s : Fin 4) : Rect S2x2x3x4x32x128 :=
  Rect.unit (s := S2x2x3x4x32x128) ![n.val / 2, n.val % 2, d.val, s.val, 0, 0] S1x1x1x1x32x128.size (slot_inb n d s)
/-- The `i`-th final landing place. -/
abbrev rsR (i : Fin 15) : Rect S15x8x128 := Rect.unit (s := S15x8x128) ![i.val, 0, 0] S1x8x128.size (rs_inb i)
/-- The 8 rows device `c` sends to the device `i + 1` further on. -/
abbrev outR (c : Dev nD) (i : Fin 15) : Rect S128x128 :=
  Rect.unit (s := S128x128) (k0_off1 c (BitVec.ofNat 32 (1 + i.val))) S8x128.size (k0_off1_inb c i)
/-- The 8 rows that stay on the device. -/
abbrev ownR (c : Dev nD) : Rect S128x128 := Rect.unit (s := S128x128) (k0_off2 c) S8x128.size (k0_off2_inb c)
/-- All of a layer's first weights, -/
abbrev winR : Rect S128x256 := Rect.unit (s := S128x256) ![0, 0] S128x256.size inb_S128x256_S128x256_0_0
/-- all of its second, -/
abbrev woutR : Rect S256x128 := Rect.unit (s := S256x128) ![0, 0] S256x128.size inb_S256x128_S256x128_0_0
/-- and all of the result. -/
abbrev resR : Rect S8x128 := Rect.unit (s := S8x128) ![0, 0] S8x128.size inb_S8x128_S8x128_0_0

/-- Slab `s` of the accumulator. -/
abbrev slabV (s : Fin 4) : Memref sig .tc .vmem S32x128 .f32 := accM.slice (slabR s) (fun _ => rfl)
/-- The landing slot of phase `n`, neighbour `d` and slab `s`. -/
abbrev slotV (n : Fin 4) (d : Fin 3) (s : Fin 4) : Memref sig .tc .vmem S32x128 .f32 :=
  (commM.slice (slotR n d s) (fun _ => rfl)).squeeze S32x128 squeezes_S1x1x1x1x32x128_S32x128
/-- The rows of the accumulator that the `i`-th final block sends. -/
abbrev outV (c : Dev nD) (i : Fin 15) : Memref sig .tc .vmem S8x128 .f32 := accM.slice (outR c i) (fun _ => rfl)
/-- The `i`-th final landing place, as the copy sees it. -/
abbrev rsV (i : Fin 15) : Memref sig .tc .vmem S8x128 .f32 :=
  (rsM.slice (rsR i) (fun _ => rfl)).squeeze S8x128 squeezes_S1x8x128_S8x128

/-! ### The semaphores -/

/-- The barrier's semaphore. -/
abbrev barS : Sem sig := (SemArray.scalar (sig.barrier 0 rfl) : Sems sig S_).sem
/-- The send semaphore of a transfer, -/
abbrev hsend (n : Fin 4) (d : Fin 3) (s : Fin 4) : DmaSem sig :=
  ((cc0_scratch3.slice (Rect.unit (s := S2x2x3x4) ![n.val / 2, n.val % 2, d.val, s.val] S1x1x1x1.size (hsem_inb n d s))).squeeze S_
    squeezes_S1x1x1x1_S_).sem
/-- and the receive semaphore. -/
abbrev hrecv (n : Fin 4) (d : Fin 3) (s : Fin 4) : DmaSem sig :=
  ((cc0_scratch4.slice (Rect.unit (s := S2x2x3x4) ![n.val / 2, n.val % 2, d.val, s.val] S1x1x1x1.size (hsem_inb n d s))).squeeze S_
    squeezes_S1x1x1x1_S_).sem
/-- The send semaphore of a final block, -/
abbrev fsend (i : Fin 15) : DmaSem sig :=
  ((cc0_scratch5.slice (Rect.unit (s := S15) ![i.val] S1.size (fsem_inb i))).squeeze S_ squeezes_S1_S_).sem
/-- and the receive semaphore. -/
abbrev frecv (i : Fin 15) : DmaSem sig :=
  ((cc0_scratch6.slice (Rect.unit (s := S15) ![i.val] S1.size (fsem_inb i))).squeeze S_ squeezes_S1_S_).sem

/-! ### The arithmetic of the steps -/

/-- One layer on one slab: the product with the first weights, its positive part, the product with the second. -/
def mlp (x : Vec F S32x128 .f32) (wi : Vec F S128x256 .f32) (wo : Vec F S256x128 .f32) : FVec F S32x128 .f32 := k0_pay2 x wi wo
/-- One layer on one slab of the accumulator, which is read without a change of shape. -/
def mlpA (x : Vec F S32x128 .f32) (wi : Vec F S128x256 .f32) (wo : Vec F S256x128 .f32) : FVec F S32x128 .f32 := k0_pay14 x wi wo
/-- The four slabs of one exchange added up. -/
def sum4 (a : Vec F S32x128 .f32) (b c d : Vec F S1x1x1x1x32x128 .f32) : FVec F S32x128 .f32 := k0_pay7 a b c d
/-- The sixteen 8-row blocks of one device's rows added up. -/
def sum16 (a : Vec F S8x128 .f32) (b : Fin 15 → Vec F S1x8x128 .f32) : FVec F S8x128 .f32 :=
  k0_pay1 (k0_pay45 (k0_pay44 a (b 0) (b 1) (b 2) (b 3) (b 4) (b 5)) (b 6)) (b 7) (b 8) (b 9) (b 10) (b 11) (b 12) (b 13) (b 14)

/-! ### The steps -/

/-- Programs of one device's core that end with no value. -/
abbrev PU (F : FTy → Type) [FloatOps F] := Prog (TpuEff nD τ sig (Elt F) Λ₀ .tc) PUnit

/-- One layer on slab `s`, from the rows of `x`, with the arithmetic `f`. -/
def compute (f : Vec F S32x128 .f32 → Vec F S128x256 .f32 → Vec F S256x128 .f32 → FVec F S32x128 .f32)
    (x : Memref sig .tc .vmem S128x128 .f32) (wi : Memref sig .tc .vmem S128x256 .f32)
    (wo : Memref sig .tc .vmem S256x128 .f32) (s : Fin 4) : PU F := do
  let a ← Prog.lift (.load x (slabR s).toLoadRect (View.loadsAt_vmem h_S32x128))
  let u ← Prog.lift (.load wi winR.toLoadRect (View.loadsAt_vmem h_S128x256))
  let v ← Prog.lift (.load wo woutR.toLoadRect (View.loadsAt_vmem h_S256x128))
  let _ ← Prog.lift (.load accM (slabR s).toLoadRect (View.loadsAt_vmem h_S32x128))
  Prog.lift (.store accM (slabR s) (f a u v) Finset.univ (View.stores_vmem_bits_univ h_S32x128 rfl) (.inl rfl))

/-- The send of slab `s` to neighbour `d`. -/
def sendHop (n : Fin 4) (s : Fin 4) (d : Fin 3) (q : Dev nD) : PU F :=
  Prog.lift (.enqueueDma (slabV s) (.remote (Dev.tc q) (slotV n d s) (.dma (hsend n d s))) (.dma (hrecv n d s))
    (View.wordExact_bits rfl) ((View.wordExact_bits rfl).reshape _ _) ⟨⟨rfl, Or.inl rfl⟩, trivial⟩)

/-- The sends of slab `s` in phase `n`, to the three neighbours. -/
def start (n : Fin 4) (s : Fin 4) (q0 q1 q2 : Dev nD) : PU F := do
  sendHop n s 0 q0
  sendHop n s 1 q1
  sendHop n s 2 q2

/-- The two waits for one neighbour: the send has left, the neighbour's slab has landed. -/
def waitHop (n : Fin 4) (s : Fin 4) (d : Fin 3) : PU F := do
  Prog.lift (.waitDma2 (hsend n d s) (slotV n d s) (slabV s) ((View.wordExact_bits rfl).reshape _ _) (View.wordExact_bits rfl))
  Prog.lift (.waitDma2 (hrecv n d s) (slabV s) (slotV n d s) (View.wordExact_bits rfl) ((View.wordExact_bits rfl).reshape _ _))

/-- The sum of the own slab and the three that landed. -/
def addHop (n : Fin 4) (s : Fin 4) : PU F := do
  let a ← Prog.lift (.load accM (slabR s).toLoadRect (View.loadsAt_vmem h_S32x128))
  let b ← Prog.lift (.load commM (slotR n 0 s).toLoadRect (View.loadsAt_vmem h_S1x1x1x1x32x128))
  let c ← Prog.lift (.load commM (slotR n 1 s).toLoadRect (View.loadsAt_vmem h_S1x1x1x1x32x128))
  let d ← Prog.lift (.load commM (slotR n 2 s).toLoadRect (View.loadsAt_vmem h_S1x1x1x1x32x128))
  let _ ← Prog.lift (.load accM (slabR s).toLoadRect (View.loadsAt_vmem h_S32x128))
  Prog.lift (.store accM (slabR s) (sum4 a b c d) Finset.univ (View.stores_vmem_bits_univ h_S32x128 rfl) (.inl rfl))

/-- The end of the exchange of slab `s` in phase `n`. -/
def finish (n : Fin 4) (s : Fin 4) : PU F := do
  waitHop n s 0
  waitHop n s 1
  waitHop n s 2
  addHop n s

/-- The send of one final block, the rows `v`. -/
def sendOut (v : Memref sig .tc .vmem S8x128 .f32) (i : Fin 15) (q : Dev nD) : PU F :=
  Prog.lift (.enqueueDma v (.remote (Dev.tc q) (rsV i) (.dma (fsend i))) (.dma (frecv i))
    (View.wordExact_bits rfl) ((View.wordExact_bits rfl).reshape _ _) ⟨⟨rfl, Or.inl rfl⟩, trivial⟩)

/-- The two waits for one final block. -/
def waitOut (v : Memref sig .tc .vmem S8x128 .f32) (i : Fin 15) : PU F := do
  Prog.lift (.waitDma2 (fsend i) (rsV i) v ((View.wordExact_bits rfl).reshape _ _) (View.wordExact_bits rfl))
  Prog.lift (.waitDma2 (frecv i) v (rsV i) (View.wordExact_bits rfl) ((View.wordExact_bits rfl).reshape _ _))

/-- The result: the own block and the fifteen that landed, added up. -/
def total (c : Dev nD) : PU F := do
  let a ← Prog.lift (.load accM (ownR c).toLoadRect (View.loadsAt_vmem h_S8x128))
  let b0 ← Prog.lift (.load rsM (rsR 0).toLoadRect (View.loadsAt_vmem h_S1x8x128))
  let b1 ← Prog.lift (.load rsM (rsR 1).toLoadRect (View.loadsAt_vmem h_S1x8x128))
  let b2 ← Prog.lift (.load rsM (rsR 2).toLoadRect (View.loadsAt_vmem h_S1x8x128))
  let b3 ← Prog.lift (.load rsM (rsR 3).toLoadRect (View.loadsAt_vmem h_S1x8x128))
  let b4 ← Prog.lift (.load rsM (rsR 4).toLoadRect (View.loadsAt_vmem h_S1x8x128))
  let b5 ← Prog.lift (.load rsM (rsR 5).toLoadRect (View.loadsAt_vmem h_S1x8x128))
  let b6 ← Prog.lift (.load rsM (rsR 6).toLoadRect (View.loadsAt_vmem h_S1x8x128))
  let b7 ← Prog.lift (.load rsM (rsR 7).toLoadRect (View.loadsAt_vmem h_S1x8x128))
  let b8 ← Prog.lift (.load rsM (rsR 8).toLoadRect (View.loadsAt_vmem h_S1x8x128))
  let b9 ← Prog.lift (.load rsM (rsR 9).toLoadRect (View.loadsAt_vmem h_S1x8x128))
  let b10 ← Prog.lift (.load rsM (rsR 10).toLoadRect (View.loadsAt_vmem h_S1x8x128))
  let b11 ← Prog.lift (.load rsM (rsR 11).toLoadRect (View.loadsAt_vmem h_S1x8x128))
  let b12 ← Prog.lift (.load rsM (rsR 12).toLoadRect (View.loadsAt_vmem h_S1x8x128))
  let b13 ← Prog.lift (.load rsM (rsR 13).toLoadRect (View.loadsAt_vmem h_S1x8x128))
  let b14 ← Prog.lift (.load rsM (rsR 14).toLoadRect (View.loadsAt_vmem h_S1x8x128))
  let _ ← Prog.lift (.load (Memref.whole cc0_stg7_0) resR.toLoadRect (View.loadsAt_vmem h_S8x128))
  Prog.lift (.store (Memref.whole cc0_stg7_0) resR (sum16 a ![b0, b1, b2, b3, b4, b5, b6, b7, b8, b9, b10, b11, b12, b13, b14]) Finset.univ
    (View.stores_vmem_bits_univ h_S8x128 rfl) (.inl rfl))

/-- The greeting: one unit on the barrier semaphore of each of the six neighbours. -/
def greet (q0 q1 q2 q3 q4 q5 : Dev nD) : PU F := do
  semSignalWord q0 barS 1#32
  semSignalWord q1 barS 1#32
  semSignalWord q2 barS 1#32
  semSignalWord q3 barS 1#32
  semSignalWord q4 barS 1#32
  semSignalWord q5 barS 1#32

/-- The body on device `c`. -/
def steps (c : Dev nD) : PU F := do
  greet ⟨k0_dev1 c, k0_dev1_lt c⟩ ⟨k0_dev2 c, k0_dev2_lt c⟩ ⟨k0_dev3 c, k0_dev3_lt c⟩ ⟨k0_dev4 c, k0_dev4_lt c⟩ ⟨k0_dev5 c, k0_dev5_lt c⟩ ⟨k0_dev6 c, k0_dev6_lt c⟩
  compute mlp (Memref.whole cc0_stg0_0) (Memref.whole cc0_stg1_0) (Memref.whole cc0_stg2_0) 0
  semWaitWord barS 6#32
  start 0 0 ⟨k0_dev7 c, k0_dev7_lt c⟩ ⟨k0_dev8 c, k0_dev8_lt c⟩ ⟨k0_dev9 c, k0_dev9_lt c⟩
  compute mlp (Memref.whole cc0_stg0_0) (Memref.whole cc0_stg1_0) (Memref.whole cc0_stg2_0) 1
  start 0 1 ⟨k0_dev10 c, k0_dev10_lt c⟩ ⟨k0_dev11 c, k0_dev11_lt c⟩ ⟨k0_dev12 c, k0_dev12_lt c⟩
  compute mlp (Memref.whole cc0_stg0_0) (Memref.whole cc0_stg1_0) (Memref.whole cc0_stg2_0) 2
  start 0 2 ⟨k0_dev13 c, k0_dev13_lt c⟩ ⟨k0_dev14 c, k0_dev14_lt c⟩ ⟨k0_dev15 c, k0_dev15_lt c⟩
  compute mlp (Memref.whole cc0_stg0_0) (Memref.whole cc0_stg1_0) (Memref.whole cc0_stg2_0) 3
  start 0 3 ⟨k0_dev16 c, k0_dev16_lt c⟩ ⟨k0_dev17 c, k0_dev17_lt c⟩ ⟨k0_dev18 c, k0_dev18_lt c⟩
  finish 0 0
  start 1 0 ⟨k0_dev19 c, k0_dev19_lt c⟩ ⟨k0_dev20 c, k0_dev20_lt c⟩ ⟨k0_dev21 c, k0_dev21_lt c⟩
  finish 0 1
  start 1 1 ⟨k0_dev22 c, k0_dev22_lt c⟩ ⟨k0_dev23 c, k0_dev23_lt c⟩ ⟨k0_dev24 c, k0_dev24_lt c⟩
  finish 0 2
  start 1 2 ⟨k0_dev25 c, k0_dev25_lt c⟩ ⟨k0_dev26 c, k0_dev26_lt c⟩ ⟨k0_dev27 c, k0_dev27_lt c⟩
  finish 0 3
  start 1 3 ⟨k0_dev28 c, k0_dev28_lt c⟩ ⟨k0_dev29 c, k0_dev29_lt c⟩ ⟨k0_dev30 c, k0_dev30_lt c⟩
  finish 1 0
  compute mlpA accM (Memref.whole cc0_stg3_0) (Memref.whole cc0_stg4_0) 0
  start 2 0 ⟨k0_dev31 c, k0_dev31_lt c⟩ ⟨k0_dev32 c, k0_dev32_lt c⟩ ⟨k0_dev33 c, k0_dev33_lt c⟩
  finish 1 1
  compute mlpA accM (Memref.whole cc0_stg3_0) (Memref.whole cc0_stg4_0) 1
  start 2 1 ⟨k0_dev34 c, k0_dev34_lt c⟩ ⟨k0_dev35 c, k0_dev35_lt c⟩ ⟨k0_dev36 c, k0_dev36_lt c⟩
  finish 1 2
  compute mlpA accM (Memref.whole cc0_stg3_0) (Memref.whole cc0_stg4_0) 2
  start 2 2 ⟨k0_dev37 c, k0_dev37_lt c⟩ ⟨k0_dev38 c, k0_dev38_lt c⟩ ⟨k0_dev39 c, k0_dev39_lt c⟩
  finish 1 3
  compute mlpA accM (Memref.whole cc0_stg3_0) (Memref.whole cc0_stg4_0) 3
  start 2 3 ⟨k0_dev40 c, k0_dev40_lt c⟩ ⟨k0_dev41 c, k0_dev41_lt c⟩ ⟨k0_dev42 c, k0_dev42_lt c⟩
  finish 2 0
  start 3 0 ⟨k0_dev43 c, k0_dev43_lt c⟩ ⟨k0_dev44 c, k0_dev44_lt c⟩ ⟨k0_dev45 c, k0_dev45_lt c⟩
  finish 2 1
  start 3 1 ⟨k0_dev46 c, k0_dev46_lt c⟩ ⟨k0_dev47 c, k0_dev47_lt c⟩ ⟨k0_dev48 c, k0_dev48_lt c⟩
  finish 2 2
  start 3 2 ⟨k0_dev49 c, k0_dev49_lt c⟩ ⟨k0_dev50 c, k0_dev50_lt c⟩ ⟨k0_dev51 c, k0_dev51_lt c⟩
  finish 2 3
  start 3 3 ⟨k0_dev52 c, k0_dev52_lt c⟩ ⟨k0_dev53 c, k0_dev53_lt c⟩ ⟨k0_dev54 c, k0_dev54_lt c⟩
  finish 3 0
  compute mlpA accM (Memref.whole cc0_stg5_0) (Memref.whole cc0_stg6_0) 0
  finish 3 1
  compute mlpA accM (Memref.whole cc0_stg5_0) (Memref.whole cc0_stg6_0) 1
  finish 3 2
  compute mlpA accM (Memref.whole cc0_stg5_0) (Memref.whole cc0_stg6_0) 2
  finish 3 3
  compute mlpA accM (Memref.whole cc0_stg5_0) (Memref.whole cc0_stg6_0) 3
  sendOut (outV c 0) 0 ⟨k0_dev55 c, k0_dev55_lt c⟩
  sendOut (outV c 1) 1 ⟨k0_dev56 c, k0_dev56_lt c⟩
  sendOut (outV c 2) 2 ⟨k0_dev57 c, k0_dev57_lt c⟩
  sendOut (outV c 3) 3 ⟨k0_dev58 c, k0_dev58_lt c⟩
  sendOut (outV c 4) 4 ⟨k0_dev59 c, k0_dev59_lt c⟩
  sendOut (outV c 5) 5 ⟨k0_dev60 c, k0_dev60_lt c⟩
  sendOut (outV c 6) 6 ⟨k0_dev61 c, k0_dev61_lt c⟩
  sendOut (outV c 7) 7 ⟨k0_dev62 c, k0_dev62_lt c⟩
  sendOut (outV c 8) 8 ⟨k0_dev63 c, k0_dev63_lt c⟩
  sendOut (outV c 9) 9 ⟨k0_dev64 c, k0_dev64_lt c⟩
  sendOut (outV c 10) 10 ⟨k0_dev65 c, k0_dev65_lt c⟩
  sendOut (outV c 11) 11 ⟨k0_dev66 c, k0_dev66_lt c⟩
  sendOut (outV c 12) 12 ⟨k0_dev67 c, k0_dev67_lt c⟩
  sendOut (outV c 13) 13 ⟨k0_dev68 c, k0_dev68_lt c⟩
  sendOut (outV c 14) 14 ⟨k0_dev69 c, k0_dev69_lt c⟩
  waitOut (outV c 0) 0
  waitOut (outV c 1) 1
  waitOut (outV c 2) 2
  waitOut (outV c 3) 3
  waitOut (outV c 4) 4
  waitOut (outV c 5) 5
  waitOut (outV c 6) 6
  waitOut (outV c 7) 7
  waitOut (outV c 8) 8
  waitOut (outV c 9) 9
  waitOut (outV c 10) 10
  waitOut (outV c 11) 11
  waitOut (outV c 12) 12
  waitOut (outV c 13) 13
  waitOut (outV c 14) 14
  total c

/-- The body. -/
def prog : PU F := Prog.lift .deviceId >>= steps

set_option maxRecDepth 65536 in
/-- The printed body on the launch's buffers is the sequence of steps. -/
theorem body_eq : (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 : PU F) = prog := by
  chain_rfl

end Mlp
-- ==== Proof.Topo.lean ====
module
public import proofs.«01_k».proof.Proof.Steps

/-! The devices as a 4 × 4 grid: the neighbours in a row and in a column, and the closed forms of the device numbers and
    offsets that the program computes. -/

@[expose] public section

noncomputable section

namespace Mlp
open Cert.KernelIdeal Cert.KernelIdeal.Gen
open Idealize.ShloMosaic Idealize.ShloMosaic.TcCoe Idealize.SL Idealize.SL.Sem

variable {F : FTy → Type} [FloatOps F]

set_option backward.proofsInPublic true in
/-- The device `a` columns and `b` rows further on the grid, around its edges. -/
def sh (a b : ℕ) (c : Dev nD) : Dev nD := ⟨4 * ((c.val / 4 + b) % 4) + (c.val % 4 + a) % 4, by have : nD = 16 := rfl; omega⟩

/-- The `e`-th neighbour: in the row for direction 0, in the column for direction 1. -/
def nxt (p : Fin 2) (e : Fin 3) (c : Dev nD) : Dev nD := if p = 0 then sh (e.val + 1) 0 c else sh 0 (e.val + 1) c
/-- The device whose `e`-th neighbour this is. -/
def prv (p : Fin 2) (e : Fin 3) (c : Dev nD) : Dev nD := nxt p e.rev c

set_option backward.proofsInPublic true in
/-- The device `i + 1` places further in the numbering: whose rows the `i`-th final block holds. -/
def fwd (i : Fin 15) (c : Dev nD) : Dev nD := ⟨(c.val + 1 + i.val) % 16, Nat.mod_lt _ (by decide)⟩
set_option backward.proofsInPublic true in
/-- The device `i + 1` places before: which sends the `i`-th final block. -/
def bwd (i : Fin 15) (c : Dev nD) : Dev nD := ⟨(c.val + 15 - i.val) % 16, Nat.mod_lt _ (by decide)⟩

/-- The direction of phase `n`. -/
def pOf (n : Fin 4) : Fin 2 := if n.val % 2 = 0 then 0 else 1

/-- The neighbour's counterpart is the device itself, -/
theorem prv_nxt (p : Fin 2) (e : Fin 3) (c : Dev nD) : prv p e (nxt p e c) = c := by revert p e c; decide +kernel
/-- in both orders. -/
theorem nxt_prv (p : Fin 2) (e : Fin 3) (c : Dev nD) : nxt p e (prv p e c) = c := by revert p e c; decide +kernel
/-- Going on by the mirrored neighbour leads back, -/
theorem nxt_rev_nxt (p : Fin 2) (e : Fin 3) (c : Dev nD) : nxt p e.rev (nxt p e c) = c := by revert p e c; decide +kernel
/-- in both orders. -/
theorem nxt_nxt_rev (p : Fin 2) (e : Fin 3) (c : Dev nD) : nxt p e (nxt p e.rev c) = c := by revert p e c; decide +kernel
/-- Places further and places before undo each other, -/
theorem bwd_fwd (i : Fin 15) (c : Dev nD) : bwd i (fwd i c) = c := by revert i c; decide +kernel
/-- in both orders. -/
theorem fwd_bwd (i : Fin 15) (c : Dev nD) : fwd i (bwd i c) = c := by revert i c; decide +kernel

/-- The neighbours as a permutation of the devices. -/
def nxtE (p : Fin 2) (e : Fin 3) : Dev nD ≃ Dev nD := ⟨nxt p e, prv p e, prv_nxt p e, nxt_prv p e⟩
/-- The places further as a permutation of the devices. -/
def fwdE (i : Fin 15) : Dev nD ≃ Dev nD := ⟨fwd i, bwd i, bwd_fwd i, fwd_bwd i⟩

/-! ### The rows of one device -/

/-- A device's rows lie in the buffer. -/
theorem blk_inb (b : Dev nD) : ∀ a, (![8 * b.val, 0] : Fin 2 → Nat) a + S8x128.size a ≤ S128x128.size a := by revert b; decide
/-- The eight rows of device `b`. -/
abbrev blkR (b : Dev nD) : Rect S128x128 := Rect.unit (s := S128x128) ![8 * b.val, 0] S8x128.size (blk_inb b)
/-- A device's rows of the accumulator. -/
abbrev blkV (b : Dev nD) : Memref sig .tc .vmem S8x128 .f32 := accM.slice (blkR b) (fun _ => rfl)

/-- The row offset of the `i`-th final block, in closed form. -/
theorem k0_off1_fwd (c : Dev nD) (i : Fin 15) : k0_off1 c (BitVec.ofNat 32 (1 + i.val)) = ![8 * (fwd i c).val, 0] := by
  revert c i; decide +kernel

/-- Rectangles at equal offsets are equal. -/
theorem unit_congr {s : Shape} {o o' : Fin s.rank → Nat} {sz : Fin s.rank → Nat} (h : ∀ a, o a + sz a ≤ s.size a)
    (h' : ∀ a, o' a + sz a ≤ s.size a) (e : o = o') : Rect.unit (s := s) o sz h = Rect.unit (s := s) o' sz h' := by
  subst e; rfl

/-- The `i`-th final block is the rows of the device it goes to. -/
theorem outV_eq (c : Dev nD) (i : Fin 15) : outV c i = blkV (fwd i c) := Memref.slice_unit_congr _ (k0_off1_fwd c i) _ _ _ _
/-- The own rows are at the device's own place. -/
theorem ownR_eq (c : Dev nD) : ownR c = blkR c := unit_congr _ _ (k0_off2_eq c)

/-! ### The device numbers of the program

`devN_eq`: the `N`-th device number that the program computes is the neighbour, in a direction, or the device some places
further, that its signal or transfer goes to. -/

theorem dev1_eq (c : Dev nD) : (⟨k0_dev1 c, k0_dev1_lt c⟩ : Dev nD) = nxt 0 0 c := by revert c; decide +kernel
theorem dev2_eq (c : Dev nD) : (⟨k0_dev2 c, k0_dev2_lt c⟩ : Dev nD) = nxt 1 0 c := by revert c; decide +kernel
theorem dev3_eq (c : Dev nD) : (⟨k0_dev3 c, k0_dev3_lt c⟩ : Dev nD) = nxt 0 1 c := by revert c; decide +kernel
theorem dev4_eq (c : Dev nD) : (⟨k0_dev4 c, k0_dev4_lt c⟩ : Dev nD) = nxt 1 1 c := by revert c; decide +kernel
theorem dev5_eq (c : Dev nD) : (⟨k0_dev5 c, k0_dev5_lt c⟩ : Dev nD) = nxt 0 2 c := by revert c; decide +kernel
theorem dev6_eq (c : Dev nD) : (⟨k0_dev6 c, k0_dev6_lt c⟩ : Dev nD) = nxt 1 2 c := by revert c; decide +kernel
theorem dev7_eq (c : Dev nD) : (⟨k0_dev7 c, k0_dev7_lt c⟩ : Dev nD) = nxt (pOf 0) 0 c := by revert c; decide +kernel
theorem dev8_eq (c : Dev nD) : (⟨k0_dev8 c, k0_dev8_lt c⟩ : Dev nD) = nxt (pOf 0) 1 c := by revert c; decide +kernel
theorem dev9_eq (c : Dev nD) : (⟨k0_dev9 c, k0_dev9_lt c⟩ : Dev nD) = nxt (pOf 0) 2 c := by revert c; decide +kernel
theorem dev10_eq (c : Dev nD) : (⟨k0_dev10 c, k0_dev10_lt c⟩ : Dev nD) = nxt (pOf 0) 0 c := by revert c; decide +kernel
theorem dev11_eq (c : Dev nD) : (⟨k0_dev11 c, k0_dev11_lt c⟩ : Dev nD) = nxt (pOf 0) 1 c := by revert c; decide +kernel
theorem dev12_eq (c : Dev nD) : (⟨k0_dev12 c, k0_dev12_lt c⟩ : Dev nD) = nxt (pOf 0) 2 c := by revert c; decide +kernel
theorem dev13_eq (c : Dev nD) : (⟨k0_dev13 c, k0_dev13_lt c⟩ : Dev nD) = nxt (pOf 0) 0 c := by revert c; decide +kernel
theorem dev14_eq (c : Dev nD) : (⟨k0_dev14 c, k0_dev14_lt c⟩ : Dev nD) = nxt (pOf 0) 1 c := by revert c; decide +kernel
theorem dev15_eq (c : Dev nD) : (⟨k0_dev15 c, k0_dev15_lt c⟩ : Dev nD) = nxt (pOf 0) 2 c := by revert c; decide +kernel
theorem dev16_eq (c : Dev nD) : (⟨k0_dev16 c, k0_dev16_lt c⟩ : Dev nD) = nxt (pOf 0) 0 c := by revert c; decide +kernel
theorem dev17_eq (c : Dev nD) : (⟨k0_dev17 c, k0_dev17_lt c⟩ : Dev nD) = nxt (pOf 0) 1 c := by revert c; decide +kernel
theorem dev18_eq (c : Dev nD) : (⟨k0_dev18 c, k0_dev18_lt c⟩ : Dev nD) = nxt (pOf 0) 2 c := by revert c; decide +kernel
theorem dev19_eq (c : Dev nD) : (⟨k0_dev19 c, k0_dev19_lt c⟩ : Dev nD) = nxt (pOf 1) 0 c := by revert c; decide +kernel
theorem dev20_eq (c : Dev nD) : (⟨k0_dev20 c, k0_dev20_lt c⟩ : Dev nD) = nxt (pOf 1) 1 c := by revert c; decide +kernel
theorem dev21_eq (c : Dev nD) : (⟨k0_dev21 c, k0_dev21_lt c⟩ : Dev nD) = nxt (pOf 1) 2 c := by revert c; decide +kernel
theorem dev22_eq (c : Dev nD) : (⟨k0_dev22 c, k0_dev22_lt c⟩ : Dev nD) = nxt (pOf 1) 0 c := by revert c; decide +kernel
theorem dev23_eq (c : Dev nD) : (⟨k0_dev23 c, k0_dev23_lt c⟩ : Dev nD) = nxt (pOf 1) 1 c := by revert c; decide +kernel
theorem dev24_eq (c : Dev nD) : (⟨k0_dev24 c, k0_dev24_lt c⟩ : Dev nD) = nxt (pOf 1) 2 c := by revert c; decide +kernel
theorem dev25_eq (c : Dev nD) : (⟨k0_dev25 c, k0_dev25_lt c⟩ : Dev nD) = nxt (pOf 1) 0 c := by revert c; decide +kernel
theorem dev26_eq (c : Dev nD) : (⟨k0_dev26 c, k0_dev26_lt c⟩ : Dev nD) = nxt (pOf 1) 1 c := by revert c; decide +kernel
theorem dev27_eq (c : Dev nD) : (⟨k0_dev27 c, k0_dev27_lt c⟩ : Dev nD) = nxt (pOf 1) 2 c := by revert c; decide +kernel
theorem dev28_eq (c : Dev nD) : (⟨k0_dev28 c, k0_dev28_lt c⟩ : Dev nD) = nxt (pOf 1) 0 c := by revert c; decide +kernel
theorem dev29_eq (c : Dev nD) : (⟨k0_dev29 c, k0_dev29_lt c⟩ : Dev nD) = nxt (pOf 1) 1 c := by revert c; decide +kernel
theorem dev30_eq (c : Dev nD) : (⟨k0_dev30 c, k0_dev30_lt c⟩ : Dev nD) = nxt (pOf 1) 2 c := by revert c; decide +kernel
theorem dev31_eq (c : Dev nD) : (⟨k0_dev31 c, k0_dev31_lt c⟩ : Dev nD) = nxt (pOf 2) 0 c := by revert c; decide +kernel
theorem dev32_eq (c : Dev nD) : (⟨k0_dev32 c, k0_dev32_lt c⟩ : Dev nD) = nxt (pOf 2) 1 c := by revert c; decide +kernel
theorem dev33_eq (c : Dev nD) : (⟨k0_dev33 c, k0_dev33_lt c⟩ : Dev nD) = nxt (pOf 2) 2 c := by revert c; decide +kernel
theorem dev34_eq (c : Dev nD) : (⟨k0_dev34 c, k0_dev34_lt c⟩ : Dev nD) = nxt (pOf 2) 0 c := by revert c; decide +kernel
theorem dev35_eq (c : Dev nD) : (⟨k0_dev35 c, k0_dev35_lt c⟩ : Dev nD) = nxt (pOf 2) 1 c := by revert c; decide +kernel
theorem dev36_eq (c : Dev nD) : (⟨k0_dev36 c, k0_dev36_lt c⟩ : Dev nD) = nxt (pOf 2) 2 c := by revert c; decide +kernel
theorem dev37_eq (c : Dev nD) : (⟨k0_dev37 c, k0_dev37_lt c⟩ : Dev nD) = nxt (pOf 2) 0 c := by revert c; decide +kernel
theorem dev38_eq (c : Dev nD) : (⟨k0_dev38 c, k0_dev38_lt c⟩ : Dev nD) = nxt (pOf 2) 1 c := by revert c; decide +kernel
theorem dev39_eq (c : Dev nD) : (⟨k0_dev39 c, k0_dev39_lt c⟩ : Dev nD) = nxt (pOf 2) 2 c := by revert c; decide +kernel
theorem dev40_eq (c : Dev nD) : (⟨k0_dev40 c, k0_dev40_lt c⟩ : Dev nD) = nxt (pOf 2) 0 c := by revert c; decide +kernel
theorem dev41_eq (c : Dev nD) : (⟨k0_dev41 c, k0_dev41_lt c⟩ : Dev nD) = nxt (pOf 2) 1 c := by revert c; decide +kernel
theorem dev42_eq (c : Dev nD) : (⟨k0_dev42 c, k0_dev42_lt c⟩ : Dev nD) = nxt (pOf 2) 2 c := by revert c; decide +kernel
theorem dev43_eq (c : Dev nD) : (⟨k0_dev43 c, k0_dev43_lt c⟩ : Dev nD) = nxt (pOf 3) 0 c := by revert c; decide +kernel
theorem dev44_eq (c : Dev nD) : (⟨k0_dev44 c, k0_dev44_lt c⟩ : Dev nD) = nxt (pOf 3) 1 c := by revert c; decide +kernel
theorem dev45_eq (c : Dev nD) : (⟨k0_dev45 c, k0_dev45_lt c⟩ : Dev nD) = nxt (pOf 3) 2 c := by revert c; decide +kernel
theorem dev46_eq (c : Dev nD) : (⟨k0_dev46 c, k0_dev46_lt c⟩ : Dev nD) = nxt (pOf 3) 0 c := by revert c; decide +kernel
theorem dev47_eq (c : Dev nD) : (⟨k0_dev47 c, k0_dev47_lt c⟩ : Dev nD) = nxt (pOf 3) 1 c := by revert c; decide +kernel
theorem dev48_eq (c : Dev nD) : (⟨k0_dev48 c, k0_dev48_lt c⟩ : Dev nD) = nxt (pOf 3) 2 c := by revert c; decide +kernel
theorem dev49_eq (c : Dev nD) : (⟨k0_dev49 c, k0_dev49_lt c⟩ : Dev nD) = nxt (pOf 3) 0 c := by revert c; decide +kernel
theorem dev50_eq (c : Dev nD) : (⟨k0_dev50 c, k0_dev50_lt c⟩ : Dev nD) = nxt (pOf 3) 1 c := by revert c; decide +kernel
theorem dev51_eq (c : Dev nD) : (⟨k0_dev51 c, k0_dev51_lt c⟩ : Dev nD) = nxt (pOf 3) 2 c := by revert c; decide +kernel
theorem dev52_eq (c : Dev nD) : (⟨k0_dev52 c, k0_dev52_lt c⟩ : Dev nD) = nxt (pOf 3) 0 c := by revert c; decide +kernel
theorem dev53_eq (c : Dev nD) : (⟨k0_dev53 c, k0_dev53_lt c⟩ : Dev nD) = nxt (pOf 3) 1 c := by revert c; decide +kernel
theorem dev54_eq (c : Dev nD) : (⟨k0_dev54 c, k0_dev54_lt c⟩ : Dev nD) = nxt (pOf 3) 2 c := by revert c; decide +kernel
theorem dev55_eq (c : Dev nD) : (⟨k0_dev55 c, k0_dev55_lt c⟩ : Dev nD) = fwd 0 c := by revert c; decide +kernel
theorem dev56_eq (c : Dev nD) : (⟨k0_dev56 c, k0_dev56_lt c⟩ : Dev nD) = fwd 1 c := by revert c; decide +kernel
theorem dev57_eq (c : Dev nD) : (⟨k0_dev57 c, k0_dev57_lt c⟩ : Dev nD) = fwd 2 c := by revert c; decide +kernel
theorem dev58_eq (c : Dev nD) : (⟨k0_dev58 c, k0_dev58_lt c⟩ : Dev nD) = fwd 3 c := by revert c; decide +kernel
theorem dev59_eq (c : Dev nD) : (⟨k0_dev59 c, k0_dev59_lt c⟩ : Dev nD) = fwd 4 c := by revert c; decide +kernel
theorem dev60_eq (c : Dev nD) : (⟨k0_dev60 c, k0_dev60_lt c⟩ : Dev nD) = fwd 5 c := by revert c; decide +kernel
theorem dev61_eq (c : Dev nD) : (⟨k0_dev61 c, k0_dev61_lt c⟩ : Dev nD) = fwd 6 c := by revert c; decide +kernel
theorem dev62_eq (c : Dev nD) : (⟨k0_dev62 c, k0_dev62_lt c⟩ : Dev nD) = fwd 7 c := by revert c; decide +kernel
theorem dev63_eq (c : Dev nD) : (⟨k0_dev63 c, k0_dev63_lt c⟩ : Dev nD) = fwd 8 c := by revert c; decide +kernel
theorem dev64_eq (c : Dev nD) : (⟨k0_dev64 c, k0_dev64_lt c⟩ : Dev nD) = fwd 9 c := by revert c; decide +kernel
theorem dev65_eq (c : Dev nD) : (⟨k0_dev65 c, k0_dev65_lt c⟩ : Dev nD) = fwd 10 c := by revert c; decide +kernel
theorem dev66_eq (c : Dev nD) : (⟨k0_dev66 c, k0_dev66_lt c⟩ : Dev nD) = fwd 11 c := by revert c; decide +kernel
theorem dev67_eq (c : Dev nD) : (⟨k0_dev67 c, k0_dev67_lt c⟩ : Dev nD) = fwd 12 c := by revert c; decide +kernel
theorem dev68_eq (c : Dev nD) : (⟨k0_dev68 c, k0_dev68_lt c⟩ : Dev nD) = fwd 13 c := by revert c; decide +kernel
theorem dev69_eq (c : Dev nD) : (⟨k0_dev69 c, k0_dev69_lt c⟩ : Dev nD) = fwd 14 c := by revert c; decide +kernel

/-- The body on device `c`, with the devices by their place on the grid. -/
def stepsN (c : Dev nD) : PU F := do
  greet (nxt 0 0 c) (nxt 1 0 c) (nxt 0 1 c) (nxt 1 1 c) (nxt 0 2 c) (nxt 1 2 c)
  compute mlp (Memref.whole cc0_stg0_0) (Memref.whole cc0_stg1_0) (Memref.whole cc0_stg2_0) 0
  semWaitWord barS 6#32
  start 0 0 (nxt (pOf 0) 0 c) (nxt (pOf 0) 1 c) (nxt (pOf 0) 2 c)
  compute mlp (Memref.whole cc0_stg0_0) (Memref.whole cc0_stg1_0) (Memref.whole cc0_stg2_0) 1
  start 0 1 (nxt (pOf 0) 0 c) (nxt (pOf 0) 1 c) (nxt (pOf 0) 2 c)
  compute mlp (Memref.whole cc0_stg0_0) (Memref.whole cc0_stg1_0) (Memref.whole cc0_stg2_0) 2
  start 0 2 (nxt (pOf 0) 0 c) (nxt (pOf 0) 1 c) (nxt (pOf 0) 2 c)
  compute mlp (Memref.whole cc0_stg0_0) (Memref.whole cc0_stg1_0) (Memref.whole cc0_stg2_0) 3
  start 0 3 (nxt (pOf 0) 0 c) (nxt (pOf 0) 1 c) (nxt (pOf 0) 2 c)
  finish 0 0
  start 1 0 (nxt (pOf 1) 0 c) (nxt (pOf 1) 1 c) (nxt (pOf 1) 2 c)
  finish 0 1
  start 1 1 (nxt (pOf 1) 0 c) (nxt (pOf 1) 1 c) (nxt (pOf 1) 2 c)
  finish 0 2
  start 1 2 (nxt (pOf 1) 0 c) (nxt (pOf 1) 1 c) (nxt (pOf 1) 2 c)
  finish 0 3
  start 1 3 (nxt (pOf 1) 0 c) (nxt (pOf 1) 1 c) (nxt (pOf 1) 2 c)
  finish 1 0
  compute mlpA accM (Memref.whole cc0_stg3_0) (Memref.whole cc0_stg4_0) 0
  start 2 0 (nxt (pOf 2) 0 c) (nxt (pOf 2) 1 c) (nxt (pOf 2) 2 c)
  finish 1 1
  compute mlpA accM (Memref.whole cc0_stg3_0) (Memref.whole cc0_stg4_0) 1
  start 2 1 (nxt (pOf 2) 0 c) (nxt (pOf 2) 1 c) (nxt (pOf 2) 2 c)
  finish 1 2
  compute mlpA accM (Memref.whole cc0_stg3_0) (Memref.whole cc0_stg4_0) 2
  start 2 2 (nxt (pOf 2) 0 c) (nxt (pOf 2) 1 c) (nxt (pOf 2) 2 c)
  finish 1 3
  compute mlpA accM (Memref.whole cc0_stg3_0) (Memref.whole cc0_stg4_0) 3
  start 2 3 (nxt (pOf 2) 0 c) (nxt (pOf 2) 1 c) (nxt (pOf 2) 2 c)
  finish 2 0
  start 3 0 (nxt (pOf 3) 0 c) (nxt (pOf 3) 1 c) (nxt (pOf 3) 2 c)
  finish 2 1
  start 3 1 (nxt (pOf 3) 0 c) (nxt (pOf 3) 1 c) (nxt (pOf 3) 2 c)
  finish 2 2
  start 3 2 (nxt (pOf 3) 0 c) (nxt (pOf 3) 1 c) (nxt (pOf 3) 2 c)
  finish 2 3
  start 3 3 (nxt (pOf 3) 0 c) (nxt (pOf 3) 1 c) (nxt (pOf 3) 2 c)
  finish 3 0
  compute mlpA accM (Memref.whole cc0_stg5_0) (Memref.whole cc0_stg6_0) 0
  finish 3 1
  compute mlpA accM (Memref.whole cc0_stg5_0) (Memref.whole cc0_stg6_0) 1
  finish 3 2
  compute mlpA accM (Memref.whole cc0_stg5_0) (Memref.whole cc0_stg6_0) 2
  finish 3 3
  compute mlpA accM (Memref.whole cc0_stg5_0) (Memref.whole cc0_stg6_0) 3
  sendOut (blkV (fwd 0 c)) 0 (fwd 0 c)
  sendOut (blkV (fwd 1 c)) 1 (fwd 1 c)
  sendOut (blkV (fwd 2 c)) 2 (fwd 2 c)
  sendOut (blkV (fwd 3 c)) 3 (fwd 3 c)
  sendOut (blkV (fwd 4 c)) 4 (fwd 4 c)
  sendOut (blkV (fwd 5 c)) 5 (fwd 5 c)
  sendOut (blkV (fwd 6 c)) 6 (fwd 6 c)
  sendOut (blkV (fwd 7 c)) 7 (fwd 7 c)
  sendOut (blkV (fwd 8 c)) 8 (fwd 8 c)
  sendOut (blkV (fwd 9 c)) 9 (fwd 9 c)
  sendOut (blkV (fwd 10 c)) 10 (fwd 10 c)
  sendOut (blkV (fwd 11 c)) 11 (fwd 11 c)
  sendOut (blkV (fwd 12 c)) 12 (fwd 12 c)
  sendOut (blkV (fwd 13 c)) 13 (fwd 13 c)
  sendOut (blkV (fwd 14 c)) 14 (fwd 14 c)
  waitOut (blkV (fwd 0 c)) 0
  waitOut (blkV (fwd 1 c)) 1
  waitOut (blkV (fwd 2 c)) 2
  waitOut (blkV (fwd 3 c)) 3
  waitOut (blkV (fwd 4 c)) 4
  waitOut (blkV (fwd 5 c)) 5
  waitOut (blkV (fwd 6 c)) 6
  waitOut (blkV (fwd 7 c)) 7
  waitOut (blkV (fwd 8 c)) 8
  waitOut (blkV (fwd 9 c)) 9
  waitOut (blkV (fwd 10 c)) 10
  waitOut (blkV (fwd 11 c)) 11
  waitOut (blkV (fwd 12 c)) 12
  waitOut (blkV (fwd 13 c)) 13
  waitOut (blkV (fwd 14 c)) 14
  total c

set_option maxRecDepth 65536 in
/-- The body with its device numbers in closed form. -/
theorem steps_eq (c : Dev nD) : (steps c : PU F) = stepsN c := by
  unfold steps stepsN
  simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq, dev63_eq, dev64_eq, dev65_eq, dev66_eq, dev67_eq, dev68_eq, dev69_eq, outV_eq]

end Mlp
-- ==== Proof.Sched.lean ====
module
public import proofs.«01_k».proof.Proof.Topo
public import Idealize.ShloMosaic.Lib.Pipeline.TalkSites
public import Idealize.ShloMosaic.Lib.ValueIdxCore
public import Mathlib.Data.Sum.Basic
public import Mathlib.Data.Fintype.Sum

/-! The protocol of the kernel: what every buffer holds at every stage, the semaphore cells, who raises each of them and
    what the raise hands over, what a device owes, and in which order. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv mem_L' mayWait_of)
open Idealize.ShloMosaic.TalkSites (Pay tallyL tallyL_pos)

variable {F : FTy → Type} [FloatOps F]

/-! ### The algebra of the ghost state -/

/-- A direction and a neighbour. -/
abbrev PE : Type := Fin 2 × Fin 3
/-- One transfer of the exchanges: the phase, the neighbour, the slab. -/
abbrev HK : Type := Fin 4 × Fin 3 × Fin 4
/-- The rounds' ghost state, with a duty named by a direction and a neighbour. -/
abbrev UB : Type := URounds (GSem nD τ sig) PE
/-- The ghost state of the pipeline and of the rounds. -/
abbrev UU : Type := UR sig nD τ × UB

local notation "𝕄" => MT nD τ sig ℕ (Elt F) ℕ UU ℕ

/-- Where the pipeline's ghost state stands in the whole, -/
abbrev EP : Emb (UR sig nD τ) (MT nD τ sig ℕ (Elt F) ℕ UU ℕ) := embL
/-- and where the rounds' stands. -/
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ### Contents -/

/-- The staged `x` of device `c`; -/
def st0 (c : Dev nD) : (cc0_stg0_0 : Ref sig .tc).ty.Contents (Elt F) :=
  (win0_0.blk (0 : Fin 1)).view.read (Elt F) ((s₀ m ρ).mem ((c : Thread nD τ).loc main_arg0))
/-- the first weights of layer 0, -/
def st1 (c : Dev nD) : (cc0_stg1_0 : Ref sig .tc).ty.Contents (Elt F) :=
  (win0_1.blk (0 : Fin 1)).view.read (Elt F) ((s₀ m ρ).mem ((c : Thread nD τ).loc main_arg1))
/-- and the second; -/
def st2 (c : Dev nD) : (cc0_stg2_0 : Ref sig .tc).ty.Contents (Elt F) :=
  (win0_2.blk (0 : Fin 1)).view.read (Elt F) ((s₀ m ρ).mem ((c : Thread nD τ).loc main_arg4))
/-- the first weights of layer 1, -/
def st3 (c : Dev nD) : (cc0_stg3_0 : Ref sig .tc).ty.Contents (Elt F) :=
  (win0_3.blk (0 : Fin 1)).view.read (Elt F) ((s₀ m ρ).mem ((c : Thread nD τ).loc main_arg2))
/-- and the second; -/
def st4 (c : Dev nD) : (cc0_stg4_0 : Ref sig .tc).ty.Contents (Elt F) :=
  (win0_4.blk (0 : Fin 1)).view.read (Elt F) ((s₀ m ρ).mem ((c : Thread nD τ).loc main_arg5))
/-- the first weights of layer 2, -/
def st5 (c : Dev nD) : (cc0_stg5_0 : Ref sig .tc).ty.Contents (Elt F) :=
  (win0_5.blk (0 : Fin 1)).view.read (Elt F) ((s₀ m ρ).mem ((c : Thread nD τ).loc main_arg3))
/-- and the second. -/
def st6 (c : Dev nD) : (cc0_stg6_0 : Ref sig .tc).ty.Contents (Elt F) :=
  (win0_6.blk (0 : Fin 1)).view.read (Elt F) ((s₀ m ρ).mem ((c : Thread nD τ).loc main_arg6))

/-- Slab `s` of device `c`'s copy of `x`. -/
def xS (c : Dev nD) (s : Fin 4) : Vec F S32x128 .f32 :=
  (Memref.whole cc0_stg0_0 : Memref sig .tc .vmem S128x128 .f32).view.readAt (Elt F) (slabR s).toLoadRect (st0 m ρ c)

/-- The first weights of layer `r` on device `c`, -/
def wi (c : Dev nD) : ℕ → Vec F S128x256 .f32
  | 0 => st1 m ρ c
  | 1 => st3 m ρ c
  | _ => st5 m ρ c
/-- and the second. -/
def wo (c : Dev nD) : ℕ → Vec F S256x128 .f32
  | 0 => st2 m ρ c
  | 1 => st4 m ρ c
  | _ => st6 m ρ c

/-- Four slabs added, from the left. -/
def add4 (a b c d : Vec F S32x128 .f32) : Vec F S32x128 .f32 :=
  shapeCast S32x128 (addf (addf (addf a b) c) d) shapeCasts_S32x128_S32x128

/-- The direction of phase `n`, counted without a bound. -/
def pN (n : ℕ) : Fin 2 := if n % 2 = 0 then 0 else 1

/-- One exchange over slabs `a` in phase `n`: the own slab and the three neighbours'. -/
def exch (a : Dev nD → Vec F S32x128 .f32) (n : ℕ) (c : Dev nD) : Vec F S32x128 .f32 :=
  add4 (a c) (a (prv (pN n) 0 c)) (a (prv (pN n) 1 c)) (a (prv (pN n) 2 c))

/-- Slab `s` of device `c`'s accumulator before the exchange of phase `n`. After an exchange along the columns the next
    layer is taken. -/
def acc : ℕ → Dev nD → Fin 4 → Vec F S32x128 .f32
  | 0, c, s => mlp (xS m ρ c s) (wi m ρ c 0) (wo m ρ c 0)
  | n + 1, c, s =>
    if n % 2 = 0 then exch (fun d => acc n d s) n c
    else mlpA (exch (fun d => acc n d s) n c) (wi m ρ c ((n + 1) / 2)) (wo m ρ c ((n + 1) / 2))

/-- The accumulator at the end, all four slabs. -/
def accF (c : Dev nD) : S128x128.Idx → Elt F .f32 := fun x =>
  acc m ρ 4 c ⟨(x 0).val / 32, by have := (x 0).isLt; show _ < 4; have h : S128x128.size 0 = 128 := rfl; omega⟩
    (ValueIdx.ix2 (⟨(x 0).val % 32, Nat.mod_lt _ (by decide)⟩ : Fin 32) ((x 1 : Fin 128)))

/-- The rows of device `u` in device `q`'s accumulator. -/
def blkX (q u : Dev nD) : S8x128.Idx → Elt F .f32 := fun j => accF m ρ q ((blkR u).emb j)

/-! ### The cells -/

/-- The kinds of cells of one device: the barrier, the send and the receive cell of every transfer, the send and the receive
    cell of every final block. -/
abbrev CK : Type := Fin 1 ⊕ (HK ⊕ HK) ⊕ (Fin 15 ⊕ Fin 15)

instance decEqCK : DecidableEq CK := @instDecidableEqSum (Fin 1) ((HK ⊕ HK) ⊕ (Fin 15 ⊕ Fin 15)) inferInstance inferInstance

/-- The barrier's kind, -/
abbrev kbar : CK := .inl 0
/-- a transfer's send cell, -/
abbrev ksnd (h : HK) : CK := .inr (.inl (.inl h))
/-- its receive cell, -/
abbrev krcv (h : HK) : CK := .inr (.inl (.inr h))
/-- a final block's send cell, -/
abbrev kfs (i : Fin 15) : CK := .inr (.inr (.inl i))
/-- its receive cell. -/
abbrev kfr (i : Fin 15) : CK := .inr (.inr (.inr i))

/-- The semaphore of a kind. -/
def csem : CK → SemLoc sig
  | .inl _ => .reg barS
  | .inr (.inl (.inl (n, d, s))) => .dma (hsend n d s)
  | .inr (.inl (.inr (n, d, s))) => .dma (hrecv n d s)
  | .inr (.inr (.inl i)) => .dma (fsend i)
  | .inr (.inr (.inr i)) => .dma (frecv i)

set_option backward.proofsInPublic true in
/-- The transfer at place `j` of the row-major table of semaphores. -/
def hkOf (j : ℕ) : HK :=
  (⟨j / 12 % 4, Nat.mod_lt _ (by decide)⟩, ⟨j / 4 % 3, Nat.mod_lt _ (by decide)⟩, ⟨j % 4, Nat.mod_lt _ (by decide)⟩)

/-- The kind of a semaphore, if it is one of the protocol's. -/
def kindOf : SemLoc sig → Option CK
  | .reg _ => some kbar
  | .dma i =>
    if i.val < 8 then none
    else if i.val < 56 then some (ksnd (hkOf (i.val - 8)))
    else if i.val < 104 then some (krcv (hkOf (i.val - 56)))
    else if h : i.val - 104 < 15 then some (kfs ⟨i.val - 104, h⟩)
    else if h : i.val - 119 < 15 then some (kfr ⟨i.val - 119, h⟩)
    else none

/-- A transfer's send cell is found again from its semaphore, -/
theorem kindOf_snd : ∀ h : HK, kindOf (csem (ksnd h)) = some (ksnd h) := by decide +kernel
/-- and its receive cell, -/
theorem kindOf_rcv : ∀ h : HK, kindOf (csem (krcv h)) = some (krcv h) := by decide +kernel
/-- a final block's send cell, -/
theorem kindOf_fs : ∀ i : Fin 15, kindOf (csem (kfs i)) = some (kfs i) := by decide +kernel
/-- its receive cell, -/
theorem kindOf_fr : ∀ i : Fin 15, kindOf (csem (kfr i)) = some (kfr i) := by decide +kernel
/-- every cell. -/
theorem kindOf_csem (k : CK) : kindOf (csem k) = some k := by
  rcases k with z | (h | h) | (i | i)
  · rw [Subsingleton.elim z 0]; rfl
  · exact kindOf_snd h
  · exact kindOf_rcv h
  · exact kindOf_fs i
  · exact kindOf_fr i
/-- Different kinds have different semaphores. -/
theorem csem_inj : Function.Injective csem := fun a b h => by
  have := congrArg kindOf h
  rw [kindOf_csem, kindOf_csem] at this
  exact Option.some.inj this

/-- Device `c`'s cell of kind `k`. -/
abbrev cell (c : Dev nD) (k : CK) : GSem nD τ sig := ((c : Thread nD τ), csem k)

/-! ### What a raise hands over -/

/-- The credit of one slab, -/
abbrev NH : ℕ := (slotV 0 0 0).view.dmaCredit
/-- and of one final block. -/
abbrev NF : ℕ := (rsV 0).view.dmaCredit
/-- A slab has bytes, -/
theorem NH_pos : 0 < NH := View.dmaCredit_pos _ (by decide)
/-- and so has a final block. -/
theorem NF_pos : 0 < NF := View.dmaCredit_pos _ (by decide)

/-- The share of the accumulator's slab that the send to neighbour `d` carries. -/
def shr : Fin 3 → PosShare TreeShare
  | 0 => fullShare.left
  | 1 => fullShare.right.left
  | 2 => fullShare.right.right

/-- A landing slot at any contents. -/
def slotAny (c : Dev nD) (n : Fin 4) (d : Fin 3) (s : Fin 4) : sProp 𝕄 := iprop(∃ X, owns (c : Thread nD τ) (slotV n d s) fullShare X)

set_option backward.proofsInPublic true in
/-- Which final block of device `t` device `u` sends. -/
def rsIx (t u : Dev nD) : Fin 15 := ⟨(t.val + 15 - u.val) % 16 % 15, Nat.mod_lt _ (by decide)⟩
/-- The place of the `i`-th further device is `i`. -/
theorem rsIx_fwd (i : Fin 15) (c : Dev nD) : rsIx (fwd i c) c = i := by revert i c; decide +kernel
/-- The landing place of a final block, at any contents: device `t`'s for what device `u` sends. -/
def rsP (t u : Dev nD) : sProp 𝕄 := iprop(∃ X, owns (t : Thread nD τ) (rsV (rsIx t u)) fullShare X)

/-- What a neighbour's signal hands over of final landing places: in a row, the neighbour's places for this device's whole
    column; in a column the neighbour's place for this device. -/
def rsGive (p : Fin 2) (t q : Dev nD) : sProp 𝕄 :=
  if p = 0 then bigSep Finset.univ fun b : Fin 4 => rsP t (sh 0 b.val q) else rsP t q

/-- What the signal of neighbour `(p, e)` of `q` hands `q`: the neighbour's landing slots for what `q` sends it, and final
    landing places. -/
def barPay (q : Dev nD) (x : PE) : sProp 𝕄 :=
  iprop((bigSep Finset.univ fun rs : Fin 2 × Fin 4 => slotAny (nxt x.1 x.2 q) ⟨2 * rs.1.val + x.1.val, by omega⟩ x.2 rs.2)
    ∗ rsGive x.1 (nxt x.1 x.2 q) q)

/-- What the first transfer along a column passes on of final landing places: those of the sender's row for the receiver. -/
def ext (n : Fin 4) (s : Fin 4) (q u : Dev nD) : sProp 𝕄 :=
  if n = 1 ∧ s = 0 then bigSep Finset.univ fun e : Fin 3 => rsP (sh (e.val + 1) 0 q) u else iprop(emp)

/-- What a landed slab hands its receiver. -/
def rcvPay (u : Dev nD) (h : HK) : sProp 𝕄 :=
  iprop(owns (u : Thread nD τ) (slotV h.1 h.2.1 h.2.2) fullShare (acc m ρ h.1.val (prv (pOf h.1) h.2.1 u) h.2.2)
    ∗ ext h.1 h.2.2 (prv (pOf h.1) h.2.1 u) u)
/-- What a slab that has left hands its sender: the share of the slab it carried. -/
def sndPay (u : Dev nD) (h : HK) : sProp 𝕄 :=
  owns (u : Thread nD τ) (slabV h.2.2) (shr h.2.1) (acc m ρ h.1.val u h.2.2)

/-- The same for the final blocks. -/
def fsPay (u : Dev nD) (i : Fin 15) : sProp 𝕄 := owns (u : Thread nD τ) (blkV (fwd i u)) fullShare (blkX m ρ u (fwd i u))
/-- What a landed final block hands its receiver. -/
def frPay (u : Dev nD) (i : Fin 15) : sProp 𝕄 := owns (u : Thread nD τ) (rsV i) fullShare (blkX m ρ (bwd i u) u)

/-- What a duty hands over, by the kind of its cell. -/
def payK (u : Dev nD) (x : PE) : CK → sProp 𝕄
  | .inl _ => barPay u x
  | .inr (.inl (.inl h)) => sndPay m ρ u h
  | .inr (.inl (.inr h)) => rcvPay m ρ u h
  | .inr (.inr (.inl i)) => fsPay m ρ u i
  | .inr (.inr (.inr i)) => frPay m ρ u i
/-- The duties of a cell, by its kind: six signals at the barrier, one transfer elsewhere. -/
def dutK : CK → Finset PE
  | .inl _ => Finset.univ
  | .inr _ => {(0, 0)}
/-- By how much one duty raises a cell. -/
def amtK : CK → ℕ
  | .inl _ => 1
  | .inr (.inl _) => NH
  | .inr (.inr _) => NF
/-- Every duty raises its cell. -/
theorem amtK_pos : ∀ k, 0 < amtK k
  | .inl _ => Nat.one_pos
  | .inr (.inl _) => NH_pos
  | .inr (.inr _) => NF_pos

instance slotAny_storable (c : Dev nD) (n d s) : BI.Storable (upEmb : UEmb _ 𝕄) (slotAny (F := F) c n d s) := by unfold slotAny; infer_instance
instance rsP_storable (t u : Dev nD) : BI.Storable (upEmb : UEmb _ 𝕄) (rsP (F := F) t u) := by unfold rsP; infer_instance
instance rsGive_storable (p : Fin 2) (t q : Dev nD) : BI.Storable (upEmb : UEmb _ 𝕄) (rsGive (F := F) p t q) := by unfold rsGive; split <;> infer_instance
instance ext_storable (n s : Fin 4) (q u : Dev nD) : BI.Storable (upEmb : UEmb _ 𝕄) (ext (F := F) n s q u) := by unfold ext; split <;> infer_instance
instance payK_storable (u : Dev nD) (x : PE) (k : CK) : BI.Storable (upEmb : UEmb _ 𝕄) (payK m ρ u x k) := by
  unfold payK barPay sndPay rcvPay fsPay frPay; split <;> infer_instance

/-- The schedule: one round; in it the six signals of the barrier cell and one transfer at every other cell. -/
def Rd : Rounds.Schedule (GSem nD τ sig) PE 𝕄 where
  duties g r := if r = 0 ∧ g.1.2 = .tc then (match kindOf g.2 with | some k => dutK k | none => ∅) else ∅
  unitless _ := False
  amount g _ _ := match kindOf g.2 with | some k => amtK k | none => 1
  payload g _ x := match kindOf g.2 with | some k => payK m ρ g.1.1 x k | none => iprop(emp)
  amount_pos g _ _ _ := by split; exacts [amtK_pos _, Nat.one_pos]

instance Rd_storable (g : GSem nD τ sig) (r : ℕ) (x : PE) : BI.Storable (upEmb : UEmb _ 𝕄) ((Rd m ρ).payload g r x) := by
  show BI.Storable upEmb (match kindOf g.2 with | some k => payK m ρ g.1.1 x k | none => iprop(emp))
  split <;> infer_instance

/-- The duties of a device's cell in its one round. -/
theorem duties_cell (c : Dev nD) (k : CK) : (Rd m ρ).duties (cell c k) 0 = dutK k := by
  dsimp only [Rd]; rw [if_pos ⟨rfl, rfl⟩, kindOf_csem]
/-- There is no later round. -/
theorem duties_later (g : GSem nD τ sig) : ∀ r, 1 ≤ r → (Rd m ρ).duties g r = ∅ := fun r hr => if_neg fun h => by omega
/-- By how much a duty raises a device's cell. -/
theorem amount_cell (c : Dev nD) (k : CK) (x : PE) : (Rd m ρ).amount (cell c k) 0 x = amtK k := by
  show (match kindOf (csem k) with | some k => amtK k | none => 1) = _
  rw [kindOf_csem]
/-- What a duty on a device's cell hands over. -/
theorem payload_cell (c : Dev nD) (k : CK) (x : PE) : (Rd m ρ).payload (cell c k) 0 x = payK m ρ c x k := by
  show (match kindOf (csem k) with | some k => payK m ρ c x k | none => iprop(emp)) = _
  rw [kindOf_csem]
/-- Every neighbour's signal is a duty of the barrier. -/
theorem mem_duties_bar (c : Dev nD) (x : PE) : x ∈ (Rd m ρ).duties (cell c kbar) 0 := by rw [duties_cell]; exact Finset.mem_univ _
/-- Every other cell has its one duty. -/
theorem mem_duties (c : Dev nD) (k : (HK ⊕ HK) ⊕ (Fin 15 ⊕ Fin 15)) : ((0, 0) : PE) ∈ (Rd m ρ).duties (cell c (.inr k)) 0 := by
  rw [duties_cell]; exact Finset.mem_singleton_self _

/-- The barrier's round is six signals, -/
theorem expect_bar (c : Dev nD) : (Rd m ρ).expect (cell c kbar) 0 = 6 := by
  unfold Schedule.expect Schedule.amountOf
  rw [Finset.sum_congr rfl fun x _ => amount_cell m ρ c kbar x, duties_cell]; rfl
/-- every other cell's is its one transfer. -/
theorem expect_cell (c : Dev nD) (k : (HK ⊕ HK) ⊕ (Fin 15 ⊕ Fin 15)) : (Rd m ρ).expect (cell c (.inr k)) 0 = amtK (.inr k) := by
  unfold Schedule.expect Schedule.amountOf
  rw [Finset.sum_congr rfl fun x _ => amount_cell m ρ c (.inr k) x, duties_cell]
  exact Finset.sum_singleton _ _
/-- A full wait on the barrier hands over what all six signals bring, -/
theorem rest_bar (c : Dev nD) : bigSep ((Rd m ρ).duties (cell c kbar) 0 \ ∅) (fun x => (Rd m ρ).payload (cell c kbar) 0 x)
    = bigSep Finset.univ fun x : PE => (barPay c x : sProp 𝕄) := by
  rw [Finset.sdiff_empty, duties_cell]
  exact congrArg (bigSep _) (funext fun x => payload_cell m ρ c kbar x)
/-- and one on another cell what its transfer brings. -/
theorem rest_cell (c : Dev nD) (k : (HK ⊕ HK) ⊕ (Fin 15 ⊕ Fin 15)) :
    bigSep ((Rd m ρ).duties (cell c (.inr k)) 0 \ ∅) (fun x => (Rd m ρ).payload (cell c (.inr k)) 0 x) = payK m ρ c (0, 0) (.inr k) := by
  rw [Finset.sdiff_empty, duties_cell]
  show bigSep {(0, 0)} _ = _
  rw [bigSep_singleton, payload_cell]

/-! ### What a device owes -/

/-- The payments of a device: a signal, a slab, a final block. -/
abbrev DK : Type := PE ⊕ HK ⊕ Fin 15

/-- Whom it is paid to. -/
def dtgt (c : Dev nD) : DK → Dev nD
  | .inl (p, e) => nxt p e c
  | .inr (.inl (n, d, _)) => nxt (pOf n) d c
  | .inr (.inr i) => fwd i c
/-- At which cell. -/
def dcell : DK → CK
  | .inl _ => kbar
  | .inr (.inl h) => krcv h
  | .inr (.inr i) => kfr i
/-- The level: the signals first, then the phases in order, then the final blocks. Staging and send cells are at 0. -/
def dlev : DK → ℕ
  | .inl _ => 1
  | .inr (.inl (n, _, _)) => 2 + n.val
  | .inr (.inr _) => 6

/-- What paying a due raises, at which level and by how much. -/
def payOf (c : Dev nD) (k : DK) : Pay nD τ sig := (cell (dtgt c k) (dcell k), dlev k, amtK (dcell k))
/-- The payments that device `c` will receive. -/
def credOf (c : Dev nD) (k : DK) : Pay nD τ sig := (cell c (dcell k), dlev k, amtK (dcell k))

/-- All payments in the order in which the program makes them. -/
def sigDues : List DK := [.inl (0, 0), .inl (1, 0), .inl (0, 1), .inl (1, 1), .inl (0, 2), .inl (1, 2)]
/-- The dues of the exchanges, in the order of the program. -/
def hopDues : List DK := ([0, 1, 2, 3] : List (Fin 4)).flatMap fun n => ([0, 1, 2, 3] : List (Fin 4)).flatMap fun s =>
  ([0, 1, 2] : List (Fin 3)).map fun d => .inr (.inl (n, d, s))
/-- The dues of the final sends. -/
def outDues : List DK := ([0, 1, 2, 3, 4, 5, 6, 7, 8, 9, 10, 11, 12, 13, 14] : List (Fin 15)).map fun i => .inr (.inr i)
/-- All dues of a device, in the order of the program. -/
def allDues : List DK := sigDues ++ (hopDues ++ outDues)

/-- What remains to be paid after the first `k` payments. -/
def dues (k : ℕ) : List DK := allDues.drop k

/-- What device `c` owes, the payments `l` remaining. -/
abbrev owedL (c : Dev nD) (l : List DK) : CellTallies nD τ sig ℕ := tallyL (l.map (payOf c))
/-- Device `c` owes the payments `l`. -/
def ow (c : Dev nD) (l : List DK) : sProp 𝕄 := iprop(∃ W, owes (c : Thread nD τ) (owedL c l) W)

/-- One due more is owed on top of the rest. -/
theorem owedL_cons (c : Dev nD) (k : DK) (l : List DK) :
    owedL c (k :: l) = owedL c l + tallyAt (cell (dtgt c k) (dcell k)) (dlev k) (amtK (dcell k)) := by
  show tallyL (payOf c k :: l.map (payOf c)) = _
  rw [tallyL, add_comm]; rfl

/-- Seven levels. -/
abbrev NL : ℕ := 7
/-- The levels of the dues are among those that the launch declares. -/
theorem dlev_lt (k : DK) : dlev k < NL := by
  rcases k with ⟨p, e⟩ | ⟨n, d, s⟩ | i
  · show 1 < 7; omega
  · show 2 + n.val < 7; omega
  · show 6 < 7; omega

/-- A wait at level `i` is allowed where all that is owed is at higher levels. -/
theorem mayWait (c : Dev nD) (sm : SemLoc sig) (i : ℕ) (l : List DK) (hi : i < NL) (hl : ∀ k ∈ l, i < dlev k) :
    (levAts (L NL) lv : sProp 𝕄) ⊢ MayWait (c : Thread nD τ) sm i (owedL c l) :=
  mayWait_of hi c sm _ fun g k h => by
    obtain ⟨x, hx, rfl, rfl⟩ := tallyL_pos h
    obtain ⟨y, hy, rfl⟩ := List.mem_map.mp hx
    exact ⟨mem_L' rfl (dlev_lt y), hl y hy⟩

end Mlp
-- ==== Proof.Rules.lean ====
module
public import proofs.«01_k».proof.Proof.Sched
public import Idealize.ShloMosaic.Lib.MemrefSat

/-! The single effects of the body, each as one rule over what the protocol gives: a load and a store of an owned slab, a
    signal, a transfer, a wait with the closing of its cell. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (ρ : Dev nD → PrngReg)

/-- No recursion: the program's calls need no measure. -/
abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ### The records of all cells -/

/-- The invariants of all cells, under the names `K`, and that all cells have reached their round; the levels. -/
def records (K : Dev nD × CK → ℕ) : sProp 𝕄 :=
  iprop((bigSep Finset.univ fun x : Dev nD × CK => cellInv ER (Rd m ρ) (K x) (cell x.1 x.2))
    ∗ (bigSep Finset.univ fun x : Dev nD × CK => reached ER (cell x.1 x.2) 0) ∗ levAts (L NL) lv)

instance records_persistent (K : Dev nD × CK → ℕ) : BI.Persistent (records m ρ K) := by unfold records; infer_instance

variable (K : Dev nD × CK → ℕ)

/-- The records give each cell's invariant, -/
theorem records_inv (c : Dev nD) (k : CK) : records m ρ K ⊢ cellInv ER (Rd m ρ) (K (c, k)) (cell c k) := by
  have h : (bigSep Finset.univ fun x : Dev nD × CK => (cellInv ER (Rd m ρ) (K x) (cell x.1 x.2) : sProp 𝕄))
      ⊢ cellInv ER (Rd m ρ) (K (c, k)) (cell c k) := bigSep_elim (Finset.mem_univ (c, k))
  unfold records
  iintro ⟨H, -, -⟩
  iapply h; iexact H
/-- that it has reached its round, -/
theorem records_reached (c : Dev nD) (k : CK) : records m ρ K ⊢ reached ER (cell c k) 0 := by
  have h : (bigSep Finset.univ fun x : Dev nD × CK => (reached ER (cell x.1 x.2) 0 : sProp 𝕄))
      ⊢ reached ER (cell c k) 0 := bigSep_elim (Finset.mem_univ (c, k))
  unfold records
  iintro ⟨-, H, -⟩
  iapply h; iexact H
/-- and the levels. -/
theorem records_lev : records m ρ K ⊢ levAts (L NL) lv := by
  unfold records
  iintro ⟨-, -, H⟩; iexact H

set_option maxRecDepth 20000 in
/-- A wait is allowed when everything still owed lies above it. -/
theorem records_mayWait (c : Dev nD) (sm : SemLoc sig) (i : ℕ) (l : List DK) (hi : i < NL) (hl : ∀ k ∈ l, i < dlev k) :
    records m ρ K ⊢ MayWait (c : Thread nD τ) sm i (owedL c l) := (records_lev m ρ K).trans (mayWait c sm i l hi hl)

/-- What a transfer wrote into a whole view is what the view holds. -/
theorem owns_of_write {c : Thread nD τ} {sp : Space} {s : Shape} {e : EltTy} (M : Memref sig c.2.kind sp s e)
    (f : Buf (Elt F) (M.view.loc c)) (w X : s.Idx → Elt F e) (h : w = X) :
    (M.view.loc c ↦[M.view.set]{fullShare} (M.view.write (Elt F) f w Finset.univ) : sProp (MT nD τ sig ℕ (Elt F) ℕ UU ℕ))
      ⊢ owns c M fullShare X := by
  unfold owns
  iintro H
  iexists _
  isplitr
  rotate_left
  · iexact H
  · ipureintro; exact (View.read_write_univ _ _).trans h

variable (c : Dev nD) {α : Type} (Q : α → sProp (MT nD τ sig ℕ (Elt F) ℕ UU ℕ))

/-! ### Loads and stores -/

/-- A load of an owned part of a buffer reads what it holds. -/
theorem load_wp {sp : CoreSpace} {s : Shape} {e : EltTy} {M : Memref sig .tc sp s e} (r : Rect s) (hr : ∀ a, r.stride a = 1)
    {hl : M.view.LoadsAt r.toLoadRect} (q : PosShare TreeShare) (X : r.shape.Idx → Elt F e)
    {k : (r.shape.Idx → Elt F e) → Prog (TpuEff nD τ sig (Elt F) Λ₀ .tc) α} :
    owns (c : Thread nD τ) (M.slice r hr) q X
      ⊢ iprop((owns (c : Thread nD τ) (M.slice r hr) q X -∗ WP c (k X) Q) -∗ WP c (.op (.load M r.toLoadRect hl) k) Q) := by
  iintro H Hk
  ihave H' := (show owns (c : Thread nD τ) (M.slice r hr) q X
      ⊢ iprop(∃ f, ⌜(M.access r).read (Elt F) f = X⌝ ∗ ((M.access r).loc (c : Thread nD τ) ↦[(M.access r).set]{q} f)) from .rfl) $$ H
  icases H' with ⟨%f, %hf, H⟩
  subst hf
  iapply (wp_load_rect 𝒱₀ (c : Thread nD τ) none Set.univ (m := M) (r := r) (Finset.Subset.refl _)) $$ H
  iintro H
  iapply Hk
  unfold owns
  iexists f
  isplitr; · (ipureintro; rfl)
  iexact H

/-- A load of a part that is owned through a reshaped view: the value read is the reshaped contents. -/
theorem load_sq_wp {sp : CoreSpace} {s s' : Shape} {e : EltTy} {M : Memref sig .tc sp s e} (r : Rect s) (hr : ∀ a, r.stride a = 1)
    (hq : r.shape.Squeezes s') (hc : r.shape.ShapeCasts s')
    {hl : M.view.LoadsAt r.toLoadRect} (q : PosShare TreeShare) (X : s'.Idx → Elt F e)
    {k : (r.shape.Idx → Elt F e) → Prog (TpuEff nD τ sig (Elt F) Λ₀ .tc) α} :
    owns (c : Thread nD τ) ((M.slice r hr).squeeze s' hq) q X
      ⊢ iprop((∀ v, ⌜shapeCast s' v hc = X⌝ -∗ owns (c : Thread nD τ) ((M.slice r hr).squeeze s' hq) q X -∗ WP c (k v) Q)
        -∗ WP c (.op (.load M r.toLoadRect hl) k) Q) := by
  have hset : (M.access r).set ⊆ ((M.slice r hr).squeeze s' hq).view.set := by
    rw [show ((M.slice r hr).squeeze s' hq).view.set = (M.access r).set from View.set_reshape ..]
  iintro H Hk
  ihave H' := (show owns (c : Thread nD τ) ((M.slice r hr).squeeze s' hq) q X
      ⊢ iprop(∃ f, ⌜((M.slice r hr).squeeze s' hq).view.read (Elt F) f = X⌝
        ∗ ((M.access r).loc (c : Thread nD τ) ↦[((M.slice r hr).squeeze s' hq).view.set]{q} f)) from .rfl) $$ H
  icases H' with ⟨%f, %hf, H⟩
  subst hf
  iapply (wp_load_rect 𝒱₀ (c : Thread nD τ) none Set.univ (m := M) (r := r) hset) $$ H
  iintro H
  iapply Hk
  · ipureintro; rfl
  unfold owns
  iexists f
  isplitr; · (ipureintro; rfl)
  iexact H

/-- A store into an owned part of a buffer. -/
theorem store_wp {sp : CoreSpace} {s : Shape} {e : EltTy} {M : Memref sig .tc sp s e} (r : Rect s) (hr : ∀ a, r.stride a = 1)
    (w : r.shape.Idx → Elt F e) {hx : (M.access r).Stores Finset.univ} {hm}
    (X : r.shape.Idx → Elt F e) {k : PUnit → Prog (TpuEff nD τ sig (Elt F) Λ₀ .tc) α} :
    owns (c : Thread nD τ) (M.slice r hr) fullShare X
      ⊢ iprop((owns (c : Thread nD τ) (M.slice r hr) fullShare w -∗ WP c (k ⟨⟩) Q) -∗ WP c (.op (.store M r w Finset.univ hx hm) k) Q) := by
  iintro H Hk
  ihave H' := (show owns (c : Thread nD τ) (M.slice r hr) fullShare X
      ⊢ iprop(∃ f, ⌜(M.access r).read (Elt F) f = X⌝ ∗ ((M.access r).loc (c : Thread nD τ) ↦[(M.access r).set]{fullShare} f)) from .rfl) $$ H
  icases H' with ⟨%f, -, H⟩
  iapply (wp_store 𝒱₀ (c : Thread nD τ) none Set.univ (m := M) (r := r) (Mk := Finset.univ) (by rw [View.setOn_univ])) $$ H
  iintro H
  iapply Hk
  unfold owns
  iexists _
  isplitr
  rotate_left
  · iexact H
  · ipureintro; exact View.read_write_univ _ _

/-! ### Signals, waits, transfers -/

variable (l : List DK)

/-- The signal to neighbour `(p, e)`. -/
theorem signal_wp (p : Fin 2) (e : Fin 3) {k : PUnit → Prog (TpuEff nD τ sig (Elt F) Λ₀ .tc) α} :
    iprop(records m ρ K ∗ ow c (.inl (p, e) :: l) ∗ dutyTok ER (cell (nxt p e c) kbar) 0 ((p, e.rev) : PE)
        ∗ barPay (nxt p e c) (p, e.rev))
      ⊢ iprop((ow c l -∗ WP c (k ⟨⟩) Q) -∗ WP c (semSignalWord (nxt p e c) barS 1#32 >>= k) Q) := by
  show _ ⊢ iprop(_ -∗ WP c (.op (.semSignal (nxt p e c : Thread nD τ) barS 1) k) Q)
  iintro ⟨#HR, Ho, Ht, Hp⟩ Hk
  unfold ow
  icases Ho with ⟨%W, HO⟩
  iapply (Rounds.wp_signal 𝒱₀ ER (Rd m ρ) (c : Thread nD τ) none (dst := (nxt p e c : Thread nD τ)) (κ := K (nxt p e c, kbar))
      (d := (p, e.rev)) (r := 0) (mem_duties_bar m ρ (nxt p e c) (p, e.rev)) (amount_cell m ρ (nxt p e c) kbar _) 1 (owedL c l)
      (owedL_cons c (.inl (p, e)) l)) $$ [HO Ht Hp]
  · isplitr; · iapply (records_inv m ρ K (nxt p e c) kbar); iexact HR
    isplitl [HO]; · iexact HO
    isplitl [Ht]; · iexact Ht
    isplitl [Hp]; · iapply (show barPay (nxt p e c) (p, e.rev) ⊢ (Rd m ρ).payload ((nxt p e c : Thread nD τ), .reg barS) 0 (p, e.rev) from (Entails.of_eq (payload_cell m ρ (nxt p e c) kbar (p, e.rev)).symm)); iexact Hp
    iapply (records_reached m ρ K (nxt p e c) kbar); iexact HR
  iintro HO
  iapply Hk
  iexists W; iexact HO

/-- The wait for the six signals. -/
theorem barrier_wp (hl : ∀ k ∈ l, 1 < dlev k) {k : PUnit → Prog (TpuEff nD τ sig (Elt F) Λ₀ .tc) α} :
    iprop(records m ρ K ∗ cred (tallyAt (cell c kbar) 1 6) ∗ ow c l ∗ atPos ER (cell c kbar) 0 (∅ : Finset PE) 0)
      ⊢ iprop(((ow c l ∗ (bigSep Finset.univ fun x : PE => barPay c x) ∗ semVal (cell c kbar) 0) -∗ WP c (k ⟨⟩) Q)
        -∗ WP c (semWaitWord barS 6#32 >>= k) Q) := by
  show _ ⊢ iprop(_ -∗ WP c (.op (.semWait barS 6) k) Q)
  iintro ⟨#HR, Hc, Ho, Hat⟩ Hk
  unfold ow
  icases Ho with ⟨%W, HO⟩
  iapply (Rounds.wp_wait_rest_token 𝒱₀ ER (Rd m ρ) (c : Thread nD τ) none (κ := K (c, kbar))
      (wpE_semWait_eq 𝒱₀ (c : Thread nD τ) none Set.univ) (Set.mem_univ _) 1 (O := owedL c l) (W := W) (R := 0) (m := 0) (T := ∅)
      (show 0 + 6 = (Rd m ρ).expect (cell c kbar) 0 by rw [expect_bar])) $$ [Hc HO Hat]
  · isplitr; · iapply (records_inv m ρ K c kbar); iexact HR
    isplitl [Hc]; · iexact Hc
    isplitl [HO]; · iexact HO
    isplitr; · iapply (records_mayWait m ρ K c _ 1 l (by decide) hl); iexact HR
    iexact Hat
  iintro ⟨HO, Hat, -, Hpay⟩
  imod (Rounds.cell_close ER (Rd m ρ) (Set.mem_univ (K (c, kbar))) (fun h => h) (R := 0 + 1) (duties_later m ρ (cell c kbar))) $$ [Hat] with Hz
  · isplitr; · iapply (records_inv m ρ K c kbar); iexact HR
    iexact Hat
  iapply Hk
  isplitl [HO]; · iexists _; iexact HO
  isplitl [Hpay]; · iapply (Entails.of_eq (rest_bar m ρ c)); iexact Hpay
  iexact Hz

/-- A wait for a transfer: its payload, and the cell closed. -/
theorem wait_wp (kd : (HK ⊕ HK) ⊕ (Fin 15 ⊕ Fin 15)) (i : ℕ) (hi : i < NL) (hl : ∀ k ∈ l, i < dlev k)
    {w : TpuEff nD τ sig (Elt F) Λ₀ .tc PUnit}
    (hw : ∀ G : PUnit → sProp 𝕄, wpE (defs₀ (F := F)) 𝒱₀ (c : Thread nD τ) none Set.univ w G
      = waitSpec (c : Thread nD τ) Set.univ (csem (.inr kd)) (amtK (.inr kd)) G)
    {k : PUnit → Prog (TpuEff nD τ sig (Elt F) Λ₀ .tc) α} :
    iprop(records m ρ K ∗ cred (tallyAt (cell c (.inr kd)) i (amtK (.inr kd))) ∗ ow c l ∗ atPos ER (cell c (.inr kd)) 0 (∅ : Finset PE) 0)
      ⊢ iprop(((ow c l ∗ payK m ρ c (0, 0) (.inr kd) ∗ semVal (cell c (.inr kd)) 0) -∗ WP c (k ⟨⟩) Q) -∗ WP c (.op w k) Q) := by
  iintro ⟨#HR, Hc, Ho, Hat⟩ Hk
  unfold ow
  icases Ho with ⟨%W, HO⟩
  iapply (Rounds.wp_wait_rest_token 𝒱₀ ER (Rd m ρ) (c : Thread nD τ) none (κ := K (c, .inr kd))
      hw (Set.mem_univ _) i (O := owedL c l) (W := W) (R := 0) (m := 0) (T := ∅)
      (by rw [Nat.zero_add, expect_cell])) $$ [Hc HO Hat]
  · isplitr; · iapply (records_inv m ρ K c (.inr kd)); iexact HR
    isplitl [Hc]; · iexact Hc
    isplitl [HO]; · iexact HO
    isplitr; · iapply (records_mayWait m ρ K c _ i l hi hl); iexact HR
    iexact Hat
  iintro ⟨HO, Hat, -, Hpay⟩
  imod (Rounds.cell_close ER (Rd m ρ) (Set.mem_univ (K (c, .inr kd))) (fun h => h) (R := 0 + 1) (duties_later m ρ (cell c (.inr kd)))) $$ [Hat] with Hz
  · isplitr; · iapply (records_inv m ρ K c (.inr kd)); iexact HR
    iexact Hat
  iapply Hk
  isplitl [HO]; · iexists _; iexact HO
  isplitl [Hpay]; · iapply (Entails.of_eq (rest_cell m ρ c kd)); iexact Hpay
  iexact Hz

/-- The transfer of slab `s` to neighbour `d` in phase `n`. -/
theorem sendHop_wp (n : Fin 4) (s : Fin 4) (d : Fin 3) {k : PUnit → Prog (TpuEff nD τ sig (Elt F) Λ₀ .tc) α} :
    iprop(records m ρ K ∗ owns (c : Thread nD τ) (slabV s) (shr d) (acc m ρ n.val c s) ∗ slotAny (nxt (pOf n) d c) n d s
        ∗ ext n s c (nxt (pOf n) d c) ∗ ow c (.inr (.inl (n, d, s)) :: l)
        ∗ dutyTok ER (cell c (ksnd (n, d, s))) 0 ((0, 0) : PE) ∗ dutyTok ER (cell (nxt (pOf n) d c) (krcv (n, d, s))) 0 ((0, 0) : PE))
      ⊢ iprop(((cred (tallyAt (cell c (ksnd (n, d, s))) 0 NH) ∗ ow c l) -∗ WP c (k ⟨⟩) Q)
        -∗ WP c (sendHop n s d (nxt (pOf n) d c) >>= k) Q) := by
  iintro ⟨#HR, Hsl, Hd, Hx, Ho, Ht1, Ht2⟩ Hk
  unfold ow slotAny
  icases Ho with ⟨%W, HO⟩
  unfold owns
  icases Hsl with ⟨%fs, %hfs, Hs⟩
  icases Hd with ⟨%X, %fd, -, Hd⟩
  unfold sendHop
  simp only [Prog.lift, Prog.bind_op, Prog.bind_ret]
  iapply (Rounds.wp_send_pointsTo_with 𝒱₀ ER (Rd m ρ) (c : Thread nD τ) none (κ₁ := K (c, ksnd (n, d, s))) (κ₂ := K (nxt (pOf n) d c, krcv (n, d, s)))
      (c' := (nxt (pOf n) d c : Thread nD τ)) (src := slabV s) (dst := slotV n d s) (sS := .dma (hsend n d s)) (sem := .dma (hrecv n d s))
      (F := ext n s c (nxt (pOf n) d c)) (fs := fs) (fd := fd) (q := shr d)
      (r₁ := 0) (r₂ := 0) (d₁ := ((0, 0) : PE)) (d₂ := ((0, 0) : PE))
      (mem_duties m ρ c (.inl (.inl (n, d, s)))) (mem_duties m ρ (nxt (pOf n) d c) (.inl (.inr (n, d, s))))
      (2 + n.val) 0 NH rfl (amount_cell m ρ c (ksnd (n, d, s)) _) (amount_cell m ρ (nxt (pOf n) d c) (krcv (n, d, s)) _) (owedL c l)
      (owedL_cons c (.inr (.inl (n, d, s))) l) (W := W)
      (by
        refine .trans ?_ (Entails.of_eq (payload_cell m ρ c (ksnd (n, d, s)) (0, 0)).symm)
        show _ ⊢ iprop(∃ f, ⌜(slabV s).view.read (Elt F) f = _⌝ ∗ ((slabV s).view.loc (c : Thread nD τ) ↦[(slabV s).view.set]{shr d} f))
        iintro H
        iexists fs
        isplitr; · ipureintro; exact hfs
        iexact H)
      (by
        refine .trans ?_ (Entails.of_eq (payload_cell m ρ (nxt (pOf n) d c) (krcv (n, d, s)) (0, 0)).symm)
        show _ ⊢ rcvPay m ρ (nxt (pOf n) d c) (n, d, s)
        unfold rcvPay
        dsimp only
        rw [prv_nxt]
        iintro ⟨H, Hx⟩
        isplitl [H]
        · iapply (owns_of_write (c := (nxt (pOf n) d c : Thread nD τ)) (slotV n d s) _ _ _ hfs)
          iexact H
        iexact Hx)) $$ [Hs Hd Hx HO Ht1 Ht2]
  · isplitr; · iapply (records_inv m ρ K c (ksnd (n, d, s))); iexact HR
    isplitr; · iapply (records_inv m ρ K (nxt (pOf n) d c) (krcv (n, d, s))); iexact HR
    isplitl [Hs]; · iexact Hs
    isplitl [Hd Hx]
    · isplitl [Hd]; · iexact Hd
      iexact Hx
    isplitl [HO]; · iexact HO
    isplitl [Ht1]; · iexact Ht1
    isplitr; · iapply (records_reached m ρ K c (ksnd (n, d, s))); iexact HR
    isplitl [Ht2]; · iexact Ht2
    iapply (records_reached m ρ K (nxt (pOf n) d c) (krcv (n, d, s))); iexact HR
  iintro ⟨Hc, HO⟩
  iapply Hk
  isplitl [Hc]; · iexact Hc
  iexists W; iexact HO

/-- The transfer of the `i`-th final block. -/
theorem sendOut_wp (i : Fin 15) {k : PUnit → Prog (TpuEff nD τ sig (Elt F) Λ₀ .tc) α} :
    iprop(records m ρ K ∗ owns (c : Thread nD τ) (blkV (fwd i c)) fullShare (blkX m ρ c (fwd i c)) ∗ rsP (fwd i c) c
        ∗ ow c (.inr (.inr i) :: l)
        ∗ dutyTok ER (cell c (kfs i)) 0 ((0, 0) : PE) ∗ dutyTok ER (cell (fwd i c) (kfr i)) 0 ((0, 0) : PE))
      ⊢ iprop(((cred (tallyAt (cell c (kfs i)) 0 NF) ∗ ow c l) -∗ WP c (k ⟨⟩) Q)
        -∗ WP c (sendOut (blkV (fwd i c)) i (fwd i c) >>= k) Q) := by
  iintro ⟨#HR, Hsl, Hd, Ho, Ht1, Ht2⟩ Hk
  unfold ow rsP
  rw [rsIx_fwd]
  icases Ho with ⟨%W, HO⟩
  unfold owns
  icases Hsl with ⟨%fs, %hfs, Hs⟩
  icases Hd with ⟨%X, %fd, -, Hd⟩
  unfold sendOut
  simp only [Prog.lift, Prog.bind_op, Prog.bind_ret]
  iapply (Rounds.wp_send_pointsTo_with 𝒱₀ ER (Rd m ρ) (c : Thread nD τ) none (κ₁ := K (c, kfs i)) (κ₂ := K (fwd i c, kfr i))
      (c' := (fwd i c : Thread nD τ)) (src := blkV (fwd i c)) (dst := rsV i) (sS := .dma (fsend i)) (sem := .dma (frecv i))
      (F := iprop(emp)) (fs := fs) (fd := fd) (q := fullShare)
      (r₁ := 0) (r₂ := 0) (d₁ := ((0, 0) : PE)) (d₂ := ((0, 0) : PE))
      (mem_duties m ρ c (.inr (.inl i))) (mem_duties m ρ (fwd i c) (.inr (.inr i)))
      6 0 NF rfl (amount_cell m ρ c (kfs i) _) (amount_cell m ρ (fwd i c) (kfr i) _) (owedL c l)
      (owedL_cons c (.inr (.inr i)) l) (W := W)
      (by
        refine .trans ?_ (Entails.of_eq (payload_cell m ρ c (kfs i) (0, 0)).symm)
        show _ ⊢ iprop(∃ f, ⌜(blkV (fwd i c)).view.read (Elt F) f = _⌝ ∗ ((blkV (fwd i c)).view.loc (c : Thread nD τ) ↦[(blkV (fwd i c)).view.set]{fullShare} f))
        iintro H
        iexists fs
        isplitr; · ipureintro; exact hfs
        iexact H)
      (by
        refine .trans ?_ (Entails.of_eq (payload_cell m ρ (fwd i c) (kfr i) (0, 0)).symm)
        show _ ⊢ frPay m ρ (fwd i c) i
        unfold frPay
        rw [bwd_fwd]
        iintro ⟨H, -⟩
        iapply (owns_of_write (c := (fwd i c : Thread nD τ)) (rsV i) _ _ _ hfs)
        iexact H)) $$ [Hs Hd HO Ht1 Ht2]
  · isplitr; · iapply (records_inv m ρ K c (kfs i)); iexact HR
    isplitr; · iapply (records_inv m ρ K (fwd i c) (kfr i)); iexact HR
    isplitl [Hs]; · iexact Hs
    isplitl [Hd]
    · isplitl [Hd]; · iexact Hd
      iempintro
    isplitl [HO]; · iexact HO
    isplitl [Ht1]; · iexact Ht1
    isplitr; · iapply (records_reached m ρ K c (kfs i)); iexact HR
    isplitl [Ht2]; · iexact Ht2
    iapply (records_reached m ρ K (fwd i c) (kfr i)); iexact HR
  iintro ⟨Hc, HO⟩
  iapply Hk
  isplitl [Hc]; · iexact Hc
  iexists W; iexact HO

end Mlp
-- ==== Proof.Macro.lean ====
module
public import proofs.«01_k».proof.Proof.Rules

/-! The named steps of the body as rules: a layer's product on one slab, the start and the end of the exchange of one slab. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)
variable (c : Dev nD) {α : Type} (Q : α → sProp (MT nD τ sig ℕ (Elt F) ℕ UU ℕ))

/-- A load from a buffer that is owned as a whole. -/
theorem loadM_wp {sp : CoreSpace} {s : Shape} {e : EltTy} (M : Memref sig .tc sp s e) (r : LoadRect s)
    {hl : M.view.LoadsAt r} (q : PosShare TreeShare) (X : s.Idx → Elt F e)
    {k : (r.shape.Idx → Elt F e) → Prog (TpuEff nD τ sig (Elt F) Λ₀ .tc) α} :
    owns (c : Thread nD τ) M q X
      ⊢ iprop((owns (c : Thread nD τ) M q X -∗ WP c (k fun x => X (r.idx x)) Q) -∗ WP c (.op (.load M r hl) k) Q) := by
  iintro H Hk
  unfold owns
  icases H with ⟨%f, %hf, H⟩
  subst hf
  iapply (wp_load 𝒱₀ (c : Thread nD τ) none Set.univ (m := M) (r := r) (View.setOn_subset_set ..)) $$ H
  iintro H
  iapply Hk
  iexists f
  isplitr; · (ipureintro; rfl)
  iexact H

/-- Two zero offsets, written out. -/
theorem hz2 : (![0, 0] : Fin 2 → Nat) = fun _ => 0 := funext fun a => by fin_cases a <;> rfl
/-- The whole of the first weights read through their rectangle, -/
theorem winR_idx (X : Vec F S128x256 .f32) : (fun x => X (winR.toLoadRect.idx x)) = X :=
  Memref.readAt_unit_zero (Elt F) (cc0_stg1_0 : Ref sig .tc) hz2 inb_S128x256_S128x256_0_0 X
/-- and of the second. -/
theorem woutR_idx (X : Vec F S256x128 .f32) : (fun x => X (woutR.toLoadRect.idx x)) = X :=
  Memref.readAt_unit_zero (Elt F) (cc0_stg2_0 : Ref sig .tc) hz2 inb_S256x128_S256x128_0_0 X

/-- Slab `s` of the accumulator at any contents. -/
def slabAny (s : Fin 4) : sProp 𝕄 := iprop(∃ X, owns (c : Thread nD τ) (slabV s) fullShare X)

/-- A layer on slab `s` of a buffer owned as a whole. -/
theorem compute_wp (f : Vec F S32x128 .f32 → Vec F S128x256 .f32 → Vec F S256x128 .f32 → FVec F S32x128 .f32)
    (x : Memref sig .tc .vmem S128x128 .f32) (a : Memref sig .tc .vmem S128x256 .f32) (b : Memref sig .tc .vmem S256x128 .f32) (s : Fin 4)
    (X : Vec F S128x128 .f32) (U : Vec F S128x256 .f32) (V : Vec F S256x128 .f32)
    {k : PUnit → PU F} (Q : PUnit → sProp (MT nD τ sig ℕ (Elt F) ℕ UU ℕ)) :
    iprop(owns (c : Thread nD τ) x fullShare X ∗ owns (c : Thread nD τ) a fullShare U ∗ owns (c : Thread nD τ) b fullShare V ∗ slabAny c s)
      ⊢ iprop(((owns (c : Thread nD τ) x fullShare X ∗ owns (c : Thread nD τ) a fullShare U ∗ owns (c : Thread nD τ) b fullShare V
          ∗ owns (c : Thread nD τ) (slabV s) fullShare (f (fun j => X ((slabR s).toLoadRect.idx j)) U V)) -∗ WP c (k ⟨⟩) Q)
        -∗ WP c (compute f x a b s >>= k) Q) := by
  unfold slabAny
  iintro ⟨Hx, Ha, Hb, ⟨%Y, Hs⟩⟩ Hk
  unfold compute
  simp only [Prog.lift, Prog.bind_op, Prog.bind_ret]
  iapply (loadM_wp c Q x (slabR s).toLoadRect fullShare X) $$ Hx; iintro Hx
  iapply (loadM_wp c Q a winR.toLoadRect fullShare U) $$ Ha; iintro Ha
  iapply (loadM_wp c Q b woutR.toLoadRect fullShare V) $$ Hb; iintro Hb
  iapply (load_wp c Q (M := accM) (slabR s) (fun _ => rfl) fullShare Y) $$ Hs; iintro Hs
  iapply (store_wp c Q (M := accM) (slabR s) (fun _ => rfl) _ Y) $$ Hs; iintro Hs
  rw [winR_idx, woutR_idx]
  iapply Hk
  isplitl [Hx]; · iexact Hx
  isplitl [Ha]; · iexact Ha
  isplitl [Hb]; · iexact Hb
  iexact Hs

/-- A layer on slab `s` of the accumulator itself. -/
theorem computeA_wp (f : Vec F S32x128 .f32 → Vec F S128x256 .f32 → Vec F S256x128 .f32 → FVec F S32x128 .f32)
    (a : Memref sig .tc .vmem S128x256 .f32) (b : Memref sig .tc .vmem S256x128 .f32) (s : Fin 4)
    (X : Vec F S32x128 .f32) (U : Vec F S128x256 .f32) (V : Vec F S256x128 .f32)
    {k : PUnit → PU F} (Q : PUnit → sProp (MT nD τ sig ℕ (Elt F) ℕ UU ℕ)) :
    iprop(owns (c : Thread nD τ) (slabV s) fullShare X ∗ owns (c : Thread nD τ) a fullShare U ∗ owns (c : Thread nD τ) b fullShare V)
      ⊢ iprop(((owns (c : Thread nD τ) (slabV s) fullShare (f X U V) ∗ owns (c : Thread nD τ) a fullShare U ∗ owns (c : Thread nD τ) b fullShare V)
          -∗ WP c (k ⟨⟩) Q)
        -∗ WP c (compute f accM a b s >>= k) Q) := by
  iintro ⟨Hs, Ha, Hb⟩ Hk
  unfold compute
  simp only [Prog.lift, Prog.bind_op, Prog.bind_ret]
  iapply (load_wp c Q (M := accM) (slabR s) (fun _ => rfl) fullShare X) $$ Hs; iintro Hs
  iapply (loadM_wp c Q a winR.toLoadRect fullShare U) $$ Ha; iintro Ha
  iapply (loadM_wp c Q b woutR.toLoadRect fullShare V) $$ Hb; iintro Hb
  iapply (load_wp c Q (M := accM) (slabR s) (fun _ => rfl) fullShare X) $$ Hs; iintro Hs
  iapply (store_wp c Q (M := accM) (slabR s) (fun _ => rfl) _ X) $$ Hs; iintro Hs
  rw [winR_idx, woutR_idx]
  iapply Hk
  isplitl [Hs]; · iexact Hs
  isplitl [Ha]; · iexact Ha
  iexact Hb

/-! ### One exchange -/

/-- What the transfer to neighbour `d` needs, and the wait for that neighbour's. -/
def fut1 (n s : Fin 4) (d : Fin 3) : sProp 𝕄 :=
  iprop(slotAny (nxt (pOf n) d c) n d s ∗ dutyTok ER (cell c (ksnd (n, d, s))) 0 ((0, 0) : PE)
    ∗ dutyTok ER (cell (nxt (pOf n) d c) (krcv (n, d, s))) 0 ((0, 0) : PE)
    ∗ atPos ER (cell c (ksnd (n, d, s))) 0 (∅ : Finset PE) 0 ∗ atPos ER (cell c (krcv (n, d, s))) 0 (∅ : Finset PE) 0
    ∗ cred (tallyAt (cell c (krcv (n, d, s))) (2 + n.val) NH))
/-- What the waits need once the transfer has been issued. -/
def mid1 (n s : Fin 4) (d : Fin 3) : sProp 𝕄 :=
  iprop(cred (tallyAt (cell c (ksnd (n, d, s))) 0 NH) ∗ atPos ER (cell c (ksnd (n, d, s))) 0 (∅ : Finset PE) 0
    ∗ atPos ER (cell c (krcv (n, d, s))) 0 (∅ : Finset PE) 0 ∗ cred (tallyAt (cell c (krcv (n, d, s))) (2 + n.val) NH))
/-- What remains of it: two closed cells and the landing slot. -/
def past1 (n s : Fin 4) (d : Fin 3) : sProp 𝕄 :=
  iprop(semVal (cell c (ksnd (n, d, s))) 0 ∗ semVal (cell c (krcv (n, d, s))) 0 ∗ slotAny c n d s)

/-- One of each neighbour. -/
def three (P : Fin 3 → sProp 𝕄) : sProp 𝕄 := iprop(P 0 ∗ P 1 ∗ P 2)
/-- Three parts in a row are the parts for all three neighbours. -/
theorem three_eq (P : Fin 3 → sProp 𝕄) : three P = bigSep Finset.univ P := by
  rw [bigSep_univ_eq_bigSepL [0, 1, 2] (by decide) (by decide)]; rfl

/-- What the exchange of a slab with the three neighbours needs, before its start, -/
def fut (n s : Fin 4) : sProp 𝕄 := three (fut1 c n s)
/-- between its start and its end, -/
def mid (n s : Fin 4) : sProp 𝕄 := three (mid1 c n s)
/-- and after its end. -/
def past (n s : Fin 4) : sProp 𝕄 := three (past1 c n s)
/-- What the transfers of slab `s` pass on, -/
def extOut (n s : Fin 4) : sProp 𝕄 := three fun d => ext n s c (nxt (pOf n) d c)
/-- and what the landing ones bring. -/
def extIn (n s : Fin 4) : sProp 𝕄 := three fun d => ext n s (prv (pOf n) d c) c

variable (l : List DK)

/-- The start of the exchange of slab `s` in phase `n`. -/
theorem start_wp (n s : Fin 4) {k : PUnit → Prog (TpuEff nD τ sig (Elt F) Λ₀ .tc) α} :
    iprop(records m ρ K ∗ owns (c : Thread nD τ) (slabV s) fullShare (acc m ρ n.val c s) ∗ fut c n s ∗ extOut c n s
        ∗ ow c (.inr (.inl (n, 0, s)) :: .inr (.inl (n, 1, s)) :: .inr (.inl (n, 2, s)) :: l))
      ⊢ iprop(((mid c n s ∗ ow c l) -∗ WP c (k ⟨⟩) Q)
        -∗ WP c (start n s (nxt (pOf n) 0 c) (nxt (pOf n) 1 c) (nxt (pOf n) 2 c) >>= k) Q) := by
  show _ ⊢ iprop(_ -∗ WP c (sendHop n s 0 (nxt (pOf n) 0 c) >>= fun _ => sendHop n s 1 (nxt (pOf n) 1 c) >>= fun _ =>
    sendHop n s 2 (nxt (pOf n) 2 c) >>= k) Q)
  unfold fut mid extOut three fut1 mid1
  iintro ⟨#HR, Hs, ⟨⟨Hd0, Hta0, Htb0, Ha0, Hb0, Hc0⟩, ⟨Hd1, Hta1, Htb1, Ha1, Hb1, Hc1⟩, ⟨Hd2, Hta2, Htb2, Ha2, Hb2, Hc2⟩⟩, ⟨Hx0, Hx1, Hx2⟩, Ho⟩ Hk
  ihave Hs' := (owns_halves (c : Thread nD τ) (slabV s) fullShare (acc m ρ n.val c s)).1 $$ Hs
  icases Hs' with ⟨Hs0, Hs'⟩
  ihave Hs'' := (owns_halves (c : Thread nD τ) (slabV s) fullShare.right (acc m ρ n.val c s)).1 $$ Hs'
  icases Hs'' with ⟨Hs1, Hs2⟩
  iapply (sendHop_wp m ρ K c Q (.inr (.inl (n, 1, s)) :: .inr (.inl (n, 2, s)) :: l) n s 0) $$ [Hs0 Hd0 Hx0 Ho Hta0 Htb0]
  · isplitr; · iexact HR
    isplitl [Hs0]; · iexact Hs0
    isplitl [Hd0]; · iexact Hd0
    isplitl [Hx0]; · iexact Hx0
    isplitl [Ho]; · iexact Ho
    isplitl [Hta0]; · iexact Hta0
    iexact Htb0
  iintro ⟨Hk0, Ho⟩
  iapply (sendHop_wp m ρ K c Q (.inr (.inl (n, 2, s)) :: l) n s 1) $$ [Hs1 Hd1 Hx1 Ho Hta1 Htb1]
  · isplitr; · iexact HR
    isplitl [Hs1]; · iexact Hs1
    isplitl [Hd1]; · iexact Hd1
    isplitl [Hx1]; · iexact Hx1
    isplitl [Ho]; · iexact Ho
    isplitl [Hta1]; · iexact Hta1
    iexact Htb1
  iintro ⟨Hk1, Ho⟩
  iapply (sendHop_wp m ρ K c Q l n s 2) $$ [Hs2 Hd2 Hx2 Ho Hta2 Htb2]
  · isplitr; · iexact HR
    isplitl [Hs2]; · iexact Hs2
    isplitl [Hd2]; · iexact Hd2
    isplitl [Hx2]; · iexact Hx2
    isplitl [Ho]; · iexact Ho
    isplitl [Hta2]; · iexact Hta2
    iexact Htb2
  iintro ⟨Hk2, Ho⟩
  iapply Hk
  isplitr [Ho]
  rotate_left
  · iexact Ho
  isplitl [Hk0 Ha0 Hb0 Hc0]
  · isplitl [Hk0]; · iexact Hk0
    isplitl [Ha0]; · iexact Ha0
    isplitl [Hb0]; · iexact Hb0
    iexact Hc0
  isplitl [Hk1 Ha1 Hb1 Hc1]
  · isplitl [Hk1]; · iexact Hk1
    isplitl [Ha1]; · iexact Ha1
    isplitl [Hb1]; · iexact Hb1
    iexact Hc1
  isplitl [Hk2]; · iexact Hk2
  isplitl [Ha2]; · iexact Ha2
  isplitl [Hb2]; · iexact Hb2
  iexact Hc2

/-- A slab's transfer raises its semaphores by the bytes of a slab, -/
theorem slab_credit (s : Fin 4) : (slabV s).view.dmaCredit = NH := rfl
/-- and so does its landing slot. -/
theorem slot_credit (n s : Fin 4) (d : Fin 3) : (slotV n d s).view.dmaCredit = NH := rfl

/-- The wait for the slab that has left, -/
theorem waitSend_wp (n s : Fin 4) (d : Fin 3) (hl : ∀ k ∈ l, 0 < dlev k) {hx hy} {k : PUnit → Prog (TpuEff nD τ sig (Elt F) Λ₀ .tc) α} :
    iprop(records m ρ K ∗ cred (tallyAt (cell c (ksnd (n, d, s))) 0 NH) ∗ ow c l ∗ atPos ER (cell c (ksnd (n, d, s))) 0 (∅ : Finset PE) 0)
      ⊢ iprop(((ow c l ∗ owns (c : Thread nD τ) (slabV s) (shr d) (acc m ρ n.val c s) ∗ semVal (cell c (ksnd (n, d, s))) 0) -∗ WP c (k ⟨⟩) Q)
        -∗ WP c (.op (.waitDma2 (hsend n d s) (slotV n d s) (slabV s) hx hy) k) Q) :=
  wait_wp m ρ K c Q l (.inl (.inl (n, d, s))) 0 (by decide) hl (w := .waitDma2 (hsend n d s) (slotV n d s) (slabV s) hx hy) (fun G => rfl)

/-- and for the slab that lands. -/
theorem waitRecv_wp (n s : Fin 4) (d : Fin 3) (hl : ∀ k ∈ l, 2 + n.val < dlev k) {hx hy} {k : PUnit → Prog (TpuEff nD τ sig (Elt F) Λ₀ .tc) α} :
    iprop(records m ρ K ∗ cred (tallyAt (cell c (krcv (n, d, s))) (2 + n.val) NH) ∗ ow c l ∗ atPos ER (cell c (krcv (n, d, s))) 0 (∅ : Finset PE) 0)
      ⊢ iprop(((ow c l ∗ (owns (c : Thread nD τ) (slotV n d s) fullShare (acc m ρ n.val (prv (pOf n) d c) s) ∗ ext n s (prv (pOf n) d c) c)
          ∗ semVal (cell c (krcv (n, d, s))) 0) -∗ WP c (k ⟨⟩) Q)
        -∗ WP c (.op (.waitDma2 (hrecv n d s) (slabV s) (slotV n d s) hx hy) k) Q) :=
  wait_wp m ρ K c Q l (.inl (.inr (n, d, s))) (2 + n.val) (by have := n.isLt; show _ < 7; omega) hl
    (w := .waitDma2 (hrecv n d s) (slabV s) (slotV n d s) hx hy) (fun G => rfl)

/-- The two waits for neighbour `d`. -/
theorem waitHop_wp (n s : Fin 4) (d : Fin 3) (hl : ∀ k ∈ l, 2 + n.val < dlev k) {k : PUnit → Prog (TpuEff nD τ sig (Elt F) Λ₀ .tc) α} :
    iprop(records m ρ K ∗ mid1 c n s d ∗ ow c l)
      ⊢ iprop(((owns (c : Thread nD τ) (slabV s) (shr d) (acc m ρ n.val c s)
          ∗ owns (c : Thread nD τ) (slotV n d s) fullShare (acc m ρ n.val (prv (pOf n) d c) s)
          ∗ ext n s (prv (pOf n) d c) c ∗ semVal (cell c (ksnd (n, d, s))) 0 ∗ semVal (cell c (krcv (n, d, s))) 0 ∗ ow c l) -∗ WP c (k ⟨⟩) Q)
        -∗ WP c (waitHop n s d >>= k) Q) := by
  unfold mid1 waitHop
  iintro ⟨#HR, ⟨Hk, Ha, Hb, Hc⟩, Ho⟩ HK
  simp only [Prog.lift, Prog.bind_op, Prog.bind_ret]
  iapply (waitSend_wp m ρ K c Q l n s d (fun k hk => by have := hl k hk; omega)) $$ [Hk Ho Ha]
  · isplitr; · iexact HR
    isplitl [Hk]; · iexact Hk
    isplitl [Ho]; · iexact Ho
    iexact Ha
  iintro ⟨Ho, Hp, Hz⟩
  iapply (waitRecv_wp m ρ K c Q l n s d hl) $$ [Hc Ho Hb]
  · isplitr; · iexact HR
    isplitl [Hc]; · iexact Hc
    isplitl [Ho]; · iexact Ho
    iexact Hb
  iintro ⟨Ho, ⟨Hp2, Hx⟩, Hz'⟩
  iapply HK
  isplitl [Hp]; · iexact Hp
  isplitl [Hp2]; · iexact Hp2
  isplitl [Hx]; · iexact Hx
  isplitl [Hz]; · iexact Hz
  isplitl [Hz']; · iexact Hz'
  iexact Ho

/-- The sum of the own slab and the three that landed. -/
theorem addHop_wp (n s : Fin 4) (A B C D : Vec F S32x128 .f32) {k : PUnit → PU F} (Q : PUnit → sProp (MT nD τ sig ℕ (Elt F) ℕ UU ℕ)) :
    iprop(owns (c : Thread nD τ) (slabV s) fullShare A ∗ owns (c : Thread nD τ) (slotV n 0 s) fullShare B
        ∗ owns (c : Thread nD τ) (slotV n 1 s) fullShare C ∗ owns (c : Thread nD τ) (slotV n 2 s) fullShare D)
      ⊢ iprop(((owns (c : Thread nD τ) (slabV s) fullShare (add4 A B C D) ∗ slotAny c n 0 s ∗ slotAny c n 1 s ∗ slotAny c n 2 s) -∗ WP c (k ⟨⟩) Q)
        -∗ WP c (addHop n s >>= k) Q) := by
  iintro ⟨Hs, H0, H1, H2⟩ Hk
  unfold addHop
  simp only [Prog.lift, Prog.bind_op, Prog.bind_ret]
  iapply (load_wp c Q (M := accM) (slabR s) (fun _ => rfl) fullShare A) $$ Hs; iintro Hs
  iapply (load_sq_wp c Q (M := commM) (slotR n 0 s) (fun _ => rfl) squeezes_S1x1x1x1x32x128_S32x128 shapeCasts_S1x1x1x1x32x128_S32x128 fullShare B) $$ H0
  iintro %b %hb H0
  iapply (load_sq_wp c Q (M := commM) (slotR n 1 s) (fun _ => rfl) squeezes_S1x1x1x1x32x128_S32x128 shapeCasts_S1x1x1x1x32x128_S32x128 fullShare C) $$ H1
  iintro %b1 %hb1 H1
  iapply (load_sq_wp c Q (M := commM) (slotR n 2 s) (fun _ => rfl) squeezes_S1x1x1x1x32x128_S32x128 shapeCasts_S1x1x1x1x32x128_S32x128 fullShare D) $$ H2
  iintro %b2 %hb2 H2
  iapply (load_wp c Q (M := accM) (slabR s) (fun _ => rfl) fullShare A) $$ Hs; iintro Hs
  iapply (store_wp c Q (M := accM) (slabR s) (fun _ => rfl) _ A) $$ Hs; iintro Hs
  iapply Hk
  rw [show sum4 A b b1 b2 = add4 A B C D by subst hb hb1 hb2; rfl]
  unfold slotAny
  isplitl [Hs]; · iexact Hs
  isplitl [H0]; · iexists B; iexact H0
  isplitl [H1]; · iexists C; iexact H1
  iexists D; iexact H2

/-- The end of the exchange of slab `s` in phase `n`. -/
theorem finish_wp (n s : Fin 4) (hl : ∀ k ∈ l, 2 + n.val < dlev k) {k : PUnit → PU F} (Q : PUnit → sProp (MT nD τ sig ℕ (Elt F) ℕ UU ℕ)) :
    iprop(records m ρ K ∗ mid c n s ∗ ow c l)
      ⊢ iprop(((owns (c : Thread nD τ) (slabV s) fullShare (exch (fun d => acc m ρ n.val d s) n.val c) ∗ past c n s ∗ extIn c n s ∗ ow c l) -∗ WP c (k ⟨⟩) Q)
        -∗ WP c (finish n s >>= k) Q) := by
  show _ ⊢ iprop(_ -∗ WP c (waitHop n s 0 >>= fun _ => waitHop n s 1 >>= fun _ => waitHop n s 2 >>= fun _ => addHop n s >>= k) Q)
  unfold mid past extIn three past1
  iintro ⟨#HR, ⟨H0, H1, H2⟩, Ho⟩ Hk
  iapply (waitHop_wp m ρ K c Q l n s 0 hl) $$ [H0 Ho]
  · isplitr; · iexact HR
    isplitl [H0]; · iexact H0
    iexact Ho
  iintro ⟨Hs0, Hd0, Hx0, Hy0, Hz0, Ho⟩
  iapply (waitHop_wp m ρ K c Q l n s 1 hl) $$ [H1 Ho]
  · isplitr; · iexact HR
    isplitl [H1]; · iexact H1
    iexact Ho
  iintro ⟨Hs1, Hd1, Hx1, Hy1, Hz1, Ho⟩
  iapply (waitHop_wp m ρ K c Q l n s 2 hl) $$ [H2 Ho]
  · isplitr; · iexact HR
    isplitl [H2]; · iexact H2
    iexact Ho
  iintro ⟨Hs2, Hd2, Hx2, Hy2, Hz2, Ho⟩
  ihave Hs1' := (owns_halves (c : Thread nD τ) (slabV s) fullShare.right (acc m ρ n.val c s)).2 $$ [Hs1 Hs2]
  · isplitl [Hs1]; · iexact Hs1
    iexact Hs2
  ihave Hs := (owns_halves (c : Thread nD τ) (slabV s) fullShare (acc m ρ n.val c s)).2 $$ [Hs0 Hs1']
  · isplitl [Hs0]; · iexact Hs0
    iexact Hs1'
  iapply (addHop_wp c n s _ _ _ _ Q) $$ [Hs Hd0 Hd1 Hd2]
  · isplitl [Hs]; · iexact Hs
    isplitl [Hd0]; · iexact Hd0
    isplitl [Hd1]; · iexact Hd1
    iexact Hd2
  iintro ⟨Hs, Hd0, Hd1, Hd2⟩
  iapply Hk
  isplitl [Hs]; · iexact Hs
  isplitl [Hy0 Hz0 Hd0 Hy1 Hz1 Hd1 Hy2 Hz2 Hd2]
  · isplitl [Hy0 Hz0 Hd0]
    · isplitl [Hy0]; · iexact Hy0
      isplitl [Hz0]; · iexact Hz0
      iexact Hd0
    isplitl [Hy1 Hz1 Hd1]
    · isplitl [Hy1]; · iexact Hy1
      isplitl [Hz1]; · iexact Hz1
      iexact Hd1
    isplitl [Hy2]; · iexact Hy2
    isplitl [Hz2]; · iexact Hz2
    iexact Hd2
  isplitl [Hx0 Hx1 Hx2]
  · isplitl [Hx0]; · iexact Hx0
    isplitl [Hx1]; · iexact Hx1
    iexact Hx2
  iexact Ho

end Mlp
-- ==== Proof.Out.lean ====
module
public import proofs.«01_k».proof.Proof.Macro

/-! The final exchange: the fifteen sends of the blocks that other devices add up, the waits, and the sum. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)
variable (c : Dev nD)

/-- The sends of the blocks `is`, and then `p`. -/
def sendAll : List (Fin 15) → PU F → PU F
  | [], p => p
  | i :: is, p => sendOut (blkV (fwd i c)) i (fwd i c) >>= fun _ => sendAll is p
/-- The waits for the blocks `is`, and then `p`. -/
def waitAll : List (Fin 15) → PU F → PU F
  | [], p => p
  | i :: is, p => waitOut (blkV (fwd i c)) i >>= fun _ => waitAll is p

/-- The separate parts of a list. -/
def sepL {ι : Type} (P : ι → sProp 𝕄) : List ι → sProp 𝕄
  | [] => iprop(emp)
  | i :: is => iprop(P i ∗ sepL P is)
/-- Parts in a row over a list of all indices are the parts of all indices. -/
theorem sepL_eq {ι : Type} [DecidableEq ι] [Fintype ι] (P : ι → sProp 𝕄) (is : List ι) (h : is.Nodup) (hu : is.toFinset = Finset.univ) :
    sepL P is = bigSep Finset.univ P := by
  rw [← hu]
  clear hu
  induction is with
  | nil => rfl
  | cons i is ih =>
    have h' := List.nodup_cons.mp h
    rw [List.toFinset_cons, bigSep_insert (by rw [List.mem_toFinset]; exact h'.1), ← ih h'.2]
    rfl

/-- All of what the sends of one block need, -/
def outReady (i : Fin 15) : sProp 𝕄 :=
  iprop(owns (c : Thread nD τ) (blkV (fwd i c)) fullShare (blkX m ρ c (fwd i c)) ∗ rsP (fwd i c) c
    ∗ dutyTok ER (cell c (kfs i)) 0 ((0, 0) : PE) ∗ dutyTok ER (cell (fwd i c) (kfr i)) 0 ((0, 0) : PE)
    ∗ atPos ER (cell c (kfs i)) 0 (∅ : Finset PE) 0 ∗ atPos ER (cell c (kfr i)) 0 (∅ : Finset PE) 0
    ∗ cred (tallyAt (cell c (kfr i)) 6 NF))
/-- the waits, -/
def outMid (i : Fin 15) : sProp 𝕄 :=
  iprop(cred (tallyAt (cell c (kfs i)) 0 NF)
    ∗ atPos ER (cell c (kfs i)) 0 (∅ : Finset PE) 0 ∗ atPos ER (cell c (kfr i)) 0 (∅ : Finset PE) 0
    ∗ cred (tallyAt (cell c (kfr i)) 6 NF))
/-- and of what they leave. -/
def outDone (i : Fin 15) : sProp 𝕄 :=
  iprop(owns (c : Thread nD τ) (rsV i) fullShare (blkX m ρ (bwd i c) c)
    ∗ owns (c : Thread nD τ) (blkV (fwd i c)) fullShare (blkX m ρ c (fwd i c))
    ∗ semVal (cell c (kfs i)) 0 ∗ semVal (cell c (kfr i)) 0)

variable (Q : PUnit → sProp (MT nD τ sig ℕ (Elt F) ℕ UU ℕ))

/-- The sends of the final blocks, one after the other. -/
theorem sendAll_wp (is : List (Fin 15)) (l : List DK) (p : PU F) :
    iprop(records m ρ K ∗ sepL (outReady m ρ c) is ∗ ow c (is.map (fun i => .inr (.inr i)) ++ l))
      ⊢ iprop(((sepL (outMid c) is ∗ ow c l) -∗ WP c p Q) -∗ WP c (sendAll c is p) Q) := by
  induction is with
  | nil =>
    unfold sendAll sepL
    iintro ⟨#HR, -, Ho⟩ Hk
    iapply Hk
    isplitr; · iempintro
    iexact Ho
  | cons i is ih =>
    unfold sendAll sepL
    rw [List.map_cons, List.cons_append]
    iintro ⟨#HR, ⟨Hi, Hs⟩, Ho⟩ Hk
    unfold outReady
    icases Hi with ⟨Hb, Hr, Ht1, Ht2, Ha, Hb', Hc⟩
    iapply (sendOut_wp m ρ K c Q (is.map (fun i => .inr (.inr i)) ++ l) i) $$ [Hb Hr Ho Ht1 Ht2]
    · isplitr; · iexact HR
      isplitl [Hb]; · iexact Hb
      isplitl [Hr]; · iexact Hr
      isplitl [Ho]; · iexact Ho
      isplitl [Ht1]; · iexact Ht1
      iexact Ht2
    iintro ⟨Hk', Ho⟩
    iapply ih $$ [Hs Ho]
    · isplitr; · iexact HR
      isplitl [Hs]; · iexact Hs
      iexact Ho
    iintro ⟨Hs, Ho⟩
    iapply Hk
    isplitr [Ho]
    rotate_left
    · iexact Ho
    isplitr [Hs]
    rotate_left
    · iexact Hs
    unfold outMid
    isplitl [Hk']; · iexact Hk'
    isplitl [Ha]; · iexact Ha
    isplitl [Hb']; · iexact Hb'
    iexact Hc

/-- The wait for the block that has left, -/
theorem waitOutS_wp (i : Fin 15) {hx hy} {k : PUnit → PU F} :
    iprop(records m ρ K ∗ cred (tallyAt (cell c (kfs i)) 0 NF) ∗ ow c [] ∗ atPos ER (cell c (kfs i)) 0 (∅ : Finset PE) 0)
      ⊢ iprop(((ow c [] ∗ owns (c : Thread nD τ) (blkV (fwd i c)) fullShare (blkX m ρ c (fwd i c)) ∗ semVal (cell c (kfs i)) 0) -∗ WP c (k ⟨⟩) Q)
        -∗ WP c (.op (.waitDma2 (fsend i) (rsV i) (blkV (fwd i c)) hx hy) k) Q) :=
  wait_wp m ρ K c Q [] (.inr (.inl i)) 0 (by decide) (fun _ h => absurd h List.not_mem_nil)
    (w := .waitDma2 (fsend i) (rsV i) (blkV (fwd i c)) hx hy) (fun G => rfl)
/-- and for the block that lands. -/
theorem waitOutR_wp (i : Fin 15) {hx hy} {k : PUnit → PU F} :
    iprop(records m ρ K ∗ cred (tallyAt (cell c (kfr i)) 6 NF) ∗ ow c [] ∗ atPos ER (cell c (kfr i)) 0 (∅ : Finset PE) 0)
      ⊢ iprop(((ow c [] ∗ owns (c : Thread nD τ) (rsV i) fullShare (blkX m ρ (bwd i c) c) ∗ semVal (cell c (kfr i)) 0) -∗ WP c (k ⟨⟩) Q)
        -∗ WP c (.op (.waitDma2 (frecv i) (blkV (fwd i c)) (rsV i) hx hy) k) Q) :=
  wait_wp m ρ K c Q [] (.inr (.inr i)) 6 (by decide) (fun _ h => absurd h List.not_mem_nil)
    (w := .waitDma2 (frecv i) (blkV (fwd i c)) (rsV i) hx hy) (fun G => rfl)

/-- The waits for the final blocks, one after the other. -/
theorem waitAll_wp (is : List (Fin 15)) (p : PU F) :
    iprop(records m ρ K ∗ sepL (outMid c) is ∗ ow c [])
      ⊢ iprop(((sepL (outDone m ρ c) is ∗ ow c []) -∗ WP c p Q) -∗ WP c (waitAll c is p) Q) := by
  induction is with
  | nil =>
    unfold waitAll sepL
    iintro ⟨#HR, -, Ho⟩ Hk
    iapply Hk
    isplitr; · iempintro
    iexact Ho
  | cons i is ih =>
    unfold waitAll sepL
    iintro ⟨#HR, ⟨Hi, Hs⟩, Ho⟩ Hk
    unfold outMid waitOut
    icases Hi with ⟨Hk', Ha, Hb, Hc⟩
    simp only [Prog.lift, Prog.bind_op, Prog.bind_ret]
    iapply (waitOutS_wp m ρ K c Q i) $$ [Hk' Ho Ha]
    · isplitr; · iexact HR
      isplitl [Hk']; · iexact Hk'
      isplitl [Ho]; · iexact Ho
      iexact Ha
    iintro ⟨Ho, Hp, Hz⟩
    iapply (waitOutR_wp m ρ K c Q i) $$ [Hc Ho Hb]
    · isplitr; · iexact HR
      isplitl [Hc]; · iexact Hc
      isplitl [Ho]; · iexact Ho
      iexact Hb
    iintro ⟨Ho, Hp', Hz'⟩
    iapply ih $$ [Hs Ho]
    · isplitr; · iexact HR
      isplitl [Hs]; · unfold outMid; iexact Hs
      iexact Ho
    iintro ⟨Hs, Ho⟩
    iapply Hk
    isplitr [Ho]
    rotate_left
    · iexact Ho
    isplitr [Hs]
    rotate_left
    · iexact Hs
    unfold outDone
    isplitl [Hp']; · iexact Hp'
    isplitl [Hp]; · iexact Hp
    isplitl [Hz]; · iexact Hz
    iexact Hz'

/-- A block and fifteen more, added from the left. -/
def sum16V (a : Vec F S8x128 .f32) (b : Fin 15 → Vec F S8x128 .f32) : FVec F S8x128 .f32 :=
  addf (addf (addf (addf (addf (addf (addf (addf (addf (addf (addf (addf (addf (addf (addf a (b 0)) (b 1)) (b 2)) (b 3)) (b 4)) (b 5)) (b 6)) (b 7))
    (b 8)) (b 9)) (b 10)) (b 11)) (b 12)) (b 13)) (b 14)
/-- The last sum, with the landed blocks read as 8 × 128. -/
theorem sum16_eq (a : Vec F S8x128 .f32) (b : Fin 15 → Vec F S1x8x128 .f32) :
    sum16 a b = sum16V a fun i => shapeCast S8x128 (b i) shapeCasts_S1x8x128_S8x128 := rfl

/-- A store of the whole result leaves what is stored. -/
theorem resR_write (f w : Vec F S8x128 .f32) :
    ((Memref.whole cc0_stg7_0 : Memref sig .tc .vmem S8x128 .f32).access resR).write (Elt F) f w Finset.univ = w :=
  Memref.write_access_unit_zero_univ (Elt F) (cc0_stg7_0 : Ref sig .tc) hz2 inb_S8x128_S8x128_0_0 f w

/-- Landing place `i` read as a load reads it. -/
theorem loadRs_wp (i : Fin 15) (X : Vec F S8x128 .f32) {hl} {k : Vec F S1x8x128 .f32 → PU F} :
    owns (c : Thread nD τ) (rsV i) fullShare X
      ⊢ iprop((∀ v, ⌜shapeCast S8x128 v shapeCasts_S1x8x128_S8x128 = X⌝ -∗ owns (c : Thread nD τ) (rsV i) fullShare X -∗ WP c (k v) Q)
        -∗ WP c (.op (.load rsM (rsR i).toLoadRect hl) k) Q) :=
  load_sq_wp c Q (M := rsM) (rsR i) (fun _ => rfl) squeezes_S1x8x128_S8x128 shapeCasts_S1x8x128_S8x128 fullShare X

/-- The own rows as the program names them. -/
theorem ownV_eq : accM.slice (ownR c) (fun _ => rfl) = blkV c := Memref.slice_unit_congr _ (k0_off2_eq c) _ _ _ _

/-- The sum: the result buffer holds the own block and the fifteen that landed, added up. -/
theorem total_wp (A : Vec F S8x128 .f32) (B : Fin 15 → Vec F S8x128 .f32) :
    iprop(owns (c : Thread nD τ) (blkV c) fullShare A
        ∗ sepL (fun i => owns (c : Thread nD τ) (rsV i) fullShare (B i)) [0, 1, 2, 3, 4, 5, 6, 7, 8, 9, 10, 11, 12, 13, 14]
        ∗ ∃ f, ((c : Thread nD τ).loc cc0_stg7_0 ↦{fullShare} f))
      ⊢ iprop(((owns (c : Thread nD τ) (blkV c) fullShare A
        ∗ sepL (fun i => owns (c : Thread nD τ) (rsV i) fullShare (B i)) [0, 1, 2, 3, 4, 5, 6, 7, 8, 9, 10, 11, 12, 13, 14]
        ∗ ((c : Thread nD τ).loc cc0_stg7_0 ↦{fullShare} (sum16V A B : Vec F S8x128 .f32))) -∗ Q ⟨⟩) -∗ WP c (total c) Q) := by
  unfold total
  rw [← ownV_eq]
  simp only [sepL, Prog.lift, Prog.bind_op, Prog.bind_ret]
  iintro ⟨Ha, ⟨H0, H1, H2, H3, H4, H5, H6, H7, H8, H9, H10, H11, H12, H13, H14, -⟩, ⟨%f, Hf⟩⟩ Hk
  iapply (load_wp c Q (M := accM) (ownR c) (fun _ => rfl) fullShare A) $$ Ha; iintro Ha
  iapply (loadRs_wp c Q 0 (B 0)) $$ H0; iintro %b0 %h0 H0
  iapply (loadRs_wp c Q 1 (B 1)) $$ H1; iintro %b1 %h1 H1
  iapply (loadRs_wp c Q 2 (B 2)) $$ H2; iintro %b2 %h2 H2
  iapply (loadRs_wp c Q 3 (B 3)) $$ H3; iintro %b3 %h3 H3
  iapply (loadRs_wp c Q 4 (B 4)) $$ H4; iintro %b4 %h4 H4
  iapply (loadRs_wp c Q 5 (B 5)) $$ H5; iintro %b5 %h5 H5
  iapply (loadRs_wp c Q 6 (B 6)) $$ H6; iintro %b6 %h6 H6
  iapply (loadRs_wp c Q 7 (B 7)) $$ H7; iintro %b7 %h7 H7
  iapply (loadRs_wp c Q 8 (B 8)) $$ H8; iintro %b8 %h8 H8
  iapply (loadRs_wp c Q 9 (B 9)) $$ H9; iintro %b9 %h9 H9
  iapply (loadRs_wp c Q 10 (B 10)) $$ H10; iintro %b10 %h10 H10
  iapply (loadRs_wp c Q 11 (B 11)) $$ H11; iintro %b11 %h11 H11
  iapply (loadRs_wp c Q 12 (B 12)) $$ H12; iintro %b12 %h12 H12
  iapply (loadRs_wp c Q 13 (B 13)) $$ H13; iintro %b13 %h13 H13
  iapply (loadRs_wp c Q 14 (B 14)) $$ H14; iintro %b14 %h14 H14
  iapply (wp_load 𝒱₀ (c : Thread nD τ) none Set.univ (m := (Memref.whole cc0_stg7_0 : Memref sig .tc .vmem S8x128 .f32)) (Finset.subset_univ _)) $$ Hf
  iintro Hf
  iapply (wp_store 𝒱₀ (c : Thread nD τ) none Set.univ (m := (Memref.whole cc0_stg7_0 : Memref sig .tc .vmem S8x128 .f32)) (r := resR) (Mk := Finset.univ) (Finset.subset_univ _)) $$ Hf
  iintro Hf
  rw [resR_write, sum16_eq]
  rw [show (fun i : Fin 15 => shapeCast S8x128 ((![b0, b1, b2, b3, b4, b5, b6, b7, b8, b9, b10, b11, b12, b13, b14] : Fin 15 → Vec F S1x8x128 .f32) i) shapeCasts_S1x8x128_S8x128) = B
    from funext fun i => by fin_cases i <;> assumption]
  rw [wp_ret]
  imodintro
  iapply Hk
  isplitl [Ha]; · iexact Ha
  isplitr [Hf]
  rotate_left
  · iexact Hf
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iempintro

end Mlp
-- ==== Proof.Deal.lean ====
module
public import proofs.«01_k».proof.Proof.Out

/-! How the landing places change hands. A device gives away its own landing slots and final landing places with its six
    signals, and gets from its six neighbours those that it sends to. The places of devices that are in another row and another
    column come by way of the column neighbour. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-- The last two of three parts change places. -/
theorem sep_swap (A B C : sProp 𝕄) : iprop((A ∗ B) ∗ C) = iprop((A ∗ C) ∗ B) := by
  have h : ∀ A B C : sProp 𝕄, iprop((A ∗ B) ∗ C) ⊢ iprop((A ∗ C) ∗ B) := fun A B C => by
    iintro ⟨⟨A, B⟩, C⟩
    isplitl [A C]
    · isplitl [A]; · iexact A
      iexact C
    iexact B
  exact equiv_iff.mp ⟨h A B C, h A C B⟩
/-- Three parts, bracketed the other way. -/
theorem sep_assoc' (A B C : sProp 𝕄) : iprop((A ∗ B) ∗ C) = iprop(A ∗ (B ∗ C)) := equiv_iff.mp ⟨BI.sep_assoc, BI.sep_assoc'⟩

/-- The landing slot that neighbour `(p, e)` sends to in round `r` with slab `s`. -/
def slotOf (x : PE × (Fin 2 × Fin 4)) : HK := (⟨2 * x.2.1.val + x.1.1.val, by omega⟩, x.1.2, x.2.2)
/-- Every landing slot is one neighbour's, once. -/
theorem slotOf_bij : Function.Bijective slotOf := by
  rw [Fintype.bijective_iff_injective_and_card]
  exact ⟨by decide +kernel, by decide +kernel⟩
/-- A neighbour's slots are of phases in its direction. -/
theorem pOf_slotOf : ∀ x, pOf (slotOf x).1 = x.1.1 := by decide +kernel

/-- All landing slots, neighbour by neighbour. -/
theorem sep_slots (P : HK → sProp 𝕄) :
    bigSep Finset.univ P = bigSep Finset.univ fun x : PE => bigSep Finset.univ fun rs : Fin 2 × Fin 4 => P (slotOf (x, rs)) := by
  rw [bigSep_univ_equiv (Equiv.ofBijective slotOf slotOf_bij) P, bigSep_univ_prod]
  rfl

/-- The neighbours, each seen from the other side. -/
def revE : PE ≃ PE := ⟨fun x => (x.1, x.2.rev), fun x => (x.1, x.2.rev), by decide, by decide⟩

/-- For which device a landing place of device `c` is meant: a row neighbour passes on the places of its column. -/
def tgtOf (x : (Fin 3 × Fin 4) ⊕ Fin 3) : Dev nD :=
  match x with
  | .inl (e, b) => sh 0 b.val (nxt 0 e c)
  | .inr e => nxt 1 e c
/-- Every final landing place is counted once, by the device that sends to it. -/
theorem rsIx_tgt_bij : Function.Bijective fun x => rsIx c (tgtOf c x) := by
  rw [Fintype.bijective_iff_injective_and_card]
  exact ⟨by revert c; decide +kernel, by decide +kernel⟩

/-- All final landing places: those of the other rows, then those of the own row. -/
theorem sep_rs (P : Fin 15 → sProp 𝕄) :
    bigSep Finset.univ P = iprop((bigSep Finset.univ fun e : Fin 3 => bigSep Finset.univ fun b : Fin 4 => P (rsIx c (sh 0 b.val (nxt 0 e c))))
      ∗ bigSep Finset.univ fun e : Fin 3 => P (rsIx c (nxt 1 e c))) := by
  rw [bigSep_univ_equiv (Equiv.ofBijective _ (rsIx_tgt_bij c)) P, bigSep_univ_sum, bigSep_univ_prod]
  rfl

/-- A family over the neighbours: those of the row and those of the column. -/
theorem sep_PE (P : PE → sProp 𝕄) : bigSep Finset.univ P
    = iprop((bigSep Finset.univ fun e : Fin 3 => P (0, e)) ∗ bigSep Finset.univ fun e : Fin 3 => P (1, e)) := by
  rw [bigSep_univ_prod, bigSep_univ_eq_bigSepL [0, 1] (by decide) (by decide)]; rfl

/-- A final landing place at any contents. -/
def rsAny (i : Fin 15) : sProp 𝕄 := iprop(∃ X, owns (c : Thread nD τ) (rsV i) fullShare X)

/-- Slots that the signals give away, by neighbour. -/
def slotsBy (t q : Dev nD) (x : PE) : sProp 𝕄 :=
  bigSep Finset.univ fun rs : Fin 2 × Fin 4 => slotAny t ⟨2 * rs.1.val + x.1.val, by omega⟩ x.2 rs.2
/-- What a signal hands over: the slots for the receiver, and final landing places. -/
theorem barPay_eq (q : Dev nD) (x : PE) : (barPay q x : sProp 𝕄) = iprop(slotsBy (nxt x.1 x.2 q) q x ∗ rsGive x.1 (nxt x.1 x.2 q) q) := rfl

/-- The own landing slots, by the neighbour they are given to. -/
theorem give_slots : (bigSep Finset.univ fun h : HK => slotAny c h.1 h.2.1 h.2.2 : sProp 𝕄)
    = bigSep Finset.univ fun x : PE => slotsBy c (nxt x.1 x.2 c) (revE x) :=
  (sep_slots (fun h => slotAny c h.1 h.2.1 h.2.2)).trans (bigSep_univ_equiv revE _)
/-- The own final landing places, by the neighbour they are given to. -/
theorem give_rs : (bigSep Finset.univ (rsAny c) : sProp 𝕄) = bigSep Finset.univ fun x : PE => rsGive x.1 c (nxt x.1 x.2 c) :=
  (sep_rs c (rsAny c)).trans (sep_PE fun x => rsGive x.1 c (nxt x.1 x.2 c)).symm

/-- All that a device's six signals hand over: all its landing slots and final landing places. -/
theorem give : iprop((bigSep Finset.univ fun h : HK => slotAny c h.1 h.2.1 h.2.2) ∗ bigSep Finset.univ (rsAny c))
    = (bigSep Finset.univ fun x : PE => barPay (nxt x.1 x.2 c) (revE x) : sProp 𝕄) := by
  have h : ∀ x : PE, (barPay (nxt x.1 x.2 c) (revE x) : sProp 𝕄)
      = iprop(slotsBy c (nxt x.1 x.2 c) (revE x) ∗ rsGive x.1 c (nxt x.1 x.2 c)) := fun x => by
    rw [barPay_eq]
    show iprop(slotsBy (nxt x.1 x.2.rev (nxt x.1 x.2 c)) _ _ ∗ rsGive x.1 (nxt x.1 x.2.rev (nxt x.1 x.2 c)) _) = _
    rw [nxt_rev_nxt]
  rw [bigSep_congr fun x _ => h x, bigSep_sep', ← give_slots, ← give_rs]

/-- The final landing places that a device keeps for its own sends from what its neighbours hand it: theirs for itself. -/
def rsOwn : sProp 𝕄 := iprop((bigSep Finset.univ fun e : Fin 3 => rsP (nxt 0 e c) c) ∗ bigSep Finset.univ fun e : Fin 3 => rsP (nxt 1 e c) c)

/-- Rows further down are neighbours in the column. -/
theorem sh_nxt1 (d : Fin 3) : sh 0 (d.val + 1) c = nxt 1 d c := rfl
/-- No step on the grid leads back to the device. -/
theorem sh_zero : sh 0 0 c = c := by revert c; decide +kernel

/-- Any other transfer passes nothing on. -/
theorem ext_emp (n s : Fin 4) (q u : Dev nD) (h : ¬(n = 1 ∧ s = 0)) : (ext n s q u : sProp 𝕄) = iprop(emp) := if_neg h
/-- The first transfer along a column passes on the places of the sender's row. -/
theorem ext_10 (q u : Dev nD) : (ext 1 0 q u : sProp 𝕄) = bigSep Finset.univ fun e : Fin 3 => rsP (sh (e.val + 1) 0 q) u := if_pos ⟨rfl, rfl⟩

/-- What the signals bring of slots: those that this device's transfers land in. -/
theorem got_slots : (bigSep Finset.univ fun x : PE => slotsBy (nxt x.1 x.2 c) c x : sProp 𝕄)
    = bigSep Finset.univ fun h : HK => slotAny (nxt (pOf h.1) h.2.1 c) h.1 h.2.1 h.2.2 := by
  refine .trans ?_ (sep_slots fun h => slotAny (nxt (pOf h.1) h.2.1 c) h.1 h.2.1 h.2.2).symm
  refine bigSep_congr fun x _ => bigSep_congr fun rs _ => ?_
  show _ = slotAny (nxt (pOf (slotOf (x, rs)).1) x.2 c) _ _ _
  rw [pOf_slotOf]; rfl

/-- What a neighbour in the row gives of final landing places: its place for this device, and those for this device's column. -/
theorem got_row (e : Fin 3) : (rsGive 0 (nxt 0 e c) c : sProp 𝕄)
    = iprop(rsP (nxt 0 e c) c ∗ bigSep Finset.univ fun d : Fin 3 => rsP (nxt 0 e c) (nxt 1 d c)) := by
  unfold rsGive
  rw [if_pos rfl, bigSep_univ_eq_bigSepL [0, 1, 2, 3] (by decide) (by decide), bigSep_univ_eq_bigSepL [0, 1, 2] (by decide) (by decide)]
  show iprop(rsP (nxt 0 e c) (sh 0 0 c) ∗ _) = _
  rw [sh_zero]; rfl

/-- What the signals bring of final landing places: those this device sends to itself, and those it passes on. -/
theorem got_rs : (bigSep Finset.univ fun x : PE => rsGive x.1 (nxt x.1 x.2 c) c : sProp 𝕄) = iprop(rsOwn c ∗ extOut c 1 0) := by
  have h1 : (extOut c 1 0 : sProp 𝕄) = bigSep Finset.univ fun d : Fin 3 => bigSep Finset.univ fun e : Fin 3 => rsP (nxt 0 e c) (nxt 1 d c) := by
    unfold extOut
    rw [three_eq]
    exact bigSep_congr fun d _ => ext_10 c _
  have h2 : (bigSep Finset.univ fun e : Fin 3 => rsGive 0 (nxt 0 e c) c : sProp 𝕄)
      = iprop((bigSep Finset.univ fun e : Fin 3 => rsP (nxt 0 e c) c) ∗ extOut c 1 0) := by
    rw [bigSep_congr fun e _ => got_row c e, bigSep_sep', h1, bigSep_univ_comm]
  rw [sep_PE (fun x => rsGive x.1 (nxt x.1 x.2 c) c)]
  show iprop((bigSep Finset.univ fun e : Fin 3 => rsGive 0 (nxt 0 e c) c) ∗ bigSep Finset.univ fun e : Fin 3 => rsP (nxt 1 e c) c) = _
  rw [h2]
  unfold rsOwn
  exact sep_swap _ _ _

/-- What the six neighbours hand over: the slots that the device sends to, its part of the final landing places, and those that
    it passes on along its column. -/
theorem got : (bigSep Finset.univ fun x : PE => barPay c x : sProp 𝕄)
    = iprop((bigSep Finset.univ fun h : HK => slotAny (nxt (pOf h.1) h.2.1 c) h.1 h.2.1 h.2.2) ∗ rsOwn c ∗ extOut c 1 0) := by
  rw [bigSep_congr fun x _ => barPay_eq c x, bigSep_sep', got_slots, got_rs]

/-- The targets of the final sends: row neighbours, column neighbours, the others. -/
def outOf (x : Fin 3 ⊕ Fin 3 ⊕ Fin 3 × Fin 3) : Dev nD :=
  match x with
  | .inl e => nxt 0 e c
  | .inr (.inl e) => nxt 1 e c
  | .inr (.inr (d, e)) => sh (e.val + 1) 0 (prv 1 d c)
/-- Every final block is counted once, by the device it goes to. -/
theorem outOf_bij : Function.Bijective fun x => rsIx (outOf c x) c := by
  rw [Fintype.bijective_iff_injective_and_card]
  exact ⟨by revert c; decide +kernel, by decide +kernel⟩
/-- The block counted at a device goes to that device. -/
theorem fwd_outOf (x) : fwd (rsIx (outOf c x) c) c = outOf c x := by revert c x; decide +kernel

/-- All fifteen landing places for the final sends. -/
theorem rs_all : iprop(rsOwn c ∗ extIn c 1 0) = (bigSep Finset.univ fun i : Fin 15 => rsP (fwd i c) c : sProp 𝕄) := by
  rw [bigSep_univ_equiv (Equiv.ofBijective _ (outOf_bij c)), bigSep_univ_sum, bigSep_univ_sum, bigSep_univ_prod]
  have h : ∀ x, (rsP (fwd (Equiv.ofBijective _ (outOf_bij c) x) c) c : sProp 𝕄) = rsP (outOf c x) c := fun x => by
    show rsP (fwd (rsIx (outOf c x) c) c) c = _
    rw [fwd_outOf]
  simp only [h]
  unfold rsOwn extIn
  rw [three_eq, bigSep_congr fun d _ => ext_10 (prv (pOf 1) d c) c]
  exact sep_assoc' _ _ _

end Mlp
-- ==== Proof.Split.lean ====
module
public import proofs.«01_k».proof.Proof.Deal

/-! A buffer owned as a whole is its parts owned one by one, and back: the accumulator as four slabs or as sixteen blocks of
    eight rows, the landing buffer as its 48 slots, the final landing buffer as its fifteen places. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-! ### Ownership at any contents -/

section Any
variable {sp : Space} {sh s' : Shape} {e : EltTy} (M : Memref sig .tc sp sh e)

/-- A part of a buffer at any contents. -/
def ownsAny : sProp 𝕄 := iprop(∃ X, owns (c : Thread nD τ) M fullShare X)

/-- A part that holds `X` is a part at any contents. -/
theorem ownsAny_intro (X : sh.Idx → Elt F e) : owns (c : Thread nD τ) M fullShare X ⊢ (ownsAny c M : sProp 𝕄) :=
  show owns (c : Thread nD τ) M fullShare X ⊢ (iprop(∃ X, owns (c : Thread nD τ) M fullShare X) : sProp 𝕄) from by
    iintro H; iexists X; iexact H

/-- A part at any contents, as its set of the buffer's cells. -/
theorem ownsAny_eq : (ownsAny c M : sProp 𝕄) = iprop(∃ f, M.view.loc (c : Thread nD τ) ↦[M.view.set]{fullShare} f) := by
  unfold ownsAny owns
  have h : iprop(∃ X, ∃ f, ⌜M.view.read (Elt F) f = X⌝ ∗ (M.view.loc (c : Thread nD τ) ↦[M.view.set]{fullShare} f))
      ⊢ (iprop(∃ f, M.view.loc (c : Thread nD τ) ↦[M.view.set]{fullShare} f) : sProp 𝕄) := by
    iintro ⟨%X, %f, -, H⟩
    iexists f; iexact H
  have h' : iprop(∃ f, M.view.loc (c : Thread nD τ) ↦[M.view.set]{fullShare} f)
      ⊢ (iprop(∃ X, ∃ f, ⌜M.view.read (Elt F) f = X⌝ ∗ (M.view.loc (c : Thread nD τ) ↦[M.view.set]{fullShare} f)) : sProp 𝕄) := by
    iintro ⟨%f, H⟩
    iexists _, f
    isplitr; · (ipureintro; rfl)
    iexact H
  exact equiv_iff.mp ⟨h, h'⟩

/-- A change of shape does not matter then. -/
theorem ownsAny_squeeze (hq : sh.Squeezes s') : (ownsAny c (M.squeeze s' hq) : sProp 𝕄) = ownsAny c M := by
  rw [ownsAny_eq, ownsAny_eq]
  have hs : (M.squeeze s' hq).view.set = M.view.set := View.set_reshape ..
  rw [hs]

/-- A buffer at any contents is the parts of a disjoint covering family, each at any contents. -/
theorem ownsAny_rects {T : Type} [Fintype T] [DecidableEq T] (r : T → Rect sh) (hr : ∀ t a, (r t).stride a = 1)
    (hd : ∀ t t', t ≠ t' → Disjoint (r t).set (r t').set)
    (hcov : (Finset.univ : Finset T).biUnion (fun t => (r t).set) = Finset.univ) :
    (ownsAny c M : sProp 𝕄) = bigSep Finset.univ fun t => ownsAny c (M.slice (r t) (hr t)) := by
  classical
  have h : (ownsAny c M : sProp 𝕄) ⊢ bigSep Finset.univ fun t => ownsAny c (M.slice (r t) (hr t)) := by
    have h1 (X : sh.Idx → Elt F e) : (owns (c : Thread nD τ) M fullShare X : sProp 𝕄)
        ⊢ bigSep Finset.univ fun t => ownsAny c (M.slice (r t) (hr t)) :=
      (owns_rects (c : Thread nD τ) M fullShare r hr hd hcov X).trans (bigSep_mono fun t _ => ownsAny_intro c _ _)
    unfold ownsAny at h1 ⊢
    iintro ⟨%X, H⟩
    iapply (h1 X); iexact H
  have h' : (bigSep Finset.univ fun t => ownsAny c (M.slice (r t) (hr t)) : sProp 𝕄) ⊢ ownsAny c M := by
    have h1 (X : ∀ t, (r t).shape.Idx → Elt F e) :
        (bigSep Finset.univ fun t => owns (c : Thread nD τ) (M.slice (r t) (hr t)) fullShare (X t) : sProp 𝕄) ⊢ ownsAny c M := by
      let f : (Σ t, (r t).shape.Idx) → sh.Idx := fun p => (r p.1).emb p.2
      have hf : Function.Injective f := by
        rintro ⟨t, j⟩ ⟨t', j'⟩ h
        have e : t = t' := by
          by_contra hne
          have h1 : (r t).emb j ∈ (r t).set := by
            rw [← Rect.map_emb_univ]; exact Finset.mem_map_of_mem (r t).emb (Finset.mem_univ j)
          have h2 : (r t').emb j' ∈ (r t').set := by
            rw [← Rect.map_emb_univ]; exact Finset.mem_map_of_mem (r t').emb (Finset.mem_univ j')
          rw [← show (r t).emb j = (r t').emb j' from h] at h2
          exact Finset.disjoint_left.mp (hd t t' hne) h1 h2
        subst e
        exact congrArg (Sigma.mk t) ((r t).emb.injective h)
      let Y : sh.Idx → Elt F e := Function.extend f (fun p => X p.1 p.2) (fun _ => Classical.arbitrary _)
      have hY (t) : X t = fun j => Y ((r t).emb j) := funext fun j =>
        (hf.extend_apply (fun p => X p.1 p.2) (fun _ => Classical.arbitrary _) ⟨t, j⟩).symm
      rw [bigSep_congr (fun t _ => congrArg (owns (c : Thread nD τ) (M.slice (r t) (hr t)) fullShare) (hY t))]
      exact (owns_of_rects (c : Thread nD τ) M fullShare r hr hd hcov Y).trans (ownsAny_intro c M Y)
    unfold ownsAny at h1 ⊢
    refine (bigSep_exists_pi Finset.univ (fun t X => owns (c : Thread nD τ) (M.slice (r t) (hr t)) fullShare X)).trans ?_
    iintro ⟨%X, H⟩
    iapply (h1 X); iexact H
  exact equiv_iff.mp ⟨h, h'⟩

end Any

/-- A whole buffer at any contents, as a launch hands it over. -/
theorem ownsAny_whole (b : Ref sig .tc) : (ownsAny c (Memref.whole b) : sProp 𝕄)
    = iprop(∃ f, (c : Thread nD τ).loc b ↦{fullShare} f) := by
  rw [ownsAny_eq]
  simp only [Memref.view_whole, View.set_whole]

/-! ### Disjoint covering families -/

/-- Index families that send every index to its part are disjoint and covering. -/
theorem rects_disjoint {sh : Shape} {T : Type} (r : T → Rect sh) (part : sh.Idx → T) (h : ∀ t x, x ∈ (r t).set → part x = t)
    (t t' : T) (ht : t ≠ t') : Disjoint (r t).set (r t').set :=
  Finset.disjoint_left.mpr fun x hx hx' => ht ((h t x hx).symm.trans (h t' x hx'))
/-- Rectangles cover a shape when every index lies in the one it is sent to. -/
theorem rects_cover {sh : Shape} {T : Type} [Fintype T] (r : T → Rect sh) (part : sh.Idx → T) (h : ∀ x, x ∈ (r (part x)).set) :
    (Finset.univ : Finset T).biUnion (fun t => (r t).set) = Finset.univ := by
  classical
  exact Finset.eq_univ_iff_forall.mpr fun x => Finset.mem_biUnion.mpr ⟨part x, Finset.mem_univ _, h x⟩

section Parts
set_option backward.proofsInPublic true

/-- The slab of a row, -/
def slabOf (x : S128x128.Idx) : Fin 4 := ⟨(x 0).val / 32, by have := (x 0).isLt; have h : S128x128.size 0 = 128 := rfl; omega⟩
/-- the 8-row block of a row, -/
def blkOf (x : S128x128.Idx) : Dev nD := ⟨(x 0).val / 8, by have := (x 0).isLt; have h : S128x128.size 0 = 128 := rfl; have : nD = 16 := rfl; omega⟩
/-- the final landing place an index lies in, -/
def rsOf (x : S15x8x128.Idx) : Fin 15 := ⟨(x 0).val, (x 0).isLt⟩
/-- the landing slot an index lies in. -/
def hkAt (x : S2x2x3x4x32x128.Idx) : HK :=
  (⟨2 * (x 0).val + (x 1).val, by
    have := (x 0).isLt; have := (x 1).isLt
    have h0 : S2x2x3x4x32x128.size 0 = 2 := rfl
    have h1 : S2x2x3x4x32x128.size 1 = 2 := rfl
    omega⟩, ⟨(x 2).val, (x 2).isLt⟩, ⟨(x 3).val, (x 3).isLt⟩)
end Parts

/-- An index in a slab is sent to that slab, -/
theorem slab_part (s : Fin 4) (x : S128x128.Idx) (hx : x ∈ (slabR s).set) : slabOf x = s := by
  have h : 32 * s.val ≤ (x 0).val ∧ (x 0).val < 32 * s.val + 32 := Rect.mem_set_unit.mp hx 0
  exact Fin.ext (by show (x 0).val / 32 = _; omega)
/-- and lies in it. -/
theorem slab_mem (x : S128x128.Idx) : x ∈ (slabR (slabOf x)).set :=
  Rect.mem_set_unit.mpr (Fin.forall_fin_two.mpr ⟨(by
    show 32 * ((x 0).val / 32) ≤ (x 0).val ∧ (x 0).val < 32 * ((x 0).val / 32) + 32
    omega), (by
    show 0 ≤ (x 1).val ∧ (x 1).val < 0 + 128
    have h : (x 1).val < 128 := (x 1).isLt
    omega)⟩)
/-- An index in a device's rows is sent to that device, -/
theorem blk_part (b : Dev nD) (x : S128x128.Idx) (hx : x ∈ (blkR b).set) : blkOf x = b := by
  have h : 8 * b.val ≤ (x 0).val ∧ (x 0).val < 8 * b.val + 8 := Rect.mem_set_unit.mp hx 0
  exact Fin.ext (by show (x 0).val / 8 = _; omega)
/-- and lies in its rows. -/
theorem blk_mem (x : S128x128.Idx) : x ∈ (blkR (blkOf x)).set :=
  Rect.mem_set_unit.mpr (Fin.forall_fin_two.mpr ⟨(by
    show 8 * ((x 0).val / 8) ≤ (x 0).val ∧ (x 0).val < 8 * ((x 0).val / 8) + 8
    omega), (by
    show 0 ≤ (x 1).val ∧ (x 1).val < 0 + 128
    have h : (x 1).val < 128 := (x 1).isLt
    omega)⟩)
/-- An index in a final landing place is sent to that place, -/
theorem rs_part (i : Fin 15) (x : S15x8x128.Idx) (hx : x ∈ (rsR i).set) : rsOf x = i := by
  have h : i.val ≤ (x 0).val ∧ (x 0).val < i.val + 1 := Rect.mem_set_unit.mp hx 0
  exact Fin.ext (by show (x 0).val = _; omega)
/-- and lies in it. -/
theorem rs_mem (x : S15x8x128.Idx) : x ∈ (rsR (rsOf x)).set :=
  Rect.mem_set_unit.mpr fun a => by
    match a with
    | 0 => exact ⟨Nat.le_refl _, Nat.lt_succ_self _⟩
    | 1 => exact ⟨Nat.zero_le _, by show (x 1).val < 0 + 8; have h : (x 1).val < 8 := (x 1).isLt; omega⟩
    | 2 => exact ⟨Nat.zero_le _, by show (x 2).val < 0 + 128; have h : (x 2).val < 128 := (x 2).isLt; omega⟩
/-- An index in a landing slot is sent to that slot, -/
theorem slot_part (h : HK) (x : S2x2x3x4x32x128.Idx) (hx : x ∈ (slotR h.1 h.2.1 h.2.2).set) : hkAt x = h := by
  obtain ⟨n, d, s⟩ := h
  have h0 : n.val / 2 ≤ (x 0).val ∧ (x 0).val < n.val / 2 + 1 := Rect.mem_set_unit.mp hx 0
  have h1 : n.val % 2 ≤ (x 1).val ∧ (x 1).val < n.val % 2 + 1 := Rect.mem_set_unit.mp hx 1
  have h2 : d.val ≤ (x 2).val ∧ (x 2).val < d.val + 1 := Rect.mem_set_unit.mp hx 2
  have h3 : s.val ≤ (x 3).val ∧ (x 3).val < s.val + 1 := Rect.mem_set_unit.mp hx 3
  refine Prod.ext (Fin.ext ?_) (Prod.ext (Fin.ext ?_) (Fin.ext ?_))
  · show 2 * (x 0).val + (x 1).val = n.val; omega
  · show (x 2).val = d.val; omega
  · show (x 3).val = s.val; omega
/-- and lies in it. -/
theorem slot_mem (x : S2x2x3x4x32x128.Idx) : x ∈ (slotR (hkAt x).1 (hkAt x).2.1 (hkAt x).2.2).set :=
  Rect.mem_set_unit.mpr fun a => by
    have h0 : (x 0).val < 2 := (x 0).isLt
    have h1 : (x 1).val < 2 := (x 1).isLt
    match a with
    | 0 => show (2 * (x 0).val + (x 1).val) / 2 ≤ (x 0).val ∧ (x 0).val < (2 * (x 0).val + (x 1).val) / 2 + 1; omega
    | 1 => show (2 * (x 0).val + (x 1).val) % 2 ≤ (x 1).val ∧ (x 1).val < (2 * (x 0).val + (x 1).val) % 2 + 1; omega
    | 2 => exact ⟨Nat.le_refl _, Nat.lt_succ_self _⟩
    | 3 => exact ⟨Nat.le_refl _, Nat.lt_succ_self _⟩
    | 4 => exact ⟨Nat.zero_le _, by show (x 4).val < 0 + 32; have h : (x 4).val < 32 := (x 4).isLt; omega⟩
    | 5 => exact ⟨Nat.zero_le _, by show (x 5).val < 0 + 128; have h : (x 5).val < 128 := (x 5).isLt; omega⟩

/-! ### The kernel's buffers -/

/-- The landing buffer is its slots. -/
theorem comm_split : (ownsAny c commM : sProp 𝕄) = bigSep Finset.univ fun h : HK => slotAny c h.1 h.2.1 h.2.2 :=
  (ownsAny_rects c commM (fun h : HK => slotR h.1 h.2.1 h.2.2) (fun _ _ => rfl) (rects_disjoint _ hkAt slot_part)
    (rects_cover _ hkAt slot_mem)).trans (bigSep_congr fun h _ => (ownsAny_squeeze c _ squeezes_S1x1x1x1x32x128_S32x128).symm)

/-- The final landing buffer is its places. -/
theorem rs_split : (ownsAny c rsM : sProp 𝕄) = bigSep Finset.univ fun i : Fin 15 => rsAny c i :=
  (ownsAny_rects c rsM rsR (fun _ _ => rfl) (rects_disjoint _ rsOf rs_part)
    (rects_cover _ rsOf rs_mem)).trans (bigSep_congr fun i _ => (ownsAny_squeeze c _ squeezes_S1x8x128_S8x128).symm)

/-- The accumulator is its slabs. -/
theorem acc_split : (ownsAny c accM : sProp 𝕄) = bigSep Finset.univ fun s : Fin 4 => slabAny c s :=
  ownsAny_rects c accM slabR (fun _ _ => rfl) (rects_disjoint _ slabOf slab_part) (rects_cover _ slabOf slab_mem)

/-- The accumulator's final contents on a slab. -/
theorem accF_slab (s : Fin 4) : (fun j => accF m ρ c ((slabR s).emb j)) = acc m ρ 4 c s := by
  funext j
  have h0 : (((slabR s).emb j) 0).val = 32 * s.val + (j 0).val := by rw [Rect.emb_apply]; show 32 * s.val + 1 * (j 0).val = _; omega
  have h1 : (((slabR s).emb j) 1).val = (j 1).val := by rw [Rect.emb_apply]; show 0 + 1 * (j 1).val = _; omega
  have hj : (j 0).val < 32 := (j 0).isLt
  have hs : (⟨(((slabR s).emb j) 0).val / 32, by have := (((slabR s).emb j) 0).isLt; show _ < 4; have h : S128x128.size 0 = 128 := rfl; omega⟩ : Fin 4) = s :=
    Fin.ext (by show _ / 32 = _; rw [h0]; omega)
  show acc m ρ 4 c ⟨(((slabR s).emb j) 0).val / 32, _⟩ _ = _
  rw [hs]
  refine congrArg _ (funext fun a => ?_)
  match a with
  | 0 => exact Fin.ext (by show (((slabR s).emb j) 0).val % 32 = (j 0).val; rw [h0]; omega)
  | 1 => exact Fin.ext h1

/-- The final slabs are the final blocks. -/
theorem acc_join : (bigSep Finset.univ fun s : Fin 4 => owns (c : Thread nD τ) (slabV s) fullShare (acc m ρ 4 c s) : sProp 𝕄)
    ⊢ bigSep Finset.univ fun b : Dev nD => owns (c : Thread nD τ) (blkV b) fullShare (blkX m ρ c b) := by
  rw [bigSep_congr (fun s _ => congrArg (owns (c : Thread nD τ) (slabV s) fullShare) (accF_slab m ρ c s).symm)]
  exact (owns_of_rects (c : Thread nD τ) accM fullShare slabR (fun _ _ => rfl) (rects_disjoint _ slabOf slab_part)
    (rects_cover _ slabOf slab_mem) (accF m ρ c)).trans
    (owns_rects (c : Thread nD τ) accM fullShare blkR (fun _ _ => rfl) (rects_disjoint _ blkOf blk_part)
      (rects_cover _ blkOf blk_mem) (accF m ρ c))

/-- The accumulator is its blocks. -/
theorem acc_blks : (ownsAny c accM : sProp 𝕄) = bigSep Finset.univ fun b : Dev nD => ownsAny c (blkV b) :=
  ownsAny_rects c accM blkR (fun _ _ => rfl) (rects_disjoint _ blkOf blk_part) (rects_cover _ blkOf blk_mem)

/-- The own block and the blocks that go out. -/
def blkAt (x : Fin 1 ⊕ Fin 15) : Dev nD := match x with | .inl _ => c | .inr i => fwd i c
/-- The own rows and the fifteen devices' further on are all rows. -/
theorem blkAt_bij : Function.Bijective (blkAt c) := by
  rw [Fintype.bijective_iff_injective_and_card]
  exact ⟨by revert c; decide +kernel, by decide +kernel⟩
/-- All devices' parts are the own one and the fifteen further on. -/
theorem sep_blks (P : Dev nD → sProp 𝕄) :
    bigSep Finset.univ P = iprop(P c ∗ bigSep Finset.univ fun i : Fin 15 => P (fwd i c)) := by
  rw [bigSep_univ_equiv (Equiv.ofBijective _ (blkAt_bij c)) P, bigSep_univ_sum,
    bigSep_univ_eq_bigSepL (l := [(0 : Fin 1)]) (by decide) (by decide)]
  rfl

end Mlp
-- ==== Proof.Body.lean ====
module
public import proofs.«01_k».proof.Proof.Split

/-! The run of the body: the greeting, the barrier, the five stages of every slab, the final blocks. Each slab goes through
    its stages by itself; at any moment it is either ready, with the phases behind it and before it, or in flight. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)
variable (c : Dev nD)
variable (Q : PUnit → sProp (MT nD τ sig ℕ (Elt F) ℕ UU ℕ))

/-! ### The greeting -/

/-- The signals to the neighbours `xs`, and then `p`. -/
def greetAll : List PE → PU F → PU F
  | [], p => p
  | x :: xs, p => semSignalWord (nxt x.1 x.2 c) barS 1#32 >>= fun _ => greetAll xs p

/-- What one signal needs. -/
def sigReady (x : PE) : sProp 𝕄 :=
  iprop(dutyTok ER (cell (nxt x.1 x.2 c) kbar) 0 (revE x) ∗ barPay (nxt x.1 x.2 c) (revE x))

/-- All signals to the neighbours `xs`, one after the other. -/
theorem greetAll_wp (xs : List PE) (l : List DK) (p : PU F) :
    iprop(records m ρ K ∗ sepL (sigReady c) xs ∗ ow c (xs.map .inl ++ l))
      ⊢ iprop((ow c l -∗ WP c p Q) -∗ WP c (greetAll c xs p) Q) := by
  induction xs with
  | nil =>
    unfold greetAll sepL
    iintro ⟨#HR, -, Ho⟩ Hk
    iapply Hk; iexact Ho
  | cons x xs ih =>
    unfold greetAll sepL
    rw [List.map_cons, List.cons_append]
    iintro ⟨#HR, ⟨Hi, Hs⟩, Ho⟩ Hk
    unfold sigReady
    icases Hi with ⟨Ht, Hp⟩
    iapply (signal_wp m ρ K c Q (xs.map .inl ++ l) x.1 x.2) $$ [Ht Hp Ho]
    · isplitr; · iexact HR
      isplitl [Ho]; · iexact Ho
      isplitl [Ht]; · iexact Ht
      iexact Hp
    iintro Ho
    iapply ih $$ [Hs Ho]
    · isplitr; · iexact HR
      isplitl [Hs]; · iexact Hs
      iexact Ho
    iexact Hk

/-! ### One slab's stages -/

/-- The phases before slab `s`, -/
def ahead (s : Fin 4) (fs : List (Fin 4)) : sProp 𝕄 := sepL (fun n => fut c n s) fs
/-- and those behind it. -/
def behind (s : Fin 4) (ps : List (Fin 4)) : sProp 𝕄 := sepL (fun n => past c n s) ps
/-- Slab `s` in the middle of phase `n`. -/
def flight (s n : Fin 4) (fs ps : List (Fin 4)) : sProp 𝕄 := iprop(mid c n s ∗ ahead c s fs ∗ behind c s ps)

/-- The three payments of a slab in a phase, before the others. -/
def dueH (n s : Fin 4) (l : List DK) : List DK := .inr (.inl (n, 0, s)) :: .inr (.inl (n, 1, s)) :: .inr (.inl (n, 2, s)) :: l

/-- Only the first slab of the first exchange along the columns passes anything on. -/
theorem extOut_emp (n s : Fin 4) (h : ¬(n = 1 ∧ s = 0)) : (iprop(emp) : sProp 𝕄) ⊢ extOut c n s := by
  unfold extOut three
  beta_reduce
  rw [ext_emp _ _ _ _ h, ext_emp _ _ _ _ h, ext_emp _ _ _ _ h]
  iintro -
  isplitr; · iempintro
  isplitr; · iempintro
  iempintro

variable (l l' : List DK)

/-- A ready slab sets out. -/
theorem go_wp (n s : Fin 4) (fs ps : List (Fin 4)) (hd : l' = dueH n s l) {k : PUnit → PU F} :
    iprop(records m ρ K ∗ owns (c : Thread nD τ) (slabV s) fullShare (acc m ρ n.val c s) ∗ ahead c s (n :: fs) ∗ behind c s ps
        ∗ extOut c n s ∗ ow c l')
      ⊢ iprop(((flight c s n fs ps ∗ ow c l) -∗ WP c (k ⟨⟩) Q)
        -∗ WP c (start n s (nxt (pOf n) 0 c) (nxt (pOf n) 1 c) (nxt (pOf n) 2 c) >>= k) Q) := by
  subst hd
  unfold flight ahead
  iintro ⟨#HR, Hs, Hf, Hp, Hx, Ho⟩ Hk
  ihave Hf' := (show sepL (fun n => fut c n s) (n :: fs) ⊢ (iprop(fut c n s ∗ sepL (fun n => fut c n s) fs) : sProp 𝕄) from .rfl) $$ Hf
  icases Hf' with ⟨Hn, Hf⟩
  iapply (start_wp m ρ K c Q l n s) $$ [Hs Hn Hx Ho]
  · isplitr; · iexact HR
    isplitl [Hs]; · iexact Hs
    isplitl [Hn]; · iexact Hn
    isplitl [Hx]; · iexact Hx
    iexact Ho
  iintro ⟨Hm, Ho⟩
  iapply Hk
  isplitr [Ho]
  rotate_left
  · iexact Ho
  isplitl [Hm]; · iexact Hm
  isplitl [Hf]; · iexact Hf
  iexact Hp

/-- The end of a slab's phase. -/
theorem land_wp (n s : Fin 4) (fs ps : List (Fin 4)) (hl : ∀ k ∈ l, 2 + n.val < dlev k) {k : PUnit → PU F} :
    iprop(records m ρ K ∗ flight c s n fs ps ∗ ow c l)
      ⊢ iprop(((owns (c : Thread nD τ) (slabV s) fullShare (exch (fun d => acc m ρ n.val d s) n.val c) ∗ ahead c s fs
          ∗ behind c s (n :: ps) ∗ extIn c n s ∗ ow c l) -∗ WP c (k ⟨⟩) Q)
        -∗ WP c (finish n s >>= k) Q) := by
  unfold flight behind
  iintro ⟨#HR, ⟨Hm, Hf, Hp⟩, Ho⟩ Hk
  iapply (finish_wp m ρ K c l n s hl Q) $$ [Hm Ho]
  · isplitr; · iexact HR
    isplitl [Hm]; · iexact Hm
    iexact Ho
  iintro ⟨Hs, Hn, Hx, Ho⟩
  iapply Hk
  isplitl [Hs]; · iexact Hs
  isplitl [Hf]; · iexact Hf
  isplitl [Hn Hp]
  · iapply (show iprop(past c n s ∗ sepL (fun n => past c n s) ps) ⊢ (sepL (fun n => past c n s) (n :: ps) : sProp 𝕄) from .rfl)
    isplitl [Hn]; · iexact Hn
    iexact Hp
  isplitl [Hx]; · iexact Hx
  iexact Ho

/-- The end of a phase and the start of the next. -/
theorem pass_wp (n n' s : Fin 4) (fs ps : List (Fin 4)) (hn : ∀ c s, acc m ρ n'.val c s = exch (fun d => acc m ρ n.val d s) n.val c)
    (hl : ∀ k ∈ l', 2 + n.val < dlev k) (hd : l' = dueH n' s l) {k : PUnit → PU F} :
    iprop(records m ρ K ∗ flight c s n (n' :: fs) ps ∗ extOut c n' s ∗ ow c l')
      ⊢ iprop(((flight c s n' fs (n :: ps) ∗ ow c l) -∗ WP c (k ⟨⟩) Q)
        -∗ WP c (finish n s >>= fun _ => start n' s (nxt (pOf n') 0 c) (nxt (pOf n') 1 c) (nxt (pOf n') 2 c) >>= k) Q) := by
  iintro ⟨#HR, Hf, Hx, Ho⟩ Hk
  iapply (land_wp m ρ K c Q l' n s (n' :: fs) ps hl) $$ [Hf Ho]
  · isplitr; · iexact HR
    isplitl [Hf]; · iexact Hf
    iexact Ho
  rw [← hn]
  iintro ⟨Hs, Hf, Hp, -, Ho⟩
  iapply (go_wp m ρ K c Q l l' n' s fs (n :: ps) hd) $$ [Hs Hf Hp Hx Ho]
  · isplitr; · iexact HR
    isplitl [Hs]; · iexact Hs
    isplitl [Hf]; · iexact Hf
    isplitl [Hp]; · iexact Hp
    isplitl [Hx]; · iexact Hx
    iexact Ho
  iexact Hk

/-- The end of a phase along the columns and the next layer. -/
theorem layer_wp (n s : Fin 4) (N : ℕ) (fs ps : List (Fin 4)) (a : Memref sig .tc .vmem S128x256 .f32) (b : Memref sig .tc .vmem S256x128 .f32)
    (U : Vec F S128x256 .f32) (V : Vec F S256x128 .f32)
    (hn : ∀ c s, U = wi m ρ c N → V = wo m ρ c N → acc m ρ (n.val + 1) c s = mlpA (exch (fun d => acc m ρ n.val d s) n.val c) U V)
    (hU : U = wi m ρ c N) (hV : V = wo m ρ c N)
    (hl : ∀ k ∈ l, 2 + n.val < dlev k) {k : PUnit → PU F} :
    iprop(records m ρ K ∗ flight c s n fs ps ∗ owns (c : Thread nD τ) a fullShare U ∗ owns (c : Thread nD τ) b fullShare V ∗ ow c l)
      ⊢ iprop(((owns (c : Thread nD τ) (slabV s) fullShare (acc m ρ (n.val + 1) c s) ∗ ahead c s fs ∗ behind c s (n :: ps) ∗ extIn c n s
          ∗ owns (c : Thread nD τ) a fullShare U ∗ owns (c : Thread nD τ) b fullShare V ∗ ow c l) -∗ WP c (k ⟨⟩) Q)
        -∗ WP c (finish n s >>= fun _ => compute mlpA accM a b s >>= k) Q) := by
  iintro ⟨#HR, Hf, Ha, Hb, Ho⟩ Hk
  iapply (land_wp m ρ K c Q l n s fs ps hl) $$ [Hf Ho]
  · isplitr; · iexact HR
    isplitl [Hf]; · iexact Hf
    iexact Ho
  iintro ⟨Hs, Hf, Hp, Hx, Ho⟩
  iapply (computeA_wp c mlpA a b s _ U V Q) $$ [Hs Ha Hb]
  · isplitl [Hs]; · iexact Hs
    isplitl [Ha]; · iexact Ha
    iexact Hb
  rw [← hn c s hU hV]
  iintro ⟨Hs, Ha, Hb⟩
  iapply Hk
  isplitl [Hs]; · iexact Hs
  isplitl [Hf]; · iexact Hf
  isplitl [Hp]; · iexact Hp
  isplitl [Hx]; · iexact Hx
  isplitl [Ha]; · iexact Ha
  isplitl [Hb]; · iexact Hb
  iexact Ho

/-! ### All transfers, slab by slab -/

/-- A family over the transfers, by slab, phase and neighbour. -/
theorem sep_HK (P : HK → sProp 𝕄) : bigSep Finset.univ P
    = bigSep Finset.univ fun s : Fin 4 => bigSep Finset.univ fun n : Fin 4 => bigSep Finset.univ fun d : Fin 3 => P (n, d, s) := by
  refine (bigSep_univ_prod P).trans (.trans ?_ (bigSep_univ_comm fun (n s : Fin 4) => bigSep Finset.univ fun d : Fin 3 => P (n, d, s)))
  refine bigSep_congr fun n _ => ?_
  exact (bigSep_univ_prod fun x : Fin 3 × Fin 4 => P (n, x)).trans (bigSep_univ_comm fun (d : Fin 3) (s : Fin 4) => P (n, d, s))

/-- What a device starts with for one transfer: everything but the neighbour's landing slot. -/
def hopPre (h : HK) : sProp 𝕄 :=
  iprop(dutyTok ER (cell c (ksnd h)) 0 ((0, 0) : PE) ∗ dutyTok ER (cell (nxt (pOf h.1) h.2.1 c) (krcv h)) 0 ((0, 0) : PE)
    ∗ atPos ER (cell c (ksnd h)) 0 (∅ : Finset PE) 0 ∗ atPos ER (cell c (krcv h)) 0 (∅ : Finset PE) 0
    ∗ cred (tallyAt (cell c (krcv h)) (2 + h.1.val) NH))

/-- With the neighbours' landing slots every slab has all its phases before it. -/
theorem futs_eq : iprop((bigSep Finset.univ fun h : HK => slotAny (nxt (pOf h.1) h.2.1 c) h.1 h.2.1 h.2.2) ∗ bigSep Finset.univ (hopPre c))
    = (bigSep Finset.univ fun s : Fin 4 => ahead c s [0, 1, 2, 3] : sProp 𝕄) := by
  rw [← bigSep_sep', sep_HK]
  refine bigSep_congr fun s _ => ?_
  unfold ahead
  rw [sepL_eq _ _ (by decide) (by decide)]
  refine bigSep_congr fun n _ => ?_
  unfold fut
  rw [three_eq]
  rfl

/-- What the phases leave: the closed cells and the landing slots. -/
theorem pasts_eq : (bigSep Finset.univ fun s : Fin 4 => behind c s [3, 2, 1, 0] : sProp 𝕄)
    = iprop((bigSep Finset.univ fun h : HK => semVal (cell c (ksnd h)) 0) ∗ (bigSep Finset.univ fun h : HK => semVal (cell c (krcv h)) 0)
      ∗ ownsAny c commM) := by
  rw [comm_split, ← bigSep_sep', ← bigSep_sep', sep_HK]
  refine bigSep_congr fun s _ => ?_
  unfold behind
  rw [sepL_eq _ _ (by decide) (by decide)]
  refine bigSep_congr fun n _ => ?_
  unfold past
  rw [three_eq]
  rfl

/-- The four slabs one by one. -/
theorem four (P : Fin 4 → sProp 𝕄) : bigSep Finset.univ P = iprop(P 0 ∗ P 1 ∗ P 2 ∗ P 3) := by
  rw [bigSep_univ_eq_bigSepL [0, 1, 2, 3] (by decide) (by decide)]; rfl

/-- All cells of a device at zero. -/
def allSem : sProp 𝕄 := bigSep Finset.univ fun k : CK => semVal (cell c k) 0
/-- All semaphores of a device at zero, by kind. -/
theorem allSem_eq : (allSem c : sProp 𝕄) = iprop(semVal (cell c kbar) 0
    ∗ ((bigSep Finset.univ fun h : HK => semVal (cell c (ksnd h)) 0) ∗ (bigSep Finset.univ fun h : HK => semVal (cell c (krcv h)) 0))
    ∗ ((bigSep Finset.univ fun i : Fin 15 => semVal (cell c (kfs i)) 0) ∗ (bigSep Finset.univ fun i : Fin 15 => semVal (cell c (kfr i)) 0))) := by
  unfold allSem
  rw [bigSep_univ_sum, bigSep_univ_sum, bigSep_univ_sum, bigSep_univ_sum, bigSep_univ_eq_bigSepL (l := [(0 : Fin 1)]) (by decide) (by decide)]
  rfl

end Mlp
-- ==== Proof.Run.lean ====
module
public import proofs.«01_k».proof.Proof.Body

/-! The stages for several slabs in a row, and the whole body. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)
variable (c : Dev nD)
variable (Q : PUnit → sProp (MT nD τ sig ℕ (Elt F) ℕ UU ℕ))

/-! ### The programs -/

/-- The start of phase `n` for slab `s`. -/
abbrev startAt (n s : Fin 4) : PU F := start n s (nxt (pOf n) 0 c) (nxt (pOf n) 1 c) (nxt (pOf n) 2 c)
/-- The first layer on slab `s`. -/
abbrev layer0 (s : Fin 4) : PU F := compute mlp (Memref.whole cc0_stg0_0) (Memref.whole cc0_stg1_0) (Memref.whole cc0_stg2_0) s

/-- The first layer and the start of phase 0 for the slabs `ss`, and then `p`. -/
def firstAll : List (Fin 4) → PU F → PU F
  | [], p => p
  | s :: ss, p => layer0 s >>= fun _ => startAt c 0 s >>= fun _ => firstAll ss p
/-- The end of phase `n` and the start of phase `n'`. -/
def passAll (n n' : Fin 4) : List (Fin 4) → PU F → PU F
  | [], p => p
  | s :: ss, p => finish n s >>= fun _ => startAt c n' s >>= fun _ => passAll n n' ss p
/-- The end of phase `n`, a layer, and the start of phase `n'`. -/
def turnAll (n n' : Fin 4) (a : Memref sig .tc .vmem S128x256 .f32) (b : Memref sig .tc .vmem S256x128 .f32) : List (Fin 4) → PU F → PU F
  | [], p => p
  | s :: ss, p => finish n s >>= fun _ => compute mlpA accM a b s >>= fun _ => startAt c n' s >>= fun _ => turnAll n n' a b ss p
/-- The end of phase `n` and the last layer. -/
def lastAll (n : Fin 4) (a : Memref sig .tc .vmem S128x256 .f32) (b : Memref sig .tc .vmem S256x128 .f32) : List (Fin 4) → PU F → PU F
  | [], p => p
  | s :: ss, p => finish n s >>= fun _ => compute mlpA accM a b s >>= fun _ => lastAll n a b ss p

/-- The fifteen outgoing blocks. -/
abbrev outs : List (Fin 15) := [0, 1, 2, 3, 4, 5, 6, 7, 8, 9, 10, 11, 12, 13, 14]
/-- The six neighbours in the order of the greeting. -/
abbrev peers : List PE := [(0, 0), (1, 0), (0, 1), (1, 1), (0, 2), (1, 2)]

/-- After the greeting and the first layer on the first slab. -/
def afterBar : PU F := semWaitWord barS 6#32 >>= fun _ => startAt c 0 0 >>= fun _ => firstAll c [1, 2, 3]
  (passAll c 0 1 [0, 1, 2, 3] (turnAll c 1 2 (Memref.whole cc0_stg3_0) (Memref.whole cc0_stg4_0) [0, 1, 2, 3]
    (passAll c 2 3 [0, 1, 2, 3] (lastAll 3 (Memref.whole cc0_stg5_0) (Memref.whole cc0_stg6_0) [0, 1, 2, 3]
      (sendAll c outs (waitAll c outs (total c)))))))

set_option maxRecDepth 65536 in
/-- The body is the signals, the first layer's first slab, and what follows the barrier's wait. -/
theorem stepsN_eq : (stepsN c : PU F) = greetAll c peers (layer0 0 >>= fun _ => afterBar c) := by
  unfold stepsN greet
  chain_rfl

/-! ### The stages in a row -/

/-- The payments of phase `n` for the slabs `ss`. -/
def dueL (n : Fin 4) (l : List DK) : List (Fin 4) → List DK
  | [] => l
  | s :: ss => dueH n s (dueL n l ss)

/-- What lies below the dues of a slab and the rest lies below the rest. -/
theorem dueL_sub {n s : Fin 4} {l : List DK} {i : ℕ} (h : ∀ k ∈ dueH n s l, i < dlev k) : ∀ k ∈ l, i < dlev k :=
  fun k hk => h k (List.mem_cons_of_mem _ (List.mem_cons_of_mem _ (List.mem_cons_of_mem _ hk)))

variable (l : List DK) (fs ps : List (Fin 4))

/-- The first layer on a slab. -/
theorem layer0_wp (s : Fin 4) {k : PUnit → PU F} :
    iprop(owns (c : Thread nD τ) (Memref.whole cc0_stg0_0) fullShare (st0 m ρ c) ∗ owns (c : Thread nD τ) (Memref.whole cc0_stg1_0) fullShare (st1 m ρ c)
        ∗ owns (c : Thread nD τ) (Memref.whole cc0_stg2_0) fullShare (st2 m ρ c) ∗ slabAny c s)
      ⊢ iprop(((owns (c : Thread nD τ) (Memref.whole cc0_stg0_0) fullShare (st0 m ρ c) ∗ owns (c : Thread nD τ) (Memref.whole cc0_stg1_0) fullShare (st1 m ρ c)
        ∗ owns (c : Thread nD τ) (Memref.whole cc0_stg2_0) fullShare (st2 m ρ c) ∗ owns (c : Thread nD τ) (slabV s) fullShare (acc m ρ (0 : Fin 4).val c s)) -∗ WP c (k ⟨⟩) Q)
        -∗ WP c (layer0 s >>= k) Q) :=
  compute_wp c mlp (Memref.whole cc0_stg0_0) (Memref.whole cc0_stg1_0) (Memref.whole cc0_stg2_0) s (st0 m ρ c) (st1 m ρ c) (st2 m ρ c) Q

/-- The first layer on the slabs `ss`, each followed by the start of its exchange along the row. -/
theorem firstAll_wp (ss : List (Fin 4)) (h0 : ∀ s ∈ ss, ¬((0 : Fin 4) = 1 ∧ s = 0)) (p : PU F) :
    iprop(records m ρ K ∗ owns (c : Thread nD τ) (Memref.whole cc0_stg0_0) fullShare (st0 m ρ c)
        ∗ owns (c : Thread nD τ) (Memref.whole cc0_stg1_0) fullShare (st1 m ρ c)
        ∗ owns (c : Thread nD τ) (Memref.whole cc0_stg2_0) fullShare (st2 m ρ c)
        ∗ sepL (slabAny c) ss ∗ sepL (fun s => ahead c s (0 :: fs)) ss ∗ ow c (dueL 0 l ss))
      ⊢ iprop(((owns (c : Thread nD τ) (Memref.whole cc0_stg0_0) fullShare (st0 m ρ c)
        ∗ owns (c : Thread nD τ) (Memref.whole cc0_stg1_0) fullShare (st1 m ρ c)
        ∗ owns (c : Thread nD τ) (Memref.whole cc0_stg2_0) fullShare (st2 m ρ c)
        ∗ sepL (fun s => flight c s 0 fs []) ss ∗ ow c l) -∗ WP c p Q) -∗ WP c (firstAll c ss p) Q) := by
  induction ss with
  | nil =>
    unfold firstAll sepL dueL
    iintro ⟨#HR, Hx, Ha, Hb, -, -, Ho⟩ Hk
    iapply Hk
    isplitl [Hx]; · iexact Hx
    isplitl [Ha]; · iexact Ha
    isplitl [Hb]; · iexact Hb
    isplitr; · iempintro
    iexact Ho
  | cons s ss ih =>
    unfold firstAll sepL dueL
    iintro ⟨#HR, Hx, Ha, Hb, ⟨Hs, Hss⟩, ⟨Hf, Hfs⟩, Ho⟩ Hk
    iapply (layer0_wp m ρ c Q s) $$ [Hx Ha Hb Hs]
    · isplitl [Hx]; · iexact Hx
      isplitl [Ha]; · iexact Ha
      isplitl [Hb]; · iexact Hb
      iexact Hs
    iintro ⟨Hx, Ha, Hb, Hs⟩
    iapply (go_wp m ρ K c Q (dueL 0 l ss) _ 0 s fs [] rfl) $$ [Hs Hf Ho]
    · isplitr; · iexact HR
      isplitl [Hs]; · iexact Hs
      isplitl [Hf]; · iexact Hf
      isplitr
      · unfold behind sepL; iempintro
      isplitr
      · iapply (extOut_emp c 0 s (h0 s List.mem_cons_self)); iempintro
      iexact Ho
    iintro ⟨Hs, Ho⟩
    iapply (ih fun s hs => h0 s (List.mem_cons_of_mem _ hs)) $$ [Hx Ha Hb Hss Hfs Ho]
    · isplitr; · iexact HR
      isplitl [Hx]; · iexact Hx
      isplitl [Ha]; · iexact Ha
      isplitl [Hb]; · iexact Hb
      isplitl [Hss]; · iexact Hss
      isplitl [Hfs]; · iexact Hfs
      iexact Ho
    iintro ⟨Hx, Ha, Hb, Hss, Ho⟩
    iapply Hk
    isplitl [Hx]; · iexact Hx
    isplitl [Ha]; · iexact Ha
    isplitl [Hb]; · iexact Hb
    isplitl [Hs Hss]
    · isplitl [Hs]; · iexact Hs
      iexact Hss
    iexact Ho

/-- The ends of one exchange, slab by slab, each followed by the start of the next along the column. -/
theorem passAll_wp (n n' : Fin 4) (hn : ∀ c s, acc m ρ n'.val c s = exch (fun d => acc m ρ n.val d s) n.val c) (ss : List (Fin 4))
    (hl : ∀ k ∈ dueL n' l ss, 2 + n.val < dlev k) (p : PU F) :
    iprop(records m ρ K ∗ sepL (fun s => flight c s n (n' :: fs) ps) ss ∗ sepL (fun s => extOut c n' s) ss ∗ ow c (dueL n' l ss))
      ⊢ iprop(((sepL (fun s => flight c s n' fs (n :: ps)) ss ∗ ow c l) -∗ WP c p Q) -∗ WP c (passAll c n n' ss p) Q) := by
  induction ss with
  | nil =>
    unfold passAll sepL dueL
    iintro ⟨#HR, -, -, Ho⟩ Hk
    iapply Hk
    isplitr; · iempintro
    iexact Ho
  | cons s ss ih =>
    unfold passAll sepL dueL
    iintro ⟨#HR, ⟨Hs, Hss⟩, ⟨Hx, Hxs⟩, Ho⟩ Hk
    iapply (pass_wp m ρ K c Q (dueL n' l ss) _ n n' s fs ps hn hl rfl) $$ [Hs Hx Ho]
    · isplitr; · iexact HR
      isplitl [Hs]; · iexact Hs
      isplitl [Hx]; · iexact Hx
      iexact Ho
    iintro ⟨Hs, Ho⟩
    iapply (ih (dueL_sub hl)) $$ [Hss Hxs Ho]
    · isplitr; · iexact HR
      isplitl [Hss]; · iexact Hss
      isplitl [Hxs]; · iexact Hxs
      iexact Ho
    iintro ⟨Hss, Ho⟩
    iapply Hk
    isplitl [Hs Hss]
    · isplitl [Hs]; · iexact Hs
      iexact Hss
    iexact Ho

variable (a : Memref sig .tc .vmem S128x256 .f32) (b : Memref sig .tc .vmem S256x128 .f32) (U : Vec F S128x256 .f32) (V : Vec F S256x128 .f32)

/-- The ends of an exchange along the column, slab by slab, each followed by the next layer and the start of its exchange. -/
theorem turnAll_wp (n n' : Fin 4) (N : ℕ) (hN : n'.val = n.val + 1)
    (hn : ∀ c s, U = wi m ρ c N → V = wo m ρ c N → acc m ρ (n.val + 1) c s = mlpA (exch (fun d => acc m ρ n.val d s) n.val c) U V)
    (hU : U = wi m ρ c N) (hV : V = wo m ρ c N) (ss : List (Fin 4))
    (h0 : ∀ s ∈ ss, ¬(n' = 1 ∧ s = 0)) (hl : ∀ k ∈ dueL n' l ss, 2 + n.val < dlev k) (p : PU F) :
    iprop(records m ρ K ∗ sepL (fun s => flight c s n (n' :: fs) ps) ss ∗ owns (c : Thread nD τ) a fullShare U ∗ owns (c : Thread nD τ) b fullShare V
        ∗ ow c (dueL n' l ss))
      ⊢ iprop(((sepL (fun s => flight c s n' fs (n :: ps)) ss ∗ sepL (fun s => extIn c n s) ss ∗ owns (c : Thread nD τ) a fullShare U
          ∗ owns (c : Thread nD τ) b fullShare V ∗ ow c l) -∗ WP c p Q) -∗ WP c (turnAll c n n' a b ss p) Q) := by
  induction ss with
  | nil =>
    unfold turnAll sepL dueL
    iintro ⟨#HR, -, Ha, Hb, Ho⟩ Hk
    iapply Hk
    isplitr; · iempintro
    isplitr; · iempintro
    isplitl [Ha]; · iexact Ha
    isplitl [Hb]; · iexact Hb
    iexact Ho
  | cons s ss ih =>
    unfold turnAll sepL dueL
    iintro ⟨#HR, ⟨Hs, Hss⟩, Ha, Hb, Ho⟩ Hk
    iapply (layer_wp m ρ K c Q _ n s N (n' :: fs) ps a b U V hn hU hV hl) $$ [Hs Ha Hb Ho]
    · isplitr; · iexact HR
      isplitl [Hs]; · iexact Hs
      isplitl [Ha]; · iexact Ha
      isplitl [Hb]; · iexact Hb
      iexact Ho
    rw [← hN]
    iintro ⟨Hs, Hf, Hp, Hx, Ha, Hb, Ho⟩
    iapply (go_wp m ρ K c Q (dueL n' l ss) _ n' s fs (n :: ps) rfl) $$ [Hs Hf Hp Ho]
    · isplitr; · iexact HR
      isplitl [Hs]; · iexact Hs
      isplitl [Hf]; · iexact Hf
      isplitl [Hp]; · iexact Hp
      isplitr
      · iapply (extOut_emp c n' s (h0 s List.mem_cons_self)); iempintro
      iexact Ho
    iintro ⟨Hs, Ho⟩
    iapply (ih (fun s hs => h0 s (List.mem_cons_of_mem _ hs)) (dueL_sub hl)) $$ [Hss Ha Hb Ho]
    · isplitr; · iexact HR
      isplitl [Hss]; · iexact Hss
      isplitl [Ha]; · iexact Ha
      isplitl [Hb]; · iexact Hb
      iexact Ho
    iintro ⟨Hss, Hxs, Ha, Hb, Ho⟩
    iapply Hk
    isplitl [Hs Hss]
    · isplitl [Hs]; · iexact Hs
      iexact Hss
    isplitl [Hx Hxs]
    · isplitl [Hx]; · iexact Hx
      iexact Hxs
    isplitl [Ha]; · iexact Ha
    isplitl [Hb]; · iexact Hb
    iexact Ho

/-- The ends of the last exchange, slab by slab, each followed by the last layer. -/
theorem lastAll_wp (n : Fin 4) (N : ℕ)
    (hn : ∀ c s, U = wi m ρ c N → V = wo m ρ c N → acc m ρ (n.val + 1) c s = mlpA (exch (fun d => acc m ρ n.val d s) n.val c) U V)
    (hU : U = wi m ρ c N) (hV : V = wo m ρ c N) (ss : List (Fin 4)) (hl : ∀ k ∈ l, 2 + n.val < dlev k) (p : PU F) :
    iprop(records m ρ K ∗ sepL (fun s => flight c s n [] ps) ss ∗ owns (c : Thread nD τ) a fullShare U ∗ owns (c : Thread nD τ) b fullShare V
        ∗ ow c l)
      ⊢ iprop(((sepL (fun s => owns (c : Thread nD τ) (slabV s) fullShare (acc m ρ (n.val + 1) c s)) ss ∗ sepL (fun s => behind c s (n :: ps)) ss
          ∗ owns (c : Thread nD τ) a fullShare U ∗ owns (c : Thread nD τ) b fullShare V ∗ ow c l) -∗ WP c p Q)
        -∗ WP c (lastAll n a b ss p) Q) := by
  induction ss with
  | nil =>
    unfold lastAll sepL
    iintro ⟨#HR, -, Ha, Hb, Ho⟩ Hk
    iapply Hk
    isplitr; · iempintro
    isplitr; · iempintro
    isplitl [Ha]; · iexact Ha
    isplitl [Hb]; · iexact Hb
    iexact Ho
  | cons s ss ih =>
    unfold lastAll sepL
    iintro ⟨#HR, ⟨Hs, Hss⟩, Ha, Hb, Ho⟩ Hk
    iapply (layer_wp m ρ K c Q l n s N [] ps a b U V hn hU hV hl) $$ [Hs Ha Hb Ho]
    · isplitr; · iexact HR
      isplitl [Hs]; · iexact Hs
      isplitl [Ha]; · iexact Ha
      isplitl [Hb]; · iexact Hb
      iexact Ho
    iintro ⟨Hs, -, Hp, -, Ha, Hb, Ho⟩
    iapply ih $$ [Hss Ha Hb Ho]
    · isplitr; · iexact HR
      isplitl [Hss]; · iexact Hss
      isplitl [Ha]; · iexact Ha
      isplitl [Hb]; · iexact Hb
      iexact Ho
    iintro ⟨Hss, Hps, Ha, Hb, Ho⟩
    iapply Hk
    isplitl [Hs Hss]
    · isplitl [Hs]; · iexact Hs
      iexact Hss
    isplitl [Hp Hps]
    · isplitl [Hp]; · iexact Hp
      iexact Hps
    isplitl [Ha]; · iexact Ha
    isplitl [Hb]; · iexact Hb
    iexact Ho

end Mlp
-- ==== Proof.Whole.lean ====
module
public import proofs.«01_k».proof.Proof.Run

/-! The whole body on one device: from what the launch hands it to the result and the buffers handed back. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ)
variable (c : Dev nD)
variable (Q : PUnit → sProp (MT nD τ sig ℕ (Elt F) ℕ UU ℕ))

/-- What a device starts with for one final block. -/
def outPre (i : Fin 15) : sProp 𝕄 :=
  iprop(dutyTok ER (cell c (kfs i)) 0 ((0, 0) : PE) ∗ dutyTok ER (cell (fwd i c) (kfr i)) 0 ((0, 0) : PE)
    ∗ atPos ER (cell c (kfs i)) 0 (∅ : Finset PE) 0 ∗ atPos ER (cell c (kfr i)) 0 (∅ : Finset PE) 0
    ∗ cred (tallyAt (cell c (kfr i)) 6 NF))

/-- All that a device starts with besides its buffers. -/
def lin : sProp 𝕄 :=
  iprop((bigSep Finset.univ fun x : PE => dutyTok ER (cell (nxt x.1 x.2 c) kbar) 0 (revE x))
    ∗ (cred (tallyAt (cell c kbar) 1 6) ∗ atPos ER (cell c kbar) 0 (∅ : Finset PE) 0)
    ∗ bigSep Finset.univ (hopPre c) ∗ bigSep Finset.univ (outPre c))

/-- The staged inputs. -/
def ins : sProp 𝕄 :=
  iprop((owns (c : Thread nD τ) (Memref.whole cc0_stg0_0) fullShare (st0 m ρ c)
      ∗ owns (c : Thread nD τ) (Memref.whole cc0_stg1_0) fullShare (st1 m ρ c)
      ∗ owns (c : Thread nD τ) (Memref.whole cc0_stg2_0) fullShare (st2 m ρ c))
    ∗ (owns (c : Thread nD τ) (Memref.whole cc0_stg3_0) fullShare (st3 m ρ c)
      ∗ owns (c : Thread nD τ) (Memref.whole cc0_stg4_0) fullShare (st4 m ρ c))
    ∗ (owns (c : Thread nD τ) (Memref.whole cc0_stg5_0) fullShare (st5 m ρ c)
      ∗ owns (c : Thread nD τ) (Memref.whole cc0_stg6_0) fullShare (st6 m ρ c)))

/-- The result. -/
def outC : Vec F S8x128 .f32 := sum16V (blkX m ρ c c) fun i => blkX m ρ (bwd i c) c

/-- The signals' needs. -/
theorem sigs_eq : iprop((bigSep Finset.univ fun x : PE => dutyTok ER (cell (nxt x.1 x.2 c) kbar) 0 (revE x)) ∗ ownsAny c commM ∗ ownsAny c rsM)
    = (sepL (sigReady c) peers : sProp 𝕄) := by
  rw [comm_split, rs_split, give, ← bigSep_sep', sepL_eq _ _ (by decide) (by decide)]
  rfl

/-- The final sends' needs. -/
theorem outs_eq : iprop((bigSep Finset.univ fun i : Fin 15 => owns (c : Thread nD τ) (blkV (fwd i c)) fullShare (blkX m ρ c (fwd i c)))
      ∗ (bigSep Finset.univ fun i : Fin 15 => rsP (fwd i c) c) ∗ bigSep Finset.univ (outPre c))
    = (sepL (outReady m ρ c) outs : sProp 𝕄) := by
  rw [← bigSep_sep', ← bigSep_sep', sepL_eq _ _ (by decide) (by decide)]
  rfl

/-- What the final waits leave. -/
theorem dones_eq : (sepL (outDone m ρ c) outs : sProp 𝕄)
    = iprop(sepL (fun i => owns (c : Thread nD τ) (rsV i) fullShare (blkX m ρ (bwd i c) c)) outs
      ∗ (bigSep Finset.univ fun i : Fin 15 => owns (c : Thread nD τ) (blkV (fwd i c)) fullShare (blkX m ρ c (fwd i c)))
      ∗ (bigSep Finset.univ fun i : Fin 15 => semVal (cell c (kfs i)) 0) ∗ (bigSep Finset.univ fun i : Fin 15 => semVal (cell c (kfr i)) 0)) := by
  rw [sepL_eq (fun i => owns (c : Thread nD τ) (rsV i) fullShare (blkX m ρ (bwd i c) c)) outs (by decide) (by decide),
    ← bigSep_sep', ← bigSep_sep', ← bigSep_sep', sepL_eq _ _ (by decide) (by decide)]
  rfl

/-- The final landing places are the buffer again, -/
theorem rs_back (B : Fin 15 → Vec F S8x128 .f32) : sepL (fun i => owns (c : Thread nD τ) (rsV i) fullShare (B i)) outs ⊢ (ownsAny c rsM : sProp 𝕄) := by
  rw [sepL_eq _ _ (by decide) (by decide), rs_split]
  exact bigSep_mono fun i _ => ownsAny_intro c (rsV i) (B i)
/-- and the blocks the accumulator. -/
theorem acc_back : iprop(owns (c : Thread nD τ) (blkV c) fullShare (blkX m ρ c c)
      ∗ bigSep Finset.univ fun i : Fin 15 => owns (c : Thread nD τ) (blkV (fwd i c)) fullShare (blkX m ρ c (fwd i c)))
    ⊢ (ownsAny c accM : sProp 𝕄) := by
  rw [acc_blks, ← sep_blks c fun b => owns (c : Thread nD τ) (blkV b) fullShare (blkX m ρ c b)]
  exact bigSep_mono fun b _ => ownsAny_intro c (blkV b) _

/-- Everything owed at the barrier lies above its wait. -/
theorem lev_bar : ∀ k ∈ dues 6, 1 < dlev k := by decide +kernel
/-- Everything owed in the first exchange lies above its waits; -/
theorem lev_ph0 : ∀ k ∈ dues 18, 2 + (0 : Fin 4).val < dlev k := by decide +kernel
/-- so in the second, -/
theorem lev_ph1 : ∀ k ∈ dues 30, 2 + (1 : Fin 4).val < dlev k := by decide +kernel
/-- the third, -/
theorem lev_ph2 : ∀ k ∈ dues 42, 2 + (2 : Fin 4).val < dlev k := by decide +kernel
/-- and the fourth. -/
theorem lev_ph3 : ∀ k ∈ dues 54, 2 + (3 : Fin 4).val < dlev k := by decide +kernel
/-- The dues at the start: the signals, then the rest. -/
theorem dues_0 : dues 0 = peers.map .inl ++ dues 6 := rfl
/-- The dues after the signals: the first exchange, slab by slab. -/
theorem dues_6 : dues 6 = dueH 0 0 (dueL 0 (dues 18) [1, 2, 3]) := rfl
/-- The dues after the first exchange: the second. -/
theorem dues_18 : dues 18 = dueL 1 (dues 30) [0, 1, 2, 3] := rfl
/-- The dues after the second: the third. -/
theorem dues_30 : dues 30 = dueL 2 (dues 42) [0, 1, 2, 3] := rfl
/-- The dues after the third: the fourth. -/
theorem dues_42 : dues 42 = dueL 3 (dues 54) [0, 1, 2, 3] := rfl
/-- The dues after the fourth: the final blocks. -/
theorem dues_54 : dues 54 = outs.map (fun i => .inr (.inr i)) ++ [] := rfl

/-- The slabs after the first exchange, -/
theorem acc_1 (c : Dev nD) (s : Fin 4) : acc m ρ (1 : Fin 4).val c s = exch (fun d => acc m ρ (0 : Fin 4).val d s) (0 : Fin 4).val c := by
  show acc m ρ (0 + 1) c s = _
  rw [acc, if_pos rfl]; rfl
/-- and after the third. -/
theorem acc_3 (c : Dev nD) (s : Fin 4) : acc m ρ (3 : Fin 4).val c s = exch (fun d => acc m ρ (2 : Fin 4).val d s) (2 : Fin 4).val c := by
  show acc m ρ (2 + 1) c s = _
  rw [acc, if_pos rfl]; rfl
/-- The slabs after the second exchange and the second layer, -/
theorem acc_2 (U : Vec F S128x256 .f32) (V : Vec F S256x128 .f32) (c : Dev nD) (s : Fin 4) (hU : U = wi m ρ c 1) (hV : V = wo m ρ c 1) :
    acc m ρ ((1 : Fin 4).val + 1) c s = mlpA (exch (fun d => acc m ρ (1 : Fin 4).val d s) (1 : Fin 4).val c) U V := by
  subst hU hV
  show acc m ρ (1 + 1) c s = _
  rw [acc, if_neg (by decide)]; rfl
/-- and after the fourth exchange and the third layer. -/
theorem acc_4 (U : Vec F S128x256 .f32) (V : Vec F S256x128 .f32) (c : Dev nD) (s : Fin 4) (hU : U = wi m ρ c 2) (hV : V = wo m ρ c 2) :
    acc m ρ ((3 : Fin 4).val + 1) c s = mlpA (exch (fun d => acc m ρ (3 : Fin 4).val d s) (3 : Fin 4).val c) U V := by
  subst hU hV
  show acc m ρ (3 + 1) c s = _
  rw [acc, if_neg (by decide)]; rfl

/-- The body on device `c`. -/
theorem stepsN_wp :
    iprop(records m ρ K ∗ lin c ∗ ins m ρ c ∗ (∃ f, ((c : Thread nD τ).loc cc0_stg7_0 ↦{fullShare} f))
        ∗ ownsAny c accM ∗ ownsAny c commM ∗ ownsAny c rsM ∗ ow c allDues)
      ⊢ iprop(((ins m ρ c ∗ ((c : Thread nD τ).loc cc0_stg7_0 ↦{fullShare} (outC m ρ c : Vec F S8x128 .f32))
        ∗ ownsAny c accM ∗ ownsAny c commM ∗ ownsAny c rsM ∗ ow c [] ∗ allSem c) -∗ Q ⟨⟩) -∗ WP c (stepsN c) Q) := by
  rw [stepsN_eq, acc_split, four]
  unfold lin ins afterBar
  iintro ⟨#HR, ⟨Hsig, ⟨Hbc, Hba⟩, Hhop, Hout⟩, ⟨⟨Hx, Hw1, Hw2⟩, ⟨Hw3, Hw4⟩, ⟨Hw5, Hw6⟩⟩, Hres, ⟨Hs0, Hs1, Hs2, Hs3⟩, Hcomm, Hrs, Ho⟩ Hk
  ihave Hsig := (Entails.of_eq (sigs_eq c)) $$ [Hsig Hcomm Hrs]
  · isplitl [Hsig]; · iexact Hsig
    isplitl [Hcomm]; · iexact Hcomm
    iexact Hrs
  iapply (greetAll_wp m ρ K c Q peers (dues 6)) $$ [Hsig Ho]
  · isplitr; · iexact HR
    isplitl [Hsig]; · iexact Hsig
    rw [← dues_0]
    iexact Ho
  iintro Ho
  iapply (layer0_wp m ρ c Q 0) $$ [Hx Hw1 Hw2 Hs0]
  · isplitl [Hx]; · iexact Hx
    isplitl [Hw1]; · iexact Hw1
    isplitl [Hw2]; · iexact Hw2
    iexact Hs0
  iintro ⟨Hx, Hw1, Hw2, Hs0⟩
  iapply (barrier_wp m ρ K c Q (dues 6) lev_bar) $$ [Hbc Ho Hba]
  · isplitr; · iexact HR
    isplitl [Hbc]; · iexact Hbc
    isplitl [Ho]; · iexact Ho
    iexact Hba
  iintro ⟨Ho, Hgot, Hvb⟩
  ihave Hgot := (Entails.of_eq (got c)) $$ Hgot
  icases Hgot with ⟨Hslots, Hown, Hxo⟩
  ihave Hf := (Entails.of_eq ((futs_eq c).trans (four _))) $$ [Hslots Hhop]
  · isplitl [Hslots]; · iexact Hslots
    iexact Hhop
  icases Hf with ⟨Hf0, Hf1, Hf2, Hf3⟩
  iapply (go_wp m ρ K c Q (dueL 0 (dues 18) [1, 2, 3]) (dues 6) 0 0 [1, 2, 3] [] dues_6) $$ [Hs0 Hf0 Ho]
  · isplitr; · iexact HR
    isplitl [Hs0]; · iexact Hs0
    isplitl [Hf0]; · iexact Hf0
    isplitr
    · unfold behind sepL; iempintro
    isplitr
    · iapply (extOut_emp c 0 0 (by decide)); iempintro
    iexact Ho
  iintro ⟨Hs0, Ho⟩
  iapply (firstAll_wp m ρ K c Q (dues 18) [1, 2, 3] [1, 2, 3] (by decide)) $$ [Hx Hw1 Hw2 Hs1 Hs2 Hs3 Hf1 Hf2 Hf3 Ho]
  · isplitr; · iexact HR
    isplitl [Hx]; · iexact Hx
    isplitl [Hw1]; · iexact Hw1
    isplitl [Hw2]; · iexact Hw2
    isplitl [Hs1 Hs2 Hs3]
    · unfold sepL sepL sepL sepL
      isplitl [Hs1]; · iexact Hs1
      isplitl [Hs2]; · iexact Hs2
      isplitl [Hs3]; · iexact Hs3
      iempintro
    isplitl [Hf1 Hf2 Hf3]
    · unfold sepL sepL sepL sepL
      isplitl [Hf1]; · iexact Hf1
      isplitl [Hf2]; · iexact Hf2
      isplitl [Hf3]; · iexact Hf3
      iempintro
    iexact Ho
  iintro ⟨Hx, Hw1, Hw2, Hss, Ho⟩
  iapply (passAll_wp m ρ K c Q (dues 30) [2, 3] [] 0 1 (acc_1 m ρ) [0, 1, 2, 3] lev_ph0) $$ [Hs0 Hss Hxo Ho]
  · isplitr; · iexact HR
    isplitl [Hs0 Hss]
    · iapply (show iprop(flight c 0 0 [1, 2, 3] [] ∗ sepL (fun s => flight c s 0 [1, 2, 3] []) [1, 2, 3])
        ⊢ (sepL (fun s => flight c s 0 [1, 2, 3] []) [0, 1, 2, 3] : sProp 𝕄) from .rfl)
      isplitl [Hs0]; · iexact Hs0
      iexact Hss
    isplitl [Hxo]
    · iapply (show iprop(extOut c 1 0 ∗ extOut c 1 1 ∗ extOut c 1 2 ∗ extOut c 1 3 ∗ emp)
        ⊢ (sepL (fun s => extOut c 1 s) [0, 1, 2, 3] : sProp 𝕄) from .rfl)
      isplitl [Hxo]; · iexact Hxo
      isplitr
      · iapply (extOut_emp c 1 1 (by decide)); iempintro
      isplitr
      · iapply (extOut_emp c 1 2 (by decide)); iempintro
      isplitr
      · iapply (extOut_emp c 1 3 (by decide)); iempintro
      iempintro
    iexact Ho
  iintro ⟨Hss, Ho⟩
  iapply (turnAll_wp m ρ K c Q (dues 42) [3] [0] (Memref.whole cc0_stg3_0) (Memref.whole cc0_stg4_0) (st3 m ρ c) (st4 m ρ c) 1 2 1 rfl
    (acc_2 m ρ (st3 m ρ c) (st4 m ρ c)) rfl rfl [0, 1, 2, 3] (by decide) lev_ph1) $$ [Hss Hw3 Hw4 Ho]
  · isplitr; · iexact HR
    isplitl [Hss]; · iexact Hss
    isplitl [Hw3]; · iexact Hw3
    isplitl [Hw4]; · iexact Hw4
    iexact Ho
  iintro ⟨Hss, Hxi, Hw3, Hw4, Ho⟩
  ihave Hxi := (show sepL (fun s => extIn c 1 s) [0, 1, 2, 3] ⊢ (iprop(extIn c 1 0 ∗ sepL (fun s => extIn c 1 s) [1, 2, 3]) : sProp 𝕄) from .rfl) $$ Hxi
  icases Hxi with ⟨Hxi, -⟩
  ihave Hrs := (Entails.of_eq (rs_all c)) $$ [Hown Hxi]
  · isplitl [Hown]; · iexact Hown
    iexact Hxi
  iapply (passAll_wp m ρ K c Q (dues 54) [] [1, 0] 2 3 (acc_3 m ρ) [0, 1, 2, 3] lev_ph2) $$ [Hss Ho]
  · isplitr; · iexact HR
    isplitl [Hss]; · iexact Hss
    isplitr [Ho]
    · iapply (show iprop(extOut c 3 0 ∗ extOut c 3 1 ∗ extOut c 3 2 ∗ extOut c 3 3 ∗ emp)
        ⊢ (sepL (fun s => extOut c 3 s) [0, 1, 2, 3] : sProp 𝕄) from .rfl)
      isplitr
      · iapply (extOut_emp c 3 0 (by decide)); iempintro
      isplitr
      · iapply (extOut_emp c 3 1 (by decide)); iempintro
      isplitr
      · iapply (extOut_emp c 3 2 (by decide)); iempintro
      isplitr
      · iapply (extOut_emp c 3 3 (by decide)); iempintro
      iempintro
    iexact Ho
  iintro ⟨Hss, Ho⟩
  iapply (lastAll_wp m ρ K c Q (dues 54) [2, 1, 0] (Memref.whole cc0_stg5_0) (Memref.whole cc0_stg6_0) (st5 m ρ c) (st6 m ρ c) 3 2
    (acc_4 m ρ (st5 m ρ c) (st6 m ρ c)) rfl rfl [0, 1, 2, 3] lev_ph3) $$ [Hss Hw5 Hw6 Ho]
  · isplitr; · iexact HR
    isplitl [Hss]; · iexact Hss
    isplitl [Hw5]; · iexact Hw5
    isplitl [Hw6]; · iexact Hw6
    iexact Ho
  iintro ⟨Hss, Hps, Hw5, Hw6, Ho⟩
  ihave Hacc := (show sepL (fun s => owns (c : Thread nD τ) (slabV s) fullShare (acc m ρ ((3 : Fin 4).val + 1) c s)) [0, 1, 2, 3]
      ⊢ iprop(owns (c : Thread nD τ) (blkV c) fullShare (blkX m ρ c c)
        ∗ bigSep Finset.univ fun i : Fin 15 => owns (c : Thread nD τ) (blkV (fwd i c)) fullShare (blkX m ρ c (fwd i c))) from
    (Entails.of_eq (sepL_eq _ _ (by decide) (by decide))).trans ((acc_join m ρ c).trans (Entails.of_eq (sep_blks c _)))) $$ Hss
  icases Hacc with ⟨Hown, Hblk⟩
  ihave Hps := (Entails.of_eq ((sepL_eq (fun s => behind c s [3, 2, 1, 0]) [0, 1, 2, 3] (by decide) (by decide)).trans (pasts_eq c))) $$ Hps
  icases Hps with ⟨Hvs, Hvr, Hcomm⟩
  ihave Hout := (Entails.of_eq (outs_eq m ρ c)) $$ [Hblk Hrs Hout]
  · isplitl [Hblk]; · iexact Hblk
    isplitl [Hrs]; · iexact Hrs
    iexact Hout
  iapply (sendAll_wp m ρ K c Q outs []) $$ [Hout Ho]
  · isplitr; · iexact HR
    isplitl [Hout]; · iexact Hout
    rw [← dues_54]
    iexact Ho
  iintro ⟨Hout, Ho⟩
  iapply (waitAll_wp m ρ K c Q outs) $$ [Hout Ho]
  · isplitr; · iexact HR
    isplitl [Hout]; · iexact Hout
    iexact Ho
  iintro ⟨Hout, Ho⟩
  ihave Hout := (Entails.of_eq (dones_eq m ρ c)) $$ Hout
  icases Hout with ⟨Hrs, Hblk, Hvfs, Hvfr⟩
  iapply (total_wp c Q (blkX m ρ c c) fun i => blkX m ρ (bwd i c) c) $$ [Hown Hrs Hres]
  · isplitl [Hown]; · iexact Hown
    isplitl [Hrs]; · iexact Hrs
    iexact Hres
  iintro ⟨Hown, Hrs, Hres⟩
  iapply Hk
  isplitl [Hx Hw1 Hw2 Hw3 Hw4 Hw5 Hw6]
  · isplitl [Hx Hw1 Hw2]
    · isplitl [Hx]; · iexact Hx
      isplitl [Hw1]; · iexact Hw1
      iexact Hw2
    isplitl [Hw3 Hw4]
    · isplitl [Hw3]; · iexact Hw3
      iexact Hw4
    isplitl [Hw5]; · iexact Hw5
    iexact Hw6
  isplitl [Hres]; · iexact Hres
  isplitl [Hown Hblk]
  · rw [← four, ← acc_split]
    iapply (acc_back m ρ c)
    isplitl [Hown]; · iexact Hown
    iexact Hblk
  isplitl [Hcomm]; · iexact Hcomm
  isplitl [Hrs]
  · iapply (rs_back c _); iexact Hrs
  isplitl [Ho]; · iexact Ho
  rw [allSem_eq]
  isplitl [Hvb]; · iexact Hvb
  isplitl [Hvs Hvr]
  · isplitl [Hvs]; · iexact Hvs
    iexact Hvr
  isplitl [Hvfs]; · iexact Hvfs
  iexact Hvfr

end Mlp
-- ==== Proof.Mint.lean ====
module
public import proofs.«01_k».proof.Proof.Whole
public import Idealize.ShloMosaic.Lib.Pipeline.BigSepL

/-! What the launch mints and how it is dealt: the cells' invariants and records to every device, each duty token to the
    device that pays the duty, each device's credit to the device itself. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.TalkSites (Pay tallyL tallyL_pos tallyL_append cred_tallyL)

variable {F : FTy → Type} [FloatOps F]

local notation "𝕄" => MT nD τ sig ℕ (Elt F) ℕ UU ℕ

variable (m : (ℓ : Loc nD τ sig) → Buf (Elt F) ℓ) (ρ : Dev nD → PrngReg)

/-! ### The cells and the tokens, listed -/

/-- The kernel's own semaphores: all kinds of cell but the barrier's. -/
abbrev OK : Type := (HK ⊕ HK) ⊕ (Fin 15 ⊕ Fin 15)
/-- The semaphore of each of those kinds. -/
abbrev osem : OK → SemLoc sig := fun k => csem (.inr k)

/-- Different devices or kinds have different cells. -/
theorem cell_inj : Function.Injective fun x : Dev nD × CK => cell x.1 x.2 := by
  rintro ⟨c, k⟩ ⟨c', k'⟩ h
  have h1 : c = c' := congrArg (fun g : GSem nD τ sig => g.1.1) h
  have h2 : k = k' := csem_inj (congrArg Prod.snd h)
  rw [h1, h2]
/-- All cells. -/
def allCells : Finset (GSem nD τ sig) := Finset.univ.map ⟨_, cell_inj⟩

/-- A device's duty tokens: six at its barrier's cell, one at each other. -/
abbrev TK : Type := PE ⊕ OK
/-- The cell and the duty of each token of one device. -/
def tokK : TK → CK × PE
  | .inl x => (kbar, x)
  | .inr k => (.inr k, (0, 0))
/-- No two tokens of a device are the same. -/
theorem tokK_inj : Function.Injective tokK := by
  rintro (x | k) (x' | k') h
  · exact congrArg Sum.inl (congrArg Prod.snd h)
  · exact absurd (congrArg Prod.fst h) (fun h' => by cases h')
  · exact absurd (congrArg Prod.fst h) (fun h' => by cases h')
  · exact congrArg Sum.inr (Sum.inr.inj (congrArg Prod.fst h))
/-- The token as the ghost state names it: the cell, round 0, the duty. -/
def tokOf (x : Dev nD × TK) : GSem nD τ sig × ℕ × PE := (cell x.1 (tokK x.2).1, 0, (tokK x.2).2)
/-- No two tokens are the same. -/
theorem tokOf_inj : Function.Injective tokOf := by
  rintro ⟨c, k⟩ ⟨c', k'⟩ h
  have h1 : cell c (tokK k).1 = cell c' (tokK k').1 := congrArg Prod.fst h
  have h2 : (tokK k).2 = (tokK k').2 := congrArg (fun x : GSem nD τ sig × ℕ × PE => x.2.2) h
  have h3 := cell_inj (a₁ := (c, (tokK k).1)) (a₂ := (c', (tokK k').1)) h1
  have h4 : k = k' := tokK_inj (Prod.ext (congrArg Prod.snd h3) h2)
  have h5 : c = c' := congrArg Prod.fst h3
  rw [h5, h4]
/-- All duty tokens. -/
def allToks : Finset (GSem nD τ sig × ℕ × PE) := Finset.univ.map ⟨tokOf, tokOf_inj⟩

/-- The launch's element: the pipeline's part and the cells'. -/
def u₀ : UU :=
  (initOf (Pipeline.cells cfgs cellOf_inj) (Pipeline.launchToks cfgs cellOf_inj), initOf allCells allToks)

/-- The tokens of a device's own cells. -/
def toks (c : Dev nD) : sProp 𝕄 := bigSep Finset.univ fun t : TK => dutyTok ER (cell c (tokK t).1) 0 (tokK t).2
/-- A device's positions at its cells. -/
def poss (c : Dev nD) : sProp 𝕄 := bigSep Finset.univ fun k : CK => atPos ER (cell c k) 0 (∅ : Finset PE) 0

/-- What the launch's element deals a device. -/
def G (c : Dev nD) : sProp 𝕄 :=
  iprop((bigSep Finset.univ fun k : CK => roundState ER (Rd m ρ) (cell c k) 0)
    ∗ (bigSep Finset.univ fun k : CK => reached ER (cell c k) 0) ∗ poss c ∗ toks c)

/-- The minted ghost state is every device's cells, records and tokens. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (cell c k) := by
    unfold allCells
    rw [bigSep_map]
    exact bigSep_univ_prod (fun x : Dev nD × CK => Φ (cell x.1 x.2))
  have hT : bigSep allToks (fun x => (dutyTok ER x.1 x.2.1 x.2.2 : sProp 𝕄)) = bigSep Finset.univ fun c : Dev nD => toks c := by
    unfold allToks
    rw [bigSep_map]
    exact bigSep_univ_prod (fun x : Dev nD × TK => (dutyTok ER (cell x.1 (tokK x.2).1) 0 (tokK x.2).2 : sProp 𝕄))
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 (∅ : Finset PE) 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat']; · iexact Hat'
  iexact Htok'

/-! ### The semaphores at zero -/

/-- The one semaphore outside the region is the barrier's. -/
theorem unscopedSems0_eq (c : Dev nD) : (unscopedSems0 c : sProp 𝕄) = semVal (cell c kbar) 0 := by
  unfold unscopedSems0; rw [bigSep_eq_bigSepL_of_eq [csem kbar] (by decide +kernel) (by decide)]; rfl
/-- The semaphores at zero that the launch hands over are those of all kinds. -/
theorem sems_eq (c : Dev nD) :
    iprop(Pipeline.ownSems0 (Ix := ℕ) (Name := ℕ) (U := UU) (Lvl := ℕ) (Val := Elt F) (τ := τ) osem c ∗ unscopedSems0 c) = (allSem c : sProp 𝕄) := by
  have h : (allSem c : sProp 𝕄) = iprop(semVal (cell c kbar) 0 ∗ bigSep Finset.univ fun k : OK => semVal (cell c (.inr k)) 0) := by
    unfold allSem
    rw [bigSep_univ_sum, bigSep_univ_eq_bigSepL (l := [(0 : Fin 1)]) (by decide) (by decide)]
    rfl
  rw [unscopedSems0_eq, h]
  exact equiv_iff.mp ⟨BI.sep_comm, BI.sep_comm⟩

/-- From its semaphores at zero and its part of the ghost state a device allocates the invariants of its cells. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (bigSep Finset.univ fun k : CK => reached ER (cell c k) 0) ∗ poss c ∗ toks c) := by
  unfold G
  iintro ⟨Hos, Hus, Hst, Hr, Hat, Htok⟩
  ihave Hv := (Entails.of_eq (sems_eq (F := F) c)) $$ [Hos Hus]
  · isplitl [Hos] <;> iassumption
  unfold allSem
  imod (show iprop((bigSep Finset.univ fun k : CK => semVal (cell c k) 0) ∗ bigSep Finset.univ fun k : CK => roundState ER (Rd m ρ) (cell c k) 0)
      ⊢ (|={Set.univ}=> bigSep Finset.univ fun k => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-! ### The tokens dealt to their payers -/

/-- A conjunction over devices and duties, each duty's tokens moved among the devices by a permutation. -/
theorem deal {I : Type} [Fintype I] (e : I → Dev nD ≃ Dev nD) (P : Dev nD → I → sProp (MT nD τ sig ℕ (Elt F) ℕ UU ℕ)) :
    (bigSep Finset.univ fun c : Dev nD => bigSep Finset.univ fun i : I => P c i)
      = bigSep Finset.univ fun c : Dev nD => bigSep Finset.univ fun i : I => P (e i c) i := by
  rw [bigSep_univ_comm (fun (c : Dev nD) (i : I) => P c i), bigSep_univ_comm (fun (c : Dev nD) (i : I) => P (e i c) i)]
  exact bigSep_congr fun i _ => bigSep_univ_equiv (e i) fun c => P c i

/-- The tokens a device pays with. -/
def payToks (c : Dev nD) : sProp 𝕄 :=
  iprop((bigSep Finset.univ fun x : PE => dutyTok ER (cell (nxt x.1 x.2 c) kbar) 0 (revE x))
    ∗ ((bigSep Finset.univ fun h : HK => dutyTok ER (cell c (ksnd h)) 0 ((0, 0) : PE))
      ∗ bigSep Finset.univ fun h : HK => dutyTok ER (cell (nxt (pOf h.1) h.2.1 c) (krcv h)) 0 ((0, 0) : PE))
    ∗ (bigSep Finset.univ fun i : Fin 15 => dutyTok ER (cell c (kfs i)) 0 ((0, 0) : PE))
      ∗ bigSep Finset.univ fun i : Fin 15 => dutyTok ER (cell (fwd i c) (kfr i)) 0 ((0, 0) : PE))

/-- The tokens, dealt to the devices that pay the duties. -/
theorem toks_dealt : (bigSep Finset.univ fun c : Dev nD => (toks c : sProp 𝕄)) = bigSep Finset.univ fun c : Dev nD => payToks c := by
  have h (c : Dev nD) : (toks c : sProp 𝕄) = iprop((bigSep Finset.univ fun x : PE => dutyTok ER (cell c kbar) 0 (revE x))
      ∗ ((bigSep Finset.univ fun h : HK => dutyTok ER (cell c (ksnd h)) 0 ((0, 0) : PE))
        ∗ bigSep Finset.univ fun h : HK => dutyTok ER (cell c (krcv h)) 0 ((0, 0) : PE))
      ∗ (bigSep Finset.univ fun i : Fin 15 => dutyTok ER (cell c (kfs i)) 0 ((0, 0) : PE))
        ∗ bigSep Finset.univ fun i : Fin 15 => dutyTok ER (cell c (kfr i)) 0 ((0, 0) : PE)) := by
    unfold toks
    rw [bigSep_univ_sum, bigSep_univ_sum, bigSep_univ_sum, bigSep_univ_sum,
      bigSep_univ_equiv revE fun x : PE => (dutyTok ER (cell c (tokK (.inl x)).1) 0 (tokK (.inl x)).2 : sProp 𝕄)]
    rfl
  rw [bigSep_congr fun c _ => h c]
  unfold payToks
  simp only [bigSep_sep']
  rw [deal (fun x : PE => nxtE x.1 x.2) fun c x => (dutyTok ER (cell c kbar) 0 (revE x) : sProp 𝕄),
    deal (fun h : HK => nxtE (pOf h.1) h.2.1) fun c h => (dutyTok ER (cell c (krcv h)) 0 ((0, 0) : PE) : sProp 𝕄),
    deal (fun i : Fin 15 => fwdE i) fun c i => (dutyTok ER (cell c (kfr i)) 0 ((0, 0) : PE) : sProp 𝕄)]
  rfl

/-! ### The credit -/

/-- A device's credit: the six units of its barrier, a slab's at each receive cell, a block's at each final one. -/
def creds (c : Dev nD) : sProp 𝕄 :=
  iprop(cred (tallyAt (cell c kbar) 1 6) ∗ (bigSep Finset.univ fun h : HK => cred (tallyAt (cell c (krcv h)) (2 + h.1.val) NH))
    ∗ bigSep Finset.univ fun i : Fin 15 => cred (tallyAt (cell c (kfr i)) 6 NF))

/-- Whom a payment goes to, as a permutation. -/
def tgtE : DK → Dev nD ≃ Dev nD
  | .inl (p, e) => nxtE p e
  | .inr (.inl (n, d, _)) => nxtE (pOf n) d
  | .inr (.inr i) => fwdE i
/-- The permutation of the devices that a due's target is. -/
theorem tgtE_apply (k : DK) (c : Dev nD) : tgtE k c = dtgt c k := by rcases k with ⟨p, e⟩ | ⟨n, d, s⟩ | i <;> rfl

/-- All that is owed is all that is due, each payment counted at its receiver. -/
theorem sum_owed (l : List DK) : (∑ d : Dev nD, owedL d l) = ∑ d : Dev nD, (tallyL (l.map (credOf d)) : CellTallies nD τ sig ℕ) := by
  induction l with
  | nil => rfl
  | cons k l ih =>
    have h (d : Dev nD) : owedL d (k :: l) = (payOf d k).tally + owedL d l := rfl
    have h' (d : Dev nD) : tallyL ((k :: l).map (credOf d)) = (credOf d k).tally + tallyL (l.map (credOf d)) := rfl
    simp only [h, h']
    rw [Finset.sum_add_distrib, Finset.sum_add_distrib, ih]
    congr 1
    rw [← Equiv.sum_comp (tgtE k) fun d => (credOf d k).tally]
    exact Finset.sum_congr rfl fun d _ => by rw [tgtE_apply]; rfl

/-- The transfers in the order of the program. -/
def hopList : List HK := ([0, 1, 2, 3] : List (Fin 4)).flatMap fun n => ([0, 1, 2, 3] : List (Fin 4)).flatMap fun s =>
  ([0, 1, 2] : List (Fin 3)).map fun d => (n, d, s)
/-- The transfers' dues are the transfers in that order. -/
theorem hopDues_eq : hopDues = hopList.map fun h => .inr (.inl h) := by decide +kernel

/-- A device's credit from the launch is what is owed to its own cells. -/
theorem launch_creds (c : Dev nD) : (Pipeline.launchCred (fun d => owedL d allDues) c : sProp 𝕄) = creds c := by
  rw [Pipeline.launchCred_of_sum _ (fun d => tallyL (allDues.map (credOf d))) (sum_owed allDues) (fun d g hg => by
    obtain ⟨i, hi⟩ := Finsupp.ne_iff.mp hg
    obtain ⟨x, hx, rfl, -⟩ := tallyL_pos (Nat.pos_of_ne_zero hi)
    obtain ⟨y, -, rfl⟩ := List.mem_map.mp hx
    rfl)]
  unfold allDues creds
  rw [List.map_append, List.map_append, tallyL_append, tallyL_append, hopDues_eq]
  have hc (a b : CellTallies nD τ sig ℕ) : (cred (a + b) : sProp 𝕄) = iprop(cred a ∗ cred b) := equiv_iff.mp ⟨(cred_add a b).1, (cred_add a b).2⟩
  have h1 : tallyL (sigDues.map (credOf c)) = (tallyAt (cell c kbar) 1 6 : CellTallies nD τ sig ℕ) := by
    show (tallyAt (cell c kbar) 1 1 + (tallyAt (cell c kbar) 1 1 + (tallyAt (cell c kbar) 1 1 + (tallyAt (cell c kbar) 1 1
      + (tallyAt (cell c kbar) 1 1 + (tallyAt (cell c kbar) 1 1 + 0))))) : CellTallies nD τ sig ℕ) = _
    rw [add_zero]
    simp only [tallyAt_add]
  have h2 : (cred (tallyL ((hopList.map fun h => (.inr (.inl h) : DK)).map (credOf c))) : sProp 𝕄)
      = bigSep Finset.univ fun h : HK => cred (tallyAt (cell c (krcv h)) (2 + h.1.val) NH) := by
    rw [cred_tallyL, List.map_map, bigSepL_map, bigSep_univ_eq_bigSepL hopList (by decide +kernel) (by decide +kernel)]
    rfl
  have h3 : (cred (tallyL (outDues.map (credOf c))) : sProp 𝕄) = bigSep Finset.univ fun i : Fin 15 => cred (tallyAt (cell c (kfr i)) 6 NF) := by
    unfold outDues
    rw [cred_tallyL, List.map_map, bigSepL_map, bigSep_univ_eq_bigSepL [0, 1, 2, 3, 4, 5, 6, 7, 8, 9, 10, 11, 12, 13, 14] (by decide) (by decide)]
    rfl
  rw [hc, hc, h1, h2, h3]

/-! ### All of it, device by device -/

/-- The tokens, the positions and the credit are what a device's body starts from. -/
theorem lin_intro (c : Dev nD) : iprop((payToks c ∗ poss c) ∗ creds c) ⊢ (lin c : sProp 𝕄) := by
  have hp : (poss c : sProp 𝕄) = iprop(atPos ER (cell c kbar) 0 (∅ : Finset PE) 0
      ∗ ((bigSep Finset.univ fun h : HK => atPos ER (cell c (ksnd h)) 0 (∅ : Finset PE) 0) ∗ (bigSep Finset.univ fun h : HK => atPos ER (cell c (krcv h)) 0 (∅ : Finset PE) 0))
      ∗ ((bigSep Finset.univ fun i : Fin 15 => atPos ER (cell c (kfs i)) 0 (∅ : Finset PE) 0) ∗ (bigSep Finset.univ fun i : Fin 15 => atPos ER (cell c (kfr i)) 0 (∅ : Finset PE) 0))) := by
    unfold poss
    rw [bigSep_univ_sum, bigSep_univ_sum, bigSep_univ_sum, bigSep_univ_sum, bigSep_univ_eq_bigSepL (l := [(0 : Fin 1)]) (by decide) (by decide)]
    rfl
  rw [hp]
  have hh : (bigSep Finset.univ (hopPre c) : sProp 𝕄) = bigSep Finset.univ fun h : HK => hopPre c h := rfl
  have ho : (bigSep Finset.univ (outPre c) : sProp 𝕄) = bigSep Finset.univ fun i : Fin 15 => outPre c i := rfl
  unfold payToks creds lin
  rw [hh, ho]
  unfold hopPre outPre
  simp only [bigSep_sep']
  iintro ⟨⟨⟨T1, ⟨T2, T3⟩, T4, T5⟩, P1, ⟨P2, P3⟩, P4, P5⟩, C1, C2, C3⟩
  isplitl [T1]; · iexact T1
  isplitl [C1 P1]
  · isplitl [C1] <;> iassumption
  isplitl [T2 T3 P2 P3 C2]
  · isplitl [T2]; · iexact T2
    isplitl [T3]; · iexact T3
    isplitl [P2]; · iexact P2
    isplitl [P3] <;> iassumption
  isplitl [T4]; · iexact T4
  isplitl [T5]; · iexact T5
  isplitl [P4]; · iexact P4
  isplitl [P5] <;> iassumption

/-- The records without the levels. -/
def recs (K : Dev nD × CK → ℕ) : sProp 𝕄 :=
  iprop((bigSep Finset.univ fun x : Dev nD × CK => cellInv ER (Rd m ρ) (K x) (cell x.1 x.2))
    ∗ bigSep Finset.univ fun x : Dev nD × CK => reached ER (cell x.1 x.2) 0)
instance recs_persistent (K : Dev nD × CK → ℕ) : BI.Persistent (recs m ρ K) := by unfold recs; infer_instance

/-- What the global step makes for a device. -/
def G' (c : Dev nD) : sProp 𝕄 := iprop(∃ K, recs m ρ K ∗ (payToks c ∗ poss c))

/-- What all devices allocated, regrouped: records to everybody, tokens to the payers. -/
theorem regroup :
    (bigSep Finset.univ fun c : Dev nD => iprop((bigSep Finset.univ fun k : CK => iprop(∃ κ : ℕ, cellInv ER (Rd m ρ) κ (cell c k)))
          ∗ (bigSep Finset.univ fun k : CK => reached ER (cell c k) 0) ∗ poss c ∗ toks c) : sProp 𝕄)
      ⊢ bigSep Finset.univ (G' m ρ) := by
  rw [bigSep_sep', bigSep_sep', bigSep_sep', toks_dealt,
    ← bigSep_univ_prod (fun x : Dev nD × CK => iprop(∃ κ : ℕ, cellInv ER (Rd m ρ) κ (cell x.1 x.2))),
    ← bigSep_univ_prod (fun x : Dev nD × CK => (reached ER (cell x.1 x.2) 0 : sProp 𝕄))]
  iintro ⟨HI, #HR, Hat, Htok⟩
  ihave HK := (BI.bigSep_exists_pi Finset.univ (fun (x : Dev nD × CK) (κ : ℕ) => (cellInv ER (Rd m ρ) κ (cell x.1 x.2) : sProp 𝕄))) $$ HI
  icases HK with ⟨%K, #HI⟩
  have hG : iprop(recs m ρ K ∗ bigSep Finset.univ fun c : Dev nD => iprop(payToks c ∗ poss c)) ⊢ bigSep Finset.univ (G' m ρ) :=
    (sep_mono_left (BI.bigSep_of_persistent (Finset.univ : Finset (Dev nD)) (recs m ρ K))).trans (by
      rw [← bigSep_sep']
      refine bigSep_mono fun c _ => ?_
      show iprop(recs m ρ K ∗ payToks c ∗ poss c) ⊢ G' m ρ c
      unfold G'
      iintro H
      iexists K
      iexact H)
  iapply hG
  isplitr
  · unfold recs; isplitl; · iexact HI
    iexact HR
  rw [bigSep_sep']
  isplitl [Htok] <;> iassumption

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- The kernel's own semaphores are all semaphores of the region, each once. -/
theorem ownSemFacts : Pipeline.OwnSemFacts cfg0.spec osem where
  isScoped := by decide +kernel
  inj := fun a b h => Sum.inr.inj (csem_inj h)
  disj := by decide +kernel

end Mlp
-- ==== Proof.Launch.lean ====
module
public import proofs.«01_k».proof.Proof.Mint
public import Idealize.ShloMosaic.Lib.Pipeline.CollectiveSegs

/-! The launch: the pipeline's data on each device, the body's obligation, and the run of the whole program. -/

@[expose] public section

noncomputable section

namespace Mlp
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv hL mem_L' mayWait_of)

variable {F : FTy → Type} [FloatOps F]

local notation "𝕄" => MT nD τ sig ℕ (Elt F) ℕ UU ℕ

variable (m : (ℓ : Loc nD τ sig) → Buf (Elt F) ℓ) (ρ : Dev nD → PrngReg)

/-! ### The pipeline's data -/

/-- What a body starts with besides buffers, at some names of the invariants. -/
def entry0 (c : Dev nD) : sProp 𝕄 := iprop((∃ K, records m ρ K) ∗ lin c)
/-- The scratch buffers at any contents. -/
def scratch (c : Dev nD) : sProp 𝕄 := iprop(ownsAny c accM ∗ ownsAny c commM ∗ ownsAny c rsM)
/-- What a device holds before its body, besides the staging buffers, -/
def Φ₀ (c : Dev nD) : sProp 𝕄 := iprop(entry0 m ρ c ∗ scratch c)
/-- and after it. -/
def Φ₁ (c : Dev nD) : sProp 𝕄 := iprop(scratch c ∗ allSem c)

/-- The pipeline's data on device `c`: the arguments as they were, what the body leaves in each staging buffer, what it owes. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => st0 m ρ c
    | ⟨1, _⟩ => st1 m ρ c
    | ⟨2, _⟩ => st2 m ρ c
    | ⟨3, _⟩ => st3 m ρ c
    | ⟨4, _⟩ => st4 m ρ c
    | ⟨5, _⟩ => st5 m ρ c
    | ⟨6, _⟩ => st6 m ρ c
    | ⟨7, _⟩ => outC m ρ c
  Φ t := match t with
    | ⟨0, _⟩ => Φ₀ m ρ c
    | ⟨_ + 1, _⟩ => Φ₁ c
  q _ := fullShare
  owed t := match t with
    | ⟨0, _⟩ => owedL c allDues
    | ⟨_ + 1, _⟩ => owedL c []

/-- There is one grid point, -/
theorem cfg0_N : cfg0.N = 1 := by decide
/-- namely this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- A staging buffer at given contents. -/
def stg (c : Dev nD) (b : Ref sig .tc) (X : b.ty.Contents (Elt F)) : sProp 𝕄 := owns (c : Thread nD τ) (Memref.whole b) fullShare X

/-- A staging buffer that holds `X`. -/
theorem stg_pts (c : Dev nD) (b : Ref sig .tc) (X : b.ty.Contents (Elt F)) :
    (stg c b X : sProp 𝕄) = iprop(∃ f : Buf (Elt F) ((c : Thread nD τ).loc b), ⌜f = X⌝ ∗ (((c : Thread nD τ).loc b) ↦{fullShare} f)) := by
  unfold stg owns; simp only [Memref.view_whole, View.read_whole, View.set_whole]

/-! ### The body -/

set_option maxRecDepth 8000 in
/-- The body's precondition as the pipeline states it. -/
def bodyPre (c : Dev nD) : sProp 𝕄 :=
  iprop(Φ₀ m ρ c ∗ (dats m ρ 0 c).owesAt 0 t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))

/-- The body's postcondition. -/
def bodyPost (c : Dev nD) : sProp 𝕄 :=
  iprop(Φ₁ c ∗ (dats m ρ 0 c).owesAt 0 t₀.succ
    ∗ stg c cc0_stg0_0 (st0 m ρ c) ∗ stg c cc0_stg1_0 (st1 m ρ c) ∗ stg c cc0_stg2_0 (st2 m ρ c) ∗ stg c cc0_stg3_0 (st3 m ρ c)
    ∗ stg c cc0_stg4_0 (st4 m ρ c) ∗ stg c cc0_stg5_0 (st5 m ρ c) ∗ stg c cc0_stg6_0 (st6 m ρ c) ∗ stg c cc0_stg7_0 (outC m ρ c))

set_option maxRecDepth 8000 in
/-- An input's window is staged before the body. -/
theorem staged (c : Dev nD) (d0 d1 d2 d3 d4 d5 d6) :
    (dats m ρ 0 c).before (0 : Fin 8) t₀ d0 = st0 m ρ c ∧ (dats m ρ 0 c).before (1 : Fin 8) t₀ d1 = st1 m ρ c
    ∧ (dats m ρ 0 c).before (2 : Fin 8) t₀ d2 = st2 m ρ c ∧ (dats m ρ 0 c).before (3 : Fin 8) t₀ d3 = st3 m ρ c
    ∧ (dats m ρ 0 c).before (4 : Fin 8) t₀ d4 = st4 m ρ c ∧ (dats m ρ 0 c).before (5 : Fin 8) t₀ d5 = st5 m ρ c
    ∧ (dats m ρ 0 c).before (6 : Fin 8) t₀ d6 = st6 m ρ c := by
  unfold Dat.before
  exact ⟨(if_pos (fetch0_0 t₀)).trans rfl, (if_pos (fetch0_1 t₀)).trans rfl, (if_pos (fetch0_2 t₀)).trans rfl, (if_pos (fetch0_3 t₀)).trans rfl,
    (if_pos (fetch0_4 t₀)).trans rfl, (if_pos (fetch0_5 t₀)).trans rfl, (if_pos (fetch0_6 t₀)).trans rfl⟩

/-- The program asks which device it runs on, then takes that device's steps. -/
theorem prog_wp (c : Dev nD) (Q : PUnit → sProp (MT nD τ sig ℕ (Elt F) ℕ UU ℕ)) : WP c prog Q = WP c (stepsN c) Q := by
  rw [← steps_eq]
  unfold prog WP
  simp only [Prog.lift, Prog.bind_op, Prog.bind_ret, wp_deviceId]

set_option maxRecDepth 8000 in
/-- The body from its precondition to its postcondition. -/
theorem body_wp (c : Dev nD) : bodyPre m ρ c ⊢ WP c (stepsN c) (fun _ => bodyPost m ρ c) := by
  unfold bodyPre Φ₀ entry0 scratch
  iintro ⟨⟨⟨⟨%K, #HK⟩, Hlin⟩, Hacc, Hcomm, Hrs⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1, e2, e3, e4, e5, e6⟩ := staged m ρ c d0 d1 d2 d3 d4 d5 d6
  ihave H0 := (Entails.of_eq (congrArg (stg c cc0_stg0_0) e0)) $$ H0
  ihave H1 := (Entails.of_eq (congrArg (stg c cc0_stg1_0) e1)) $$ H1
  ihave H2 := (Entails.of_eq (congrArg (stg c cc0_stg2_0) e2)) $$ H2
  ihave H3 := (Entails.of_eq (congrArg (stg c cc0_stg3_0) e3)) $$ H3
  ihave H4 := (Entails.of_eq (congrArg (stg c cc0_stg4_0) e4)) $$ H4
  ihave H5 := (Entails.of_eq (congrArg (stg c cc0_stg5_0) e5)) $$ H5
  ihave H6 := (Entails.of_eq (congrArg (stg c cc0_stg6_0) e6)) $$ H6
  ihave H7 := (Entails.of_eq (stg_pts c cc0_stg7_0 ((dats m ρ 0 c).before (7 : Fin 8) t₀ d7))) $$ H7
  unfold Dat.owesAt Pipeline.owesWithin
  icases Ho with ⟨%W, %hW, HO⟩
  icases H7 with ⟨%f7, %h7, H7⟩
  rw [show (dats m ρ 0 c).owed t₀.castSucc = owedL c allDues from rfl]
  iapply (stepsN_wp m ρ K c fun _ => bodyPost m ρ c) $$ [Hlin Hacc Hcomm Hrs HO H0 H1 H2 H3 H4 H5 H6 H7]
  · isplitr; · iexact HK
    isplitl [Hlin]; · iexact Hlin
    isplitl [H0 H1 H2 H3 H4 H5 H6]
    · unfold ins stg
      isplitl [H0 H1 H2]
      · isplitl [H0]; · iexact H0
        isplitl [H1] <;> iassumption
      isplitl [H3 H4]
      · isplitl [H3] <;> iassumption
      isplitl [H5] <;> iassumption
    isplitl [H7]; · iexists f7; iexact H7
    isplitl [Hacc]; · iexact Hacc
    isplitl [Hcomm]; · iexact Hcomm
    isplitl [Hrs]; · iexact Hrs
    unfold ow; iexists W; iexact HO
  unfold bodyPost Φ₁ scratch ins ow Dat.owesAt Pipeline.owesWithin
  iintro ⟨⟨⟨H0, H1, H2⟩, ⟨H3, H4⟩, H5, H6⟩, H7, Hacc, Hcomm, Hrs, ⟨%W', HO⟩, Hsem⟩
  isplitl [Hacc Hcomm Hrs Hsem]
  · isplitl [Hacc Hcomm Hrs]
    · isplitl [Hacc]; · iexact Hacc
      isplitl [Hcomm] <;> iassumption
    iexact Hsem
  isplitl [HO]
  · rw [show (dats m ρ 0 c).owed t₀.succ = owedL c [] from rfl]
    iexists W'
    isplitr; · ipureintro; exact fun _ _ => Or.inl trivial
    iexact HO
  rw [stg_pts c cc0_stg7_0 (outC m ρ c)]
  unfold stg
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr; · (ipureintro; rfl)
  iexact H7

set_option maxRecDepth 65536 in
/-- The pipeline's obligation for the body on device `c`. -/
theorem body_obligation (c : Dev nD) : BodyObligation (dats (F := F) m ρ 0 c) (defs₀ (F := F)) 𝒱₀ 0 Set.univ := fun t => by
  rw [fin_N t]
  rw [bigSep_W0, bigSep_W0]
  show bodyPre m ρ c ⊢ WP c (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6) (fun _ => bodyPost m ρ c)
  rw [body_eq, prog_wp]
  exact body_wp m ρ c

/-! ### The conditions of the launch -/

/-- Every window's array is owned in full. -/
theorem share_eq (c : Dev nD) (w : Fin cfg0.W) : (dats m ρ 0 c).share w = fullShare := by unfold Dat.share; split <;> rfl

/-- What the launch hands a device is what the device starts with. -/
theorem start_intro (c : Dev nD) :
    iprop(Pipeline.unscopedRestP Pipeline.Prefetch.none cfg0.spec c (fun b => m ((c : Thread nD τ).loc b)) ∗ levAts (L NL) lv
        ∗ Pipeline.launchCred (fun d => owedL d allDues) c ∗ prngReg c (ρ c) ∗ G' m ρ c)
      ⊢ |={Set.univ}=> iprop(entry0 m ρ c ∗ emp) := by
  unfold G'
  iintro ⟨-, Hlev, Hcr, -, ⟨%K, HR, HT⟩⟩
  ihave Hc := (Entails.of_eq (launch_creds (F := F) c)) $$ Hcr
  imodintro
  isplitl
  · unfold entry0
    isplitl [HR Hlev]
    · iexists K
      unfold records recs
      icases HR with ⟨H1, H2⟩
      isplitl [H1]; · iexact H1
      isplitl [H2] <;> iassumption
    iapply (lin_intro (F := F) c)
    isplitl [HT] <;> iassumption
  · iempintro

/-- The scratch buffers are the region's own buffers besides the staging ones. -/
theorem scratch_eq (c : Dev nD) : (scratch c : sProp 𝕄) = Pipeline.scopedRest cfg0.spec c := by
  rw [scopedRest0_eq]
  unfold scratch
  rw [ownsAny_whole, ownsAny_whole, ownsAny_whole]

/-- Entering the region gives what a device holds before its body. -/
theorem phi0_intro (c : Dev nD) :
    iprop(entry0 m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

/-- What a device holds after its body gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq]
  unfold Φ₁
  rw [← sems_eq]
  iintro ⟨Hr, Ho, Hu⟩
  isplitl [Hu]; · iexact Hu
  isplitl [Ho] <;> iassumption

/-- The pipeline's own waits are allowed by the levels. -/
theorem waits (c : Dev nD) : (levAts (L NL) lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 allDues (by decide) (by decide +kernel)
    · exact mayWait c _ 0 [] (by decide) (by decide)

/-! ### The run -/

/-- A window's array after the run. -/
def finalA (c : Dev nD) (w : Fin cfg0.W) : Buf (Elt F) ((cfg0.win w).arr.view.loc (c : Thread nD τ)) := (dats m ρ 0 c).arrAt w cfg0.N

/-- What the run ends with: every window's array on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, for any float values: every fair execution of the program on the sixteen devices
    ends, and then each window's array holds what the body's data say and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owedL d allDues) (howed₀ := fun _ => rfl) (howedN := fun _ => rfl)
    (L := L NL) (lv := lv) (hL := hL NL) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := entry0 m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Mlp
-- ==== Proof.Frames.lean ====
module
public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

/-! The frames: what the runs leave in the arguments and in the semaphores; and what the kernel's run leaves in its
    result. -/

@[expose] public section

noncomputable section

namespace Mlp
open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The result window's block, read back, is what the body left in the staging buffer. -/
theorem finalA_out_read (c : Dev nD) :
    (win0_7.blk (0 : Fin 1)).view.read (Elt F) (finalA m ρ c (7 : Fin 8)) = outC m ρ c := by
  unfold finalA
  rw [show cfg0.N = ((0 : Fin 1) : Fin cfg0.N).val + 1 from rfl, (dats m ρ 0 c).arrAt_succ (7 : Fin 8) (0 : Fin 1)]
  rw [show (cfg0.win (7 : Fin 8)).flush (0 : Fin 1) = true from by decide, if_pos rfl]
  exact View.read_write_univ _ _

/-- The result window's block is the whole array. -/
theorem finalA_out (c : Dev nD) : finalA m ρ c (7 : Fin 8) = outC m ρ c := by
  have hz : (fun a => (win0_7.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans (finalA_out_read m ρ c)

/-- The run at each argument of a device, at its result, and at the semaphores. -/
theorem run_args : θ_run defs (onTc (τ := τ) (main (F := F))) ⟨m, fun _ => 0, ρ⟩ fun r =>
    (∀ c : Dev nD, r.2.mem ((c.tc : Thread nD τ).loc main_v1) = outC m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run defs _ _).mono (fun _ h => ⟨fun c =>
      ⟨(h.1 c (7 : Fin 8)).trans (finalA_out m ρ c), (h.1 c (0 : Fin 8)).trans (finalA_in m ρ c 0 rfl),
       (h.1 c (1 : Fin 8)).trans (finalA_in m ρ c 1 rfl), (h.1 c (3 : Fin 8)).trans (finalA_in m ρ c 3 rfl),
       (h.1 c (5 : Fin 8)).trans (finalA_in m ρ c 5 rfl), (h.1 c (2 : Fin 8)).trans (finalA_in m ρ c 2 rfl),
       (h.1 c (4 : Fin 8)).trans (finalA_in m ρ c 4 rfl), (h.1 c (6 : Fin 8)).trans (finalA_in m ρ c 6 rfl)⟩, h.2⟩)
    (run_main m ρ)

/-- The run with its arguments and semaphores alone. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  (θ_run defs _ _).mono (fun _ h => ⟨fun c => (h.1 c).2, h.2⟩) (run_args m ρ)

/-- The two kernel programs have one text, so their bodies are the same. -/
theorem same_bodies : Cert.Kernel.defs₀ (F := Bits) = Cert.KernelIdeal.defs₀ (F := Bits) := by
  funext p l a
  cases p with
  | tc =>
    match l, a with
    | ⟨0, _⟩, (t, s) => rfl
  | scScalar _ => rfl
  | scVector _ _ => rfl

/-- So are their tables of bodies with the pipeline's. -/
theorem same_defs : Cert.Kernel.defs (F := Bits) = Cert.KernelIdeal.defs (F := Bits) :=
  congrArg (Pipeline.defs (Cert.KernelIdeal.pcfgs (F := Bits))) same_bodies

/-- The kernel at bits ends with its arguments unchanged and its semaphores at zero. -/
theorem frame_kernel : Cert.quiescent_Kernel (hKernel := Cert.Kernel.Gen.facts) := fun m ρ _ => by
  rw [same_defs]
  exact run_frame (F := Bits) m ρ

/-- So does the kernel at the ideal values. -/
theorem frame_ideal : Cert.quiescent_KernelIdeal (hKernelIdeal := Cert.KernelIdeal.Gen.facts) := fun m ρ _ =>
  run_frame (F := Ideal) m ρ

/-- So does the reference, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Mlp
-- ==== Proof.Value.lean ====
module
public import proofs.«01_k».proof.Proof.Frames
public import Idealize.ShloMosaic.PureOps.Ideal.Laws
public import Idealize.ShloMosaic.Lib.StackMember
public import Idealize.ShloMosaic.Lib.MatmulPlain
public import Idealize.ShloMosaic.Lib.KernelVsHost
public import Idealize.ShloMosaic.Lib.Layout

/-! What the kernel computes over the extended reals: three layers, each a sum over the sixteen devices. -/

@[expose] public section

noncomputable section

namespace Mlp
open Cert.KernelIdeal Cert.KernelIdeal.Gen
open Idealize.ShloMosaic Idealize.ShloMosaic.TcCoe
open Idealize.ShloMosaic.ValueIdx
open Idealize.SL.Sem

/-! ### One layer as a sum -/

/-- One layer of the perceptron over hidden units `Fin N`, at one row and one column. -/
def layer {N : ℕ} (x : Fin 128 → EReal) (wi : Fin 128 → Fin N → EReal) (wo : Fin N → Fin 128 → EReal) (k : Fin 128) : EReal :=
  ∑ j, max (∑ i, x i * wi i j) 0 * wo j k

/-- The hidden unit `j` of device `c`, among all. -/
def unit (c : Fin 16) (j : Fin 256) : Fin 4096 := ⟨c.val * 256 + j.val, by have := c.isLt; have := j.isLt; omega⟩

/-- A sum over all hidden units, device by device. -/
theorem sum_units (f : Fin 4096 → EReal) : ∑ j, f j = ∑ c : Fin 16, ∑ j : Fin 256, f (unit c j) := by
  rw [← (finProdFinEquiv (m := 16) (n := 256)).sum_comp f, Fintype.sum_prod_type]
  refine Finset.sum_congr rfl fun c _ => Finset.sum_congr rfl fun j _ => congrArg f (Fin.ext ?_)
  show j.val + 256 * c.val = c.val * 256 + j.val
  omega

/-- A layer is the sum of the devices' layers over their own hidden units. -/
theorem layer_units (x : Fin 128 → EReal) (wi : Fin 128 → Fin 4096 → EReal) (wo : Fin 4096 → Fin 128 → EReal) (k : Fin 128) :
    layer x wi wo k = ∑ c : Fin 16, layer x (fun i j => wi i (unit c j)) (fun j => wo (unit c j)) k :=
  sum_units _

/-- The kernel's layer on one slab, at an index. -/
theorem mlp_apply (x : Vec Ideal S32x128 .f32) (wi : Vec Ideal S128x256 .f32) (wo : Vec Ideal S256x128 .f32) (r : Fin 32) (k : Fin 128) :
    mlp x wi wo (ix2 r k) = layer (fun i => x (ix2 r i)) (fun i j => wi (ix2 i j)) (fun j k => wo (ix2 j k)) k := by
  unfold mlp k0_pay2
  simp only [shapeCast_self]
  refine (Ideal.matmul_plain_apply none _ _ _ r k).trans ?_
  refine (congrArg₂ (· + ·) Ideal.ofBits_zero_f32 (Finset.sum_congr rfl fun j _ => ?_)).trans (zero_add _)
  refine congrArg (· * _) (congrArg₂ max ?_ Ideal.ofBits_zero_f32)
  refine (Ideal.matmul_plain_apply none _ _ _ r j).trans ?_
  exact (congrArg (· + _) Ideal.ofBits_zero_f32).trans (zero_add _)

/-- So is its layer on a slab of the accumulator. -/
theorem mlpA_eq (x : Vec Ideal S32x128 .f32) (wi : Vec Ideal S128x256 .f32) (wo : Vec Ideal S256x128 .f32) : mlpA x wi wo = mlp x wi wo := by
  unfold mlpA mlp k0_pay2 k0_pay14
  rw [shapeCast_self x]

/-! ### The sums over the devices -/

/-- The four devices of one exchange: the own and the three neighbours. -/
def quad (p : Fin 2) (c : Dev nD) : Fin 4 → Dev nD := ![c, prv p 0 c, prv p 1 c, prv p 2 c]

/-- The exchanges along the row and along the column reach every device once. -/
theorem quad_bij : ∀ c : Dev nD, Function.Bijective fun x : Fin 4 × Fin 4 => quad 0 (quad 1 c x.1) x.2 := by decide +kernel

/-- One exchange at an index is the sum over its four devices. -/
theorem exch_apply (a : Dev nD → Vec Ideal S32x128 .f32) (n : ℕ) (c : Dev nD) (i : S32x128.Idx) :
    exch a n c i = ∑ e, (a (quad (pN n) c e) i : EReal) := by
  unfold exch add4
  rw [shapeCast_self, Fin.sum_univ_four]
  rfl

/-- An exchange along the rows and one along the columns add over all devices. -/
theorem exch_exch (a : Dev nD → Vec Ideal S32x128 .f32) (n : ℕ) (hn : n % 2 = 0) (c : Dev nD) (i : S32x128.Idx) :
    exch (fun d => exch a n d) (n + 1) c i = ∑ d : Fin 16, (a d i : EReal) := by
  have h0 : pN n = 0 := if_pos hn
  have h1 : pN (n + 1) = 1 := if_neg (by omega)
  rw [exch_apply, h1]
  refine (Finset.sum_congr rfl fun e _ => exch_apply a n (quad 1 c e) i).trans ?_
  rw [h0]
  refine (Fintype.sum_prod_type (fun x : Fin 4 × Fin 4 => (a (quad 0 (quad 1 c x.1) x.2) i : EReal))).symm.trans ?_
  exact Fintype.sum_bijective _ (quad_bij c) _ _ fun _ => rfl

/-- The devices whose blocks the last sum adds, in its order. -/
def sixteen (c : Dev nD) : Fin 16 → Dev nD := Fin.cons c fun i : Fin 15 => bwd i c

/-- The last sum takes every device once. -/
theorem sixteen_bij : ∀ c : Dev nD, Function.Bijective (sixteen c) := by decide +kernel

/-- The last sum at an index adds over all devices. -/
theorem sum16_apply (g : Dev nD → Vec Ideal S8x128 .f32) (c : Dev nD) (i : S8x128.Idx) :
    sum16V (g c) (fun e => g (bwd e c)) i = ∑ d : Fin 16, (g d i : EReal) := by
  rw [← Fintype.sum_bijective _ (sixteen_bij c) (fun e => (g (sixteen c e) i : EReal)) _ fun _ => rfl]
  simp only [Fin.sum_univ_castSucc, Fin.sum_univ_zero, zero_add]
  rfl

/-! ### The accumulator -/

variable (m : (ℓ : Loc nD τ sig) → Buf (Elt Ideal) ℓ) (ρ : Dev nD → PrngReg)

/-- Row `r` of slab `s`. -/
def row (s : Fin 4) (r : Fin 32) : Fin 128 := ⟨32 * s.val + r.val, by have := s.isLt; have := r.isLt; omega⟩

/-- Device `c`'s share of layer `l` on the rows `X`. -/
def share (X : Fin 128 → Fin 128 → EReal) (l : ℕ) (c : Dev nD) (R k : Fin 128) : EReal :=
  layer (X R) (fun i j => wi m ρ c l (ix2 i j)) (fun j k => wo m ρ c l (ix2 j k)) k

/-- Layer `l` on the rows `X`: the shares of all devices together. -/
def full (X : Fin 128 → Fin 128 → EReal) (l : ℕ) (R k : Fin 128) : EReal := ∑ d : Fin 16, share m ρ X l d R k

/-- Two exchanges and a layer take the shares of one layer to the shares of the next. -/
theorem acc_next (X : Fin 128 → Fin 128 → EReal) (n l : ℕ) (hn : n % 2 = 0) (hl : (n + 2) / 2 = l + 1)
    (h : ∀ (c : Dev nD) (s : Fin 4) (r : Fin 32) (k : Fin 128), (acc m ρ n c s (ix2 r k) : EReal) = share m ρ X l c (row s r) k)
    (c : Dev nD) (s : Fin 4) (r : Fin 32) (k : Fin 128) :
    (acc m ρ (n + 2) c s (ix2 r k) : EReal) = share m ρ (full m ρ X l) (l + 1) c (row s r) k := by
  rw [acc, if_neg (by omega), hl, mlpA_eq, mlp_apply]
  unfold share
  refine congrArg (fun x => layer x _ _ k) (funext fun i => ?_)
  have e : (fun d => acc m ρ (n + 1) d s) = fun d => exch (fun d => acc m ρ n d s) n d := funext fun d => by rw [acc, if_pos hn]
  rw [e, exch_exch _ _ hn]
  exact Finset.sum_congr rfl fun d _ => h d s r i

/-- The slab of `x` that a device takes, at an index. -/
theorem xS_apply (c : Dev nD) (s : Fin 4) (r : Fin 32) (i : Fin 128) : xS m ρ c s (ix2 r i) = st0 m ρ c (ix2 (row s r) i) := by
  unfold xS
  refine congrArg (st0 m ρ c) (funext fun a => Fin.ext ?_)
  match a with
  | ⟨0, _⟩ => show 32 * s.val + 1 * r.val = 32 * s.val + r.val; omega
  | ⟨1, _⟩ => show 0 + 1 * i.val = i.val; omega

/-- The accumulator at the end, when every device has the same rows `X`. -/
theorem accF_apply (X : Fin 128 → Fin 128 → EReal) (hX : ∀ (c : Dev nD) (R i : Fin 128), st0 m ρ c (ix2 R i) = X R i)
    (c : Dev nD) (R k : Fin 128) :
    (accF m ρ c (ix2 R k) : EReal) = share m ρ (full m ρ (full m ρ X 0) 1) 2 c R k := by
  have h0 : ∀ (c : Dev nD) (s : Fin 4) (r : Fin 32) (k : Fin 128), (acc m ρ 0 c s (ix2 r k) : EReal) = share m ρ X 0 c (row s r) k := by
    intro c s r k
    rw [acc, mlp_apply]
    unfold share
    exact congrArg (fun x => layer x _ _ k) (funext fun i => (xS_apply m ρ c s r i).trans (hX c _ i))
  have h4 := acc_next m ρ _ 2 1 rfl rfl (acc_next m ρ X 0 0 rfl rfl h0)
  refine (h4 c _ _ k).trans (congrArg (fun R => share m ρ _ 2 c R k) (Fin.ext ?_))
  exact Nat.div_add_mod R.val 32

/-- Row `r` of device `c`'s result. -/
def rowO (c : Dev nD) (r : Fin 8) : Fin 128 := ⟨c.val * 8 + r.val, by have h : c.val < 16 := c.isLt; have := r.isLt; omega⟩

/-- The result of the kernel on device `c`: the three layers at the device's rows. -/
theorem outC_apply (X : Fin 128 → Fin 128 → EReal) (hX : ∀ (c : Dev nD) (R i : Fin 128), st0 m ρ c (ix2 R i) = X R i)
    (c : Dev nD) (r : Fin 8) (k : Fin 128) :
    (outC m ρ c (ix2 r k) : EReal) = full m ρ (full m ρ (full m ρ X 0) 1) 2 (rowO c r) k := by
  unfold outC
  rw [sum16_apply (fun q => blkX m ρ q c) c]
  refine Finset.sum_congr rfl fun q _ => ?_
  refine Eq.trans (congrArg (accF m ρ q) ?_) (accF_apply m ρ X hX q (rowO c r) k)
  funext a
  match a with
  | ⟨0, _⟩ => exact Fin.ext (show 8 * c.val + 1 * r.val = c.val * 8 + r.val by omega)
  | ⟨1, _⟩ => exact Fin.ext (show 0 + 1 * k.val = k.val by omega)

end Mlp
-- ==== Proof.Algebra.lean ====
module
public import proofs.«01_k».proof.Proof.Value
public import Idealize.ShloMosaic.Lib.LayoutAt

/-! The reference over the extended reals, and the equation: each device's result is its rows of the reference's. -/

@[expose] public section

noncomputable section

namespace Mlp
open Idealize.ShloMosaic Idealize.ShloMosaic.TcCoe
open Idealize.ShloMosaic.ValueIdx
open Idealize.SL.Sem

/-! ### The reference -/

section Reference
open Cert.ReferenceIdeal Cert.ReferenceIdeal.Gen

/-- One layer of the reference, as its program writes it. -/
def lay (X : FVec Ideal S128x128 .f32) (W : FVec Ideal S128x4096 .f32) (V : FVec Ideal S4096x128 .f32) : FVec Ideal S128x128 .f32 :=
  Host.dotGeneral dot_S128x4096_S4096x128_S128x128_1_0_0_1_n_n none
    (maximumf (Host.dotGeneral dot_S128x128_S128x4096_S128x4096_1_0_0_1_n_n none X W)
      (broadcastInDim S128x4096 ![] bcast_S_S128x4096 (constant S_ .f32 0x00000000#32))) V

/-- A layer of the reference at an index. -/
theorem lay_apply (X : FVec Ideal S128x128 .f32) (W : FVec Ideal S128x4096 .f32) (V : FVec Ideal S4096x128 .f32) (R k : Fin 128) :
    lay X W V (ix2 R k) = layer (fun i => X (ix2 R i)) (fun i j => W (ix2 i j)) (fun j k => V (ix2 j k)) k := by
  unfold lay
  refine (StackMember.dotGeneral_plain_apply none _ _ R k).trans (Finset.sum_congr rfl fun j _ => ?_)
  exact congrArg (· * _) (congrArg₂ max (StackMember.dotGeneral_plain_apply none X W R j) Ideal.ofBits_zero_f32)

end Reference

/-! ### The equation -/

open Cert.KernelIdeal Cert.KernelIdeal.Gen

section
variable (m : (ℓ : Loc nD τ sig) → Buf (Elt Ideal) ℓ) (ρ : Dev nD → PrngReg)

/-- Layer `l` over the devices' blocks of whole weights is the layer over the whole weights. -/
theorem full_eq (l : ℕ) (W : (⟨2, ![128, 4096]⟩ : Shape).Idx → Ideal .f32) (V : (⟨2, ![4096, 128]⟩ : Shape).Idx → Ideal .f32)
    (hW : ∀ c : Dev nD, wi m ρ c l = Layout.block ⟨2, ![128, 256]⟩ ⟨2, ![128, 4096]⟩ 1 16 c W)
    (hV : ∀ c : Dev nD, wo m ρ c l = Layout.block ⟨2, ![256, 128]⟩ ⟨2, ![4096, 128]⟩ 0 16 c V)
    (X : (⟨2, ![128, 128]⟩ : Shape).Idx → Ideal .f32) (R k : Fin 128) :
    full m ρ (fun R i => X (ix2 R i)) l R k = lay X W V (ix2 R k) := by
  rw [lay_apply, layer_units]
  refine Finset.sum_congr rfl fun c _ => ?_
  unfold share
  rw [hW c, hV c]
  refine congrArg₂ (fun a b => layer _ a b k) (funext fun i => funext fun j => congrArg W ?_) (funext fun j => funext fun k => congrArg V ?_)
  · funext a
    match a with
    | ⟨0, _⟩ => rfl
    | ⟨1, _⟩ => rfl
  · funext a
    match a with
    | ⟨0, _⟩ => rfl
    | ⟨1, _⟩ => rfl

/-! The staged inputs are the arguments. -/

/-- The staged `x` is the first argument. -/
theorem st0_eq (c : Dev nD) : st0 m ρ c = m ((c : Thread nD τ).loc main_arg0) :=
  Memref.read_access_unit_zero (Elt Ideal) main_arg0 (funext fun a => by fin_cases a <;> decide) (fun a => by fin_cases a <;> decide) _
/-- The staged first weights of layer 0 are the second argument. -/
theorem st1_eq (c : Dev nD) : st1 m ρ c = m ((c : Thread nD τ).loc main_arg1) :=
  Memref.read_access_unit_zero (Elt Ideal) main_arg1 (funext fun a => by fin_cases a <;> decide) (fun a => by fin_cases a <;> decide) _
/-- The staged second weights of layer 0 are the fifth argument. -/
theorem st2_eq (c : Dev nD) : st2 m ρ c = m ((c : Thread nD τ).loc main_arg4) :=
  Memref.read_access_unit_zero (Elt Ideal) main_arg4 (funext fun a => by fin_cases a <;> decide) (fun a => by fin_cases a <;> decide) _
/-- The staged first weights of layer 1 are the third argument. -/
theorem st3_eq (c : Dev nD) : st3 m ρ c = m ((c : Thread nD τ).loc main_arg2) :=
  Memref.read_access_unit_zero (Elt Ideal) main_arg2 (funext fun a => by fin_cases a <;> decide) (fun a => by fin_cases a <;> decide) _
/-- The staged second weights of layer 1 are the sixth argument. -/
theorem st4_eq (c : Dev nD) : st4 m ρ c = m ((c : Thread nD τ).loc main_arg5) :=
  Memref.read_access_unit_zero (Elt Ideal) main_arg5 (funext fun a => by fin_cases a <;> decide) (fun a => by fin_cases a <;> decide) _
/-- The staged first weights of layer 2 are the fourth argument. -/
theorem st5_eq (c : Dev nD) : st5 m ρ c = m ((c : Thread nD τ).loc main_arg3) :=
  Memref.read_access_unit_zero (Elt Ideal) main_arg3 (funext fun a => by fin_cases a <;> decide) (fun a => by fin_cases a <;> decide) _
/-- The staged second weights of layer 2 are the seventh argument. -/
theorem st6_eq (c : Dev nD) : st6 m ρ c = m ((c : Thread nD τ).loc main_arg6) :=
  Memref.read_access_unit_zero (Elt Ideal) main_arg6 (funext fun a => by fin_cases a <;> decide) (fun a => by fin_cases a <;> decide) _

end

/-- Each device's result is its eight rows of the reference's result, when the devices hold their parts of the reference's arguments. -/
theorem algebraic : Cert.algebraic_KernelIdeal_ReferenceIdeal (hKernelIdeal := Cert.KernelIdeal.Gen.facts)
    (hReferenceIdeal := Cert.ReferenceIdeal.Gen.facts) := by
  intro m ρ m' ρ' _ h
  refine ⟨_, (θ_run Cert.KernelIdeal.defs _ _).mono (fun _ g c => ⟨(g.1 c).1.trans ?_, (g.1 c).2⟩) (run_args (F := Ideal) m ρ),
    (θ_run Cert.ReferenceIdeal.defs _ _).mono (fun _ g => g 0) (Cert.ReferenceIdeal.Value.run (F := Ideal) m' ρ')⟩
  funext i
  obtain ⟨r, k, rfl⟩ : ∃ (r : Fin 8) (k : Fin 128), i = ix2 r k := ⟨i 0, i 1, eq_ix2 i⟩
  refine (outC_apply m ρ _ (fun c R i => congrFun ((st0_eq m ρ c).trans (h c).1) (ix2 R i)) c r k).trans ?_
  have e0 := full_eq m ρ 0 _ _ (fun c => (st1_eq m ρ c).trans (h c).2.1) (fun c => (st2_eq m ρ c).trans (h c).2.2.2.2.1)
  have e1 := full_eq m ρ 1 _ _ (fun c => (st3_eq m ρ c).trans (h c).2.2.1) (fun c => (st4_eq m ρ c).trans (h c).2.2.2.2.2.1)
  have e2 := full_eq m ρ 2 _ _ (fun c => (st5_eq m ρ c).trans (h c).2.2.2.1) (fun c => (st6_eq m ρ c).trans (h c).2.2.2.2.2.2)
  have E0 := funext fun R => funext fun k => e0 (m' (((0 : Dev Cert.ReferenceIdeal.nD).tc : Thread Cert.ReferenceIdeal.nD Cert.ReferenceIdeal.τ).loc Cert.ReferenceIdeal.main_arg0)) R k
  have E1 := (congrArg (fun X => full m ρ X 1) E0).trans (funext fun R => funext fun k => e1 _ R k)
  refine ((congrFun (congrFun (congrArg (fun X => full m ρ X 2) E1) (rowO c r)) k).trans (e2 _ (rowO c r) k)).trans ?_
  refine congrArg (lay _ _ _) ?_
  funext a
  match a with
  | ⟨0, _⟩ => rfl
  | ⟨1, _⟩ => rfl

end Mlp
-- ==== Proof.lean ====
/- The certificate: the frames of the two programs, the kernel and the reference
   (Proof/Frames.lean), and the equation of their results over the extended reals (Proof/Algebra.lean). -/
module

public import proofs.«01_k».proof.Defs
public import proofs.«01_k».proof.Proof.Algebra

@[expose] public section

noncomputable section

namespace Cert.Proof

/-- The claim, from its parts. -/
theorem claim : Cert.Claim := ⟨Cert.Kernel.Gen.facts, Cert.KernelIdeal.Gen.facts, Cert.ReferenceIdeal.Gen.facts,
  Mlp.frame_kernel, Mlp.frame_ideal, Mlp.frame_reference, trivial, Mlp.algebraic⟩

end Cert.Proof

end
